-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S4096x50 : Shape := ⟨2, ![4096, 50]⟩
abbrev S100000x64 : Shape := ⟨2, ![100000, 64]⟩
abbrev S256x64 : Shape := ⟨2, ![256, 64]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x64 .f32) (main_arg2 : FVec F S256x64 .f32) (main_arg3 : FVec F S256x256 .f32) (main_arg4 : FVec F S256 .f32) (main_arg5 : FVec F S256 .f32) (main_arg6 : FVec F S1000x256 .f32) (main_arg7 : FVec F S1000 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x64 : Shape := ⟨2, ![100000, 64]⟩
abbrev S256x64 : Shape := ⟨2, ![256, 64]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S50x4096 : Shape := ⟨2, ![50, 4096]⟩
abbrev S1x204800 : Shape := ⟨2, ![1, 204800]⟩
abbrev S_ : Shape := ⟨0, ![]⟩
abbrev S100000x128 : Shape := ⟨2, ![100000, 128]⟩
abbrev S64x256 : Shape := ⟨2, ![64, 256]⟩
abbrev S128x256 : Shape := ⟨2, ![128, 256]⟩
abbrev S1x256 : Shape := ⟨2, ![1, 256]⟩
abbrev S4096x256 : Shape := ⟨2, ![4096, 256]⟩
abbrev S1x40960 : Shape := ⟨2, ![1, 40960]⟩
abbrev S40960 : Shape := ⟨1, ![40960]⟩
abbrev S40960x128 : Shape := ⟨2, ![40960, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S10x4096x128 : Shape := ⟨3, ![10, 4096, 128]⟩
abbrev S10x512x128 : Shape := ⟨3, ![10, 512, 128]⟩
abbrev S512x256 : Shape := ⟨2, ![512, 256]⟩
abbrev S5120x128 : Shape := ⟨2, ![5120, 128]⟩
abbrev S5120x256 : Shape := ⟨2, ![5120, 256]⟩
abbrev S10x512x256 : Shape := ⟨3, ![10, 512, 256]⟩
abbrev S1x1x256 : Shape := ⟨3, ![1, 1, 256]⟩
abbrev S1x512x256 : Shape := ⟨3, ![1, 512, 256]⟩
abbrev S256x1000 : Shape := ⟨2, ![256, 1000]⟩
abbrev S1x1000 : Shape := ⟨2, ![1, 1000]⟩
abbrev S4096x1000 : Shape := ⟨2, ![4096, 1000]⟩
abbrev S512x1000 : Shape := ⟨2, ![512, 1000]⟩

abbrev nBuf : Table → Nat
  | .hbm => 58
  | .local .tc .vmem => 47
  | .local .scVector .vmem => 10
  | _ => 0

abbrev bufTy : (tb : Table) → Fin (nBuf tb) → BufTy
  | .hbm, ⟨0, _⟩ => ⟨S4096x50, .i32⟩
  | .hbm, ⟨1, _⟩ => ⟨S100000x64, .f32⟩
  | .hbm, ⟨2, _⟩ => ⟨S256x64, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000, .f32⟩
  | .hbm, ⟨8, _⟩ => ⟨S50x4096, .i32⟩
  | .hbm, ⟨9, _⟩ => ⟨S1x204800, .i32⟩
  | .hbm, ⟨10, _⟩ => ⟨S_, .f32⟩
  | .hbm, ⟨11, _⟩ => ⟨S100000x64, .f32⟩
  | .hbm, ⟨12, _⟩ => ⟨S100000x128, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S128x256, .f32⟩
  | .hbm, ⟨17, _⟩ => ⟨S256, .f32⟩
  | .hbm, ⟨18, _⟩ => ⟨S1x256, .f32⟩
  | .hbm, ⟨19, _⟩ => ⟨S_, .f32⟩
  | .hbm, ⟨20, _⟩ => ⟨S4096x256, .f32⟩
  | .hbm, ⟨21, _⟩ => ⟨S1x40960, .i32⟩
  | .hbm, ⟨22, _⟩ => ⟨S40960, .i32⟩
  | .hbm, ⟨23, _⟩ => ⟨S1x40960, .i32⟩
  | .hbm, ⟨24, _⟩ => ⟨S40960x128, .f32⟩
  | .hbm, ⟨25, _⟩ => ⟨S10x4096x128, .f32⟩
  | .hbm, ⟨26, _⟩ => ⟨S256x256, .f32⟩
  | .hbm, ⟨27, _⟩ => ⟨S4096x256, .f32⟩
  | .hbm, ⟨28, _⟩ => ⟨S1x40960, .i32⟩
  | .hbm, ⟨29, _⟩ => ⟨S40960, .i32⟩
  | .hbm, ⟨30, _⟩ => ⟨S1x40960, .i32⟩
  | .hbm, ⟨31, _⟩ => ⟨S40960x128, .f32⟩
  | .hbm, ⟨32, _⟩ => ⟨S10x4096x128, .f32⟩
  | .hbm, ⟨33, _⟩ => ⟨S256x256, .f32⟩
  | .hbm, ⟨34, _⟩ => ⟨S4096x256, .f32⟩
  | .hbm, ⟨35, _⟩ => ⟨S1x40960, .i32⟩
  | .hbm, ⟨36, _⟩ => ⟨S40960, .i32⟩
  | .hbm, ⟨37, _⟩ => ⟨S1x40960, .i32⟩
  | .hbm, ⟨38, _⟩ => ⟨S40960x128, .f32⟩
  | .hbm, ⟨39, _⟩ => ⟨S10x4096x128, .f32⟩
  | .hbm, ⟨40, _⟩ => ⟨S256x256, .f32⟩
  | .hbm, ⟨41, _⟩ => ⟨S4096x256, .f32⟩
  | .hbm, ⟨42, _⟩ => ⟨S1x40960, .i32⟩
  | .hbm, ⟨43, _⟩ => ⟨S40960, .i32⟩
  | .hbm, ⟨44, _⟩ => ⟨S1x40960, .i32⟩
  | .hbm, ⟨45, _⟩ => ⟨S40960x128, .f32⟩
  | .hbm, ⟨46, _⟩ => ⟨S10x4096x128, .f32⟩
  | .hbm, ⟨47, _⟩ => ⟨S256x256, .f32⟩
  | .hbm, ⟨48, _⟩ => ⟨S4096x256, .f32⟩
  | .hbm, ⟨49, _⟩ => ⟨S1x40960, .i32⟩
  | .hbm, ⟨50, _⟩ => ⟨S40960, .i32⟩
  | .hbm, ⟨51, _⟩ => ⟨S1x40960, .i32⟩
  | .hbm, ⟨52, _⟩ => ⟨S40960x128, .f32⟩
  | .hbm, ⟨53, _⟩ => ⟨S10x4096x128, .f32⟩
  | .hbm, ⟨54, _⟩ => ⟨S256x256, .f32⟩
  | .hbm, ⟨55, _⟩ => ⟨S256x1000, .f32⟩
  | .hbm, ⟨56, _⟩ => ⟨S1x1000, .f32⟩
  | .hbm, ⟨57, _⟩ => ⟨S4096x1000, .f32⟩
  | .local .tc .vmem, ⟨0, _⟩ => ⟨S10x512x128, .f32⟩
  | .local .tc .vmem, ⟨1, _⟩ => ⟨S10x512x128, .f32⟩
  | .local .tc .vmem, ⟨2, _⟩ => ⟨S512x256, .f32⟩
  | .local .tc .vmem, ⟨3, _⟩ => ⟨S512x256, .f32⟩
  | .local .tc .vmem, ⟨4, _⟩ => ⟨S128x256, .f32⟩
  | .local .tc .vmem, ⟨5, _⟩ => ⟨S256x256, .f32⟩
  | .local .tc .vmem, ⟨6, _⟩ => ⟨S1x256, .f32⟩
  | .local .tc .vmem, ⟨7, _⟩ => ⟨S512x256, .f32⟩
  | .local .tc .vmem, ⟨8, _⟩ => ⟨S512x256, .f32⟩
  | .local .tc .vmem, ⟨9, _⟩ => ⟨S10x512x128, .f32⟩
  | .local .tc .vmem, ⟨10, _⟩ => ⟨S10x512x128, .f32⟩
  | .local .tc .vmem, ⟨11, _⟩ => ⟨S512x256, .f32⟩
  | .local .tc .vmem, ⟨12, _⟩ => ⟨S512x256, .f32⟩
  | .local .tc .vmem, ⟨13, _⟩ => ⟨S128x256, .f32⟩
  | .local .tc .vmem, ⟨14, _⟩ => ⟨S256x256, .f32⟩
  | .local .tc .vmem, ⟨15, _⟩ => ⟨S1x256, .f32⟩
  | .local .tc .vmem, ⟨16, _⟩ => ⟨S512x256, .f32⟩
  | .local .tc .vmem, ⟨17, _⟩ => ⟨S512x256, .f32⟩
  | .local .tc .vmem, ⟨18, _⟩ => ⟨S10x512x128, .f32⟩
  | .local .tc .vmem, ⟨19, _⟩ => ⟨S10x512x128, .f32⟩
  | .local .tc .vmem, ⟨20, _⟩ => ⟨S512x256, .f32⟩
  | .local .tc .vmem, ⟨21, _⟩ => ⟨S512x256, .f32⟩
  | .local .tc .vmem, ⟨22, _⟩ => ⟨S128x256, .f32⟩
  | .local .tc .vmem, ⟨23, _⟩ => ⟨S256x256, .f32⟩
  | .local .tc .vmem, ⟨24, _⟩ => ⟨S1x256, .f32⟩
  | .local .tc .vmem, ⟨25, _⟩ => ⟨S512x256, .f32⟩
  | .local .tc .vmem, ⟨26, _⟩ => ⟨S512x256, .f32⟩
  | .local .tc .vmem, ⟨27, _⟩ => ⟨S10x512x128, .f32⟩
  | .local .tc .vmem, ⟨28, _⟩ => ⟨S10x512x128, .f32⟩
  | .local .tc .vmem, ⟨29, _⟩ => ⟨S512x256, .f32⟩
  | .local .tc .vmem, ⟨30, _⟩ => ⟨S512x256, .f32⟩
  | .local .tc .vmem, ⟨31, _⟩ => ⟨S128x256, .f32⟩
  | .local .tc .vmem, ⟨32, _⟩ => ⟨S256x256, .f32⟩
  | .local .tc .vmem, ⟨33, _⟩ => ⟨S1x256, .f32⟩
  | .local .tc .vmem, ⟨34, _⟩ => ⟨S512x256, .f32⟩
  | .local .tc .vmem, ⟨35, _⟩ => ⟨S512x256, .f32⟩
  | .local .tc .vmem, ⟨36, _⟩ => ⟨S10x512x128, .f32⟩
  | .local .tc .vmem, ⟨37, _⟩ => ⟨S10x512x128, .f32⟩
  | .local .tc .vmem, ⟨38, _⟩ => ⟨S512x256, .f32⟩
  | .local .tc .vmem, ⟨39, _⟩ => ⟨S512x256, .f32⟩
  | .local .tc .vmem, ⟨40, _⟩ => ⟨S128x256, .f32⟩
  | .local .tc .vmem, ⟨41, _⟩ => ⟨S256x256, .f32⟩
  | .local .tc .vmem, ⟨42, _⟩ => ⟨S1x256, .f32⟩
  | .local .tc .vmem, ⟨43, _⟩ => ⟨S256x1000, .f32⟩
  | .local .tc .vmem, ⟨44, _⟩ => ⟨S1x1000, .f32⟩
  | .local .tc .vmem, ⟨45, _⟩ => ⟨S512x1000, .f32⟩
  | .local .tc .vmem, ⟨46, _⟩ => ⟨S512x1000, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | .local .scVector .vmem, ⟨8, _⟩ => ⟨S2x1x128, .i32⟩
  | .local .scVector .vmem, ⟨9, _⟩ => ⟨S2x128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 72 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => false
  | ⟨32, _⟩ => false
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => false
  | ⟨57, _⟩ => false
  | ⟨58, _⟩ => false
  | ⟨59, _⟩ => false
  | ⟨60, _⟩ => false
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTables nBuf rfl bufTy 4 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v3_scv : Ref sig .scVector := ⟨.hbm, 12, rfl⟩
abbrev main_v12_scv : Ref sig .scVector := ⟨.hbm, 23, rfl⟩
abbrev main_v13_scv : Ref sig .scVector := ⟨.hbm, 24, rfl⟩
abbrev main_v19_scv : Ref sig .scVector := ⟨.hbm, 30, rfl⟩
abbrev main_v20_scv : Ref sig .scVector := ⟨.hbm, 31, rfl⟩
abbrev main_v26_scv : Ref sig .scVector := ⟨.hbm, 37, rfl⟩
abbrev main_v27_scv : Ref sig .scVector := ⟨.hbm, 38, rfl⟩
abbrev main_v33_scv : Ref sig .scVector := ⟨.hbm, 44, rfl⟩
abbrev main_v34_scv : Ref sig .scVector := ⟨.hbm, 45, rfl⟩
abbrev main_v40_scv : Ref sig .scVector := ⟨.hbm, 51, rfl⟩
abbrev main_v41_scv : Ref sig .scVector := ⟨.hbm, 52, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg4_0 : Ref sig .tc := ⟨.vmem, 15, rfl⟩
abbrev cc3_stg5_0 : Ref sig .tc := ⟨.vmem, 16, rfl⟩
abbrev cc3_stg5_1 : Ref sig .tc := ⟨.vmem, 17, rfl⟩
abbrev cc5_stg0_0 : Ref sig .tc := ⟨.vmem, 18, rfl⟩
abbrev cc5_stg0_1 : Ref sig .tc := ⟨.vmem, 19, rfl⟩
abbrev cc5_stg1_0 : Ref sig .tc := ⟨.vmem, 20, rfl⟩
abbrev cc5_stg1_1 : Ref sig .tc := ⟨.vmem, 21, rfl⟩
abbrev cc5_stg2_0 : Ref sig .tc := ⟨.vmem, 22, rfl⟩
abbrev cc5_stg3_0 : Ref sig .tc := ⟨.vmem, 23, rfl⟩
abbrev cc5_stg4_0 : Ref sig .tc := ⟨.vmem, 24, rfl⟩
abbrev cc5_stg5_0 : Ref sig .tc := ⟨.vmem, 25, rfl⟩
abbrev cc5_stg5_1 : Ref sig .tc := ⟨.vmem, 26, rfl⟩
abbrev cc7_stg0_0 : Ref sig .tc := ⟨.vmem, 27, rfl⟩
abbrev cc7_stg0_1 : Ref sig .tc := ⟨.vmem, 28, rfl⟩
abbrev cc7_stg1_0 : Ref sig .tc := ⟨.vmem, 29, rfl⟩
abbrev cc7_stg1_1 : Ref sig .tc := ⟨.vmem, 30, rfl⟩
abbrev cc7_stg2_0 : Ref sig .tc := ⟨.vmem, 31, rfl⟩
abbrev cc7_stg3_0 : Ref sig .tc := ⟨.vmem, 32, rfl⟩
abbrev cc7_stg4_0 : Ref sig .tc := ⟨.vmem, 33, rfl⟩
abbrev cc7_stg5_0 : Ref sig .tc := ⟨.vmem, 34, rfl⟩
abbrev cc7_stg5_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc9_stg2_0 : Ref sig .tc := ⟨.vmem, 40, rfl⟩
abbrev cc9_stg3_0 : Ref sig .tc := ⟨.vmem, 41, rfl⟩
abbrev cc9_stg4_0 : Ref sig .tc := ⟨.vmem, 42, rfl⟩
abbrev cc9_stg5_0 : Ref sig .tc := ⟨.vmem, 43, rfl⟩
abbrev cc9_stg6_0 : Ref sig .tc := ⟨.vmem, 44, rfl⟩
abbrev cc9_stg7_0 : Ref sig .tc := ⟨.vmem, 45, rfl⟩
abbrev cc9_stg7_1 : Ref sig .tc := ⟨.vmem, 46, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc6_scoped0 : Ref sig .scVector := ⟨.vmem, 6, rfl⟩
abbrev cc6_scoped2 : Ref sig .scVector := ⟨.vmem, 7, rfl⟩
abbrev cc8_scoped0 : Ref sig .scVector := ⟨.vmem, 8, rfl⟩
abbrev cc8_scoped2 : Ref sig .scVector := ⟨.vmem, 9, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem6_0 : DmaSem sig := 69
abbrev cc9_sem7_0 : DmaSem sig := 70
abbrev cc9_sem7_1 : DmaSem sig := 71
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x40960.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x40960.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S40960x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S40960x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x40960.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x40960.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S40960x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S40960x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S40960x128.size a)
theorem k0_off19_inb : ∀ (i : grid0.Coords) (v33_4_r0 : BitVec 32) (k0_hw5 : k0_chk5 i v33_4_r0), ∀ a, (k0_off19 i v33_4_r0) a + S128x128.size a ≤ S40960x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k2_off2 (i : grid2.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k2_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k2_off5 (i : grid2.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k2_off6 (arg6_r0 : BitVec 32) : Fin 1 → Nat :=
  let c2_i32_99_r0 : BitVec 32 := 2#32
  let v144_r0 : BitVec 32 := Scalar.remui arg6_r0 c2_i32_99_r0
  ![v144_r0.toNat]
def k2_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k2_off8 (i : grid2.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k2_off9 (arg7_r0 : BitVec 32) : Fin 1 → Nat :=
  let c2_i32_100_r0 : BitVec 32 := 2#32
  let v145_r0 : BitVec 32 := Scalar.remui arg7_r0 c2_i32_100_r0
  ![v145_r0.toNat]
def k2_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k2_chk2 (arg8_r0 : BitVec 32) : Prop :=
  (∀ a, (k2_off10 arg8_r0) a + S1x128x128.size a ≤ S2x128x128.size a)
theorem k2_off10_inb : ∀ (arg8_r0 : BitVec 32) (k2_hw2 : k2_chk2 arg8_r0), ∀ a, (k2_off10 arg8_r0) a + S1x128x128.size a ≤ S2x128x128.size a := fun arg8_r0 k2_hw2 => k2_hw2

def k2_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k2_off13 (i : grid2.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k2_off14 (arg8_r0 : BitVec 32) : Fin 1 → Nat :=
  let c2_i32_99_r0 : BitVec 32 := 2#32
  let v144_r0 : BitVec 32 := Scalar.remui arg8_r0 c2_i32_99_r0
  ![v144_r0.toNat]
def k2_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k2_off16 (i : grid2.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k2_off17 (arg9_r0 : BitVec 32) : Fin 1 → Nat :=
  let c2_i32_99_r0 : BitVec 32 := 2#32
  let v144_r0 : BitVec 32 := Scalar.remui arg9_r0 c2_i32_99_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1x40960.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1x40960.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x128.size a ≤ S2x128x128.size a) ∧
  (∀ (k2_h5 : k2_cond5 i k2_t1 arg10_r0 = 1#1), ∀ a, (k2_off13 i arg10_r0) a + S128x128.size a ≤ S40960x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x128.size a ≤ S2x128x128.size a) ∧
  (∀ (k2_h7 : k2_cond7 i k2_t1 arg10_r0 = 1#1), ∀ a, (k2_off16 i arg10_r0) a + S128x128.size a ≤ S40960x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1x40960.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1x40960.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x128.size a ≤ S2x128x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x128.size a ≤ S40960x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x128.size a ≤ S2x128x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x128.size a ≤ S40960x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k2_off19 (i : grid2.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k2_chk5 (i : grid2.Coords) (v33_4_r0 : BitVec 32) : Prop :=
  (∀ a, (k2_off19 i v33_4_r0) a + S128x128.size a ≤ S40960x128.size a)
theorem k2_off19_inb : ∀ (i : grid2.Coords) (v33_4_r0 : BitVec 32) (k2_hw5 : k2_chk5 i v33_4_r0), ∀ a, (k2_off19 i v33_4_r0) a + S128x128.size a ≤ S40960x128.size a := fun i v33_4_r0 k2_hw5 => k2_hw5

def k2_off20 (v33_3_r0 : BitVec 32) : Fin 1 → Nat :=
  let c2_i32_46_r0 : BitVec 32 := 2#32
  let v54_r0 : BitVec 32 := Scalar.remui v33_3_r0 c2_i32_46_r0
  ![v54_r0.toNat]
def k2_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k2_chk4 (v33_3_r0 : BitVec 32) : Prop :=
  (∀ a, (k2_off18 v33_3_r0) a + S1x128x128.size a ≤ S2x128x128.size a) ∧
  (∀ a, (k2_off20 v33_3_r0) a + S1.size a ≤ S2.size a) ∧
  (∀ a, (k2_off21 v33_3_r0) a + S1x128x128.size a ≤ S2x128x128.size a)
theorem k2_off18_inb : ∀ (v33_3_r0 : BitVec 32) (k2_hw4 : k2_chk4 v33_3_r0), ∀ a, (k2_off18 v33_3_r0) a + S1x128x128.size a ≤ S2x128x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x128x128.size a ≤ S2x128x128.size a := fun v33_3_r0 k2_hw4 => k2_hw4.2.2

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10x512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def k4_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k4_off2 (i : grid4.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k4_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k4_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k4_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k4_off5 (i : grid4.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k4_off6 (arg6_r0 : BitVec 32) : Fin 1 → Nat :=
  let c2_i32_99_r0 : BitVec 32 := 2#32
  let v144_r0 : BitVec 32 := Scalar.remui arg6_r0 c2_i32_99_r0
  ![v144_r0.toNat]
def k4_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k4_off8 (i : grid4.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k4_off9 (arg7_r0 : BitVec 32) : Fin 1 → Nat :=
  let c2_i32_100_r0 : BitVec 32 := 2#32
  let v145_r0 : BitVec 32 := Scalar.remui arg7_r0 c2_i32_100_r0
  ![v145_r0.toNat]
def k4_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k4_off13 (i : grid4.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k4_off14 (arg8_r0 : BitVec 32) : Fin 1 → Nat :=
  let c2_i32_99_r0 : BitVec 32 := 2#32
  let v144_r0 : BitVec 32 := Scalar.remui arg8_r0 c2_i32_99_r0
  ![v144_r0.toNat]
def k4_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k4_off16 (i : grid4.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k4_off17 (arg9_r0 : BitVec 32) : Fin 1 → Nat :=
  let c2_i32_99_r0 : BitVec 32 := 2#32
  let v144_r0 : BitVec 32 := Scalar.remui arg9_r0 c2_i32_99_r0
  ![v144_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1x40960.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1x40960.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S40960x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S40960x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1x40960.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1x40960.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S40960x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S40960x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k4_off19 (i : grid4.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k4_chk5 (i : grid4.Coords) (v33_4_r0 : BitVec 32) : Prop :=
  (∀ a, (k4_off19 i v33_4_r0) a + S128x128.size a ≤ S40960x128.size a)
theorem k4_off19_inb : ∀ (i : grid4.Coords) (v33_4_r0 : BitVec 32) (k4_hw5 : k4_chk5 i v33_4_r0), ∀ a, (k4_off19 i v33_4_r0) a + S128x128.size a ≤ S40960x128.size a := fun i v33_4_r0 k4_hw5 => k4_hw5

def k4_off20 (v33_3_r0 : BitVec 32) : Fin 1 → Nat :=
  let c2_i32_46_r0 : BitVec 32 := 2#32
  let v54_r0 : BitVec 32 := Scalar.remui v33_3_r0 c2_i32_46_r0
  ![v54_r0.toNat]
def k4_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k4_chk4 (v33_3_r0 : BitVec 32) : Prop :=
  (∀ a, (k4_off18 v33_3_r0) a + S1x128x128.size a ≤ S2x128x128.size a) ∧
  (∀ a, (k4_off20 v33_3_r0) a + S1.size a ≤ S2.size a) ∧
  (∀ a, (k4_off21 v33_3_r0) a + S1x128x128.size a ≤ S2x128x128.size a)
theorem k4_off18_inb : ∀ (v33_3_r0 : BitVec 32) (k4_hw4 : k4_chk4 v33_3_r0), ∀ a, (k4_off18 v33_3_r0) a + S1x128x128.size a ≤ S2x128x128.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x128x128.size a ≤ S2x128x128.size a := fun v33_3_r0 k4_hw4 => k4_hw4.2.2

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10x512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def k6_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k6_off2 (i : grid6.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k6_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k6_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k6_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k6_cond1 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k6_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k6_off5 (i : grid6.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k6_off6 (arg6_r0 : BitVec 32) : Fin 1 → Nat :=
  let c2_i32_99_r0 : BitVec 32 := 2#32
  let v144_r0 : BitVec 32 := Scalar.remui arg6_r0 c2_i32_99_r0
  ![v144_r0.toNat]
def k6_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k6_cond2 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k6_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k6_off8 (i : grid6.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k6_off9 (arg7_r0 : BitVec 32) : Fin 1 → Nat :=
  let c2_i32_100_r0 : BitVec 32 := 2#32
  let v145_r0 : BitVec 32 := Scalar.remui arg7_r0 c2_i32_100_r0
  ![v145_r0.toNat]
def k6_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k6_chk2 (arg8_r0 : BitVec 32) : Prop :=
  (∀ a, (k6_off10 arg8_r0) a + S1x128x128.size a ≤ S2x128x128.size a)
theorem k6_off10_inb : ∀ (arg8_r0 : BitVec 32) (k6_hw2 : k6_chk2 arg8_r0), ∀ a, (k6_off10 arg8_r0) a + S1x128x128.size a ≤ S2x128x128.size a := fun arg8_r0 k6_hw2 => k6_hw2

def k6_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k6_chk3 (arg7_r0 : BitVec 32) : Prop :=
  (∀ a, (k6_off11 arg7_r0) a + S1x1x128.size a ≤ S2x1x128.size a)
theorem k6_off11_inb : ∀ (arg7_r0 : BitVec 32) (k6_hw3 : k6_chk3 arg7_r0), ∀ a, (k6_off11 arg7_r0) a + S1x1x128.size a ≤ S2x1x128.size a := fun arg7_r0 k6_hw3 => k6_hw3

def k6_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k6_cond5 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k6_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k6_off13 (i : grid6.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k6_off14 (arg8_r0 : BitVec 32) : Fin 1 → Nat :=
  let c2_i32_99_r0 : BitVec 32 := 2#32
  let v144_r0 : BitVec 32 := Scalar.remui arg8_r0 c2_i32_99_r0
  ![v144_r0.toNat]
def k6_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k6_cond7 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k6_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k6_off16 (i : grid6.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k6_off17 (arg9_r0 : BitVec 32) : Fin 1 → Nat :=
  let c2_i32_99_r0 : BitVec 32 := 2#32
  let v144_r0 : BitVec 32 := Scalar.remui arg9_r0 c2_i32_99_r0
  ![v144_r0.toNat]

def k6_chk1 (i : grid6.Coords) (k6_t1 : Fin k6_t1_loop.trips) (arg6_r0 : BitVec 32) (arg7_r0 : BitVec 32) (arg8_r0 : BitVec 32) (arg9_r0 : BitVec 32) (arg10_r0 : BitVec 32) : Prop :=
  (∀ (k6_h1 : k6_cond1 i k6_t1 arg10_r0 = 1#1), ∀ a, (k6_off4 arg6_r0) a + S1x1x128.size a ≤ S2x1x128.size a) ∧
  (∀ (k6_h1 : k6_cond1 i k6_t1 arg10_r0 = 1#1), ∀ a, (k6_off5 i arg10_r0) a + S1x128.size a ≤ S1x40960.size a) ∧
  (∀ (k6_h1 : k6_cond1 i k6_t1 arg10_r0 = 1#1), ∀ a, (k6_off6 arg6_r0) a + S1.size a ≤ S2.size a) ∧
  (∀ (k6_h2 : k6_cond2 i k6_t1 arg10_r0 = 1#1), ∀ a, (k6_off7 arg7_r0) a + S1x1x128.size a ≤ S2x1x128.size a) ∧
  (∀ (k6_h2 : k6_cond2 i k6_t1 arg10_r0 = 1#1), ∀ a, (k6_off8 i arg10_r0) a + S1x128.size a ≤ S1x40960.size a) ∧
  (∀ (k6_h2 : k6_cond2 i k6_t1 arg10_r0 = 1#1), ∀ a, (k6_off9 arg7_r0) a + S1.size a ≤ S2.size a) ∧
  (∀ (k6_h5 : k6_cond5 i k6_t1 arg10_r0 = 1#1), ∀ a, (k6_off12 arg8_r0) a + S1x128x128.size a ≤ S2x128x128.size a) ∧
  (∀ (k6_h5 : k6_cond5 i k6_t1 arg10_r0 = 1#1), ∀ a, (k6_off13 i arg10_r0) a + S128x128.size a ≤ S40960x128.size a) ∧
  (∀ (k6_h5 : k6_cond5 i k6_t1 arg10_r0 = 1#1), ∀ a, (k6_off14 arg8_r0) a + S1.size a ≤ S2.size a) ∧
  (∀ (k6_h7 : k6_cond7 i k6_t1 arg10_r0 = 1#1), ∀ a, (k6_off15 arg9_r0) a + S1x128x128.size a ≤ S2x128x128.size a) ∧
  (∀ (k6_h7 : k6_cond7 i k6_t1 arg10_r0 = 1#1), ∀ a, (k6_off16 i arg10_r0) a + S128x128.size a ≤ S40960x128.size a) ∧
  (∀ (k6_h7 : k6_cond7 i k6_t1 arg10_r0 = 1#1), ∀ a, (k6_off17 arg9_r0) a + S1.size a ≤ S2.size a)
theorem k6_off4_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off4 arg6_r0) a + S1x1x128.size a ≤ S2x1x128.size a := fun i k6_t1 arg6_r0 arg7_r0 arg8_r0 arg9_r0 arg10_r0 k6_hw1 k6_h1 => k6_hw1.1 k6_h1
theorem k6_off5_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off5 i arg10_r0) a + S1x128.size a ≤ S1x40960.size a := fun i k6_t1 arg6_r0 arg7_r0 arg8_r0 arg9_r0 arg10_r0 k6_hw1 k6_h1 => k6_hw1.2.1 k6_h1
theorem k6_off6_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off6 arg6_r0) a + S1.size a ≤ S2.size a := fun i k6_t1 arg6_r0 arg7_r0 arg8_r0 arg9_r0 arg10_r0 k6_hw1 k6_h1 => k6_hw1.2.2.1 k6_h1
theorem k6_off7_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off7 arg7_r0) a + S1x1x128.size a ≤ S2x1x128.size a := fun i k6_t1 arg6_r0 arg7_r0 arg8_r0 arg9_r0 arg10_r0 k6_hw1 k6_h2 => k6_hw1.2.2.2.1 k6_h2
theorem k6_off8_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off8 i arg10_r0) a + S1x128.size a ≤ S1x40960.size a := fun i k6_t1 arg6_r0 arg7_r0 arg8_r0 arg9_r0 arg10_r0 k6_hw1 k6_h2 => k6_hw1.2.2.2.2.1 k6_h2
theorem k6_off9_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off9 arg7_r0) a + S1.size a ≤ S2.size a := fun i k6_t1 arg6_r0 arg7_r0 arg8_r0 arg9_r0 arg10_r0 k6_hw1 k6_h2 => k6_hw1.2.2.2.2.2.1 k6_h2
theorem k6_off12_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off12 arg8_r0) a + S1x128x128.size a ≤ S2x128x128.size a := fun i k6_t1 arg6_r0 arg7_r0 arg8_r0 arg9_r0 arg10_r0 k6_hw1 k6_h5 => k6_hw1.2.2.2.2.2.2.1 k6_h5
theorem k6_off13_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off13 i arg10_r0) a + S128x128.size a ≤ S40960x128.size a := fun i k6_t1 arg6_r0 arg7_r0 arg8_r0 arg9_r0 arg10_r0 k6_hw1 k6_h5 => k6_hw1.2.2.2.2.2.2.2.1 k6_h5
theorem k6_off14_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off14 arg8_r0) a + S1.size a ≤ S2.size a := fun i k6_t1 arg6_r0 arg7_r0 arg8_r0 arg9_r0 arg10_r0 k6_hw1 k6_h5 => k6_hw1.2.2.2.2.2.2.2.2.1 k6_h5
theorem k6_off15_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off15 arg9_r0) a + S1x128x128.size a ≤ S2x128x128.size a := fun i k6_t1 arg6_r0 arg7_r0 arg8_r0 arg9_r0 arg10_r0 k6_hw1 k6_h7 => k6_hw1.2.2.2.2.2.2.2.2.2.1 k6_h7
theorem k6_off16_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off16 i arg10_r0) a + S128x128.size a ≤ S40960x128.size a := fun i k6_t1 arg6_r0 arg7_r0 arg8_r0 arg9_r0 arg10_r0 k6_hw1 k6_h7 => k6_hw1.2.2.2.2.2.2.2.2.2.2.1 k6_h7
theorem k6_off17_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off17 arg9_r0) a + S1.size a ≤ S2.size a := fun i k6_t1 arg6_r0 arg7_r0 arg8_r0 arg9_r0 arg10_r0 k6_hw1 k6_h7 => k6_hw1.2.2.2.2.2.2.2.2.2.2.2 k6_h7

def k6_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k6_off19 (i : grid6.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k6_chk5 (i : grid6.Coords) (v33_4_r0 : BitVec 32) : Prop :=
  (∀ a, (k6_off19 i v33_4_r0) a + S128x128.size a ≤ S40960x128.size a)
theorem k6_off19_inb : ∀ (i : grid6.Coords) (v33_4_r0 : BitVec 32) (k6_hw5 : k6_chk5 i v33_4_r0), ∀ a, (k6_off19 i v33_4_r0) a + S128x128.size a ≤ S40960x128.size a := fun i v33_4_r0 k6_hw5 => k6_hw5

def k6_off20 (v33_3_r0 : BitVec 32) : Fin 1 → Nat :=
  let c2_i32_46_r0 : BitVec 32 := 2#32
  let v54_r0 : BitVec 32 := Scalar.remui v33_3_r0 c2_i32_46_r0
  ![v54_r0.toNat]
def k6_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k6_chk4 (v33_3_r0 : BitVec 32) : Prop :=
  (∀ a, (k6_off18 v33_3_r0) a + S1x128x128.size a ≤ S2x128x128.size a) ∧
  (∀ a, (k6_off20 v33_3_r0) a + S1.size a ≤ S2.size a) ∧
  (∀ a, (k6_off21 v33_3_r0) a + S1x128x128.size a ≤ S2x128x128.size a)
theorem k6_off18_inb : ∀ (v33_3_r0 : BitVec 32) (k6_hw4 : k6_chk4 v33_3_r0), ∀ a, (k6_off18 v33_3_r0) a + S1x128x128.size a ≤ S2x128x128.size a := fun v33_3_r0 k6_hw4 => k6_hw4.1
theorem k6_off20_inb : ∀ (v33_3_r0 : BitVec 32) (k6_hw4 : k6_chk4 v33_3_r0), ∀ a, (k6_off20 v33_3_r0) a + S1.size a ≤ S2.size a := fun v33_3_r0 k6_hw4 => k6_hw4.2.1
theorem k6_off21_inb : ∀ (v33_3_r0 : BitVec 32) (k6_hw4 : k6_chk4 v33_3_r0), ∀ a, (k6_off21 v33_3_r0) a + S1x128x128.size a ≤ S2x128x128.size a := fun v33_3_r0 k6_hw4 => k6_hw4.2.2

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10x512x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨2, ![2, 16], ![false, false]⟩

def k8_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k8_off2 (i : grid8.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k8_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k8_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k8_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k8_cond1 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k8_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k8_off5 (i : grid8.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k8_off6 (arg6_r0 : BitVec 32) : Fin 1 → Nat :=
  let c2_i32_99_r0 : BitVec 32 := 2#32
  let v144_r0 : BitVec 32 := Scalar.remui arg6_r0 c2_i32_99_r0
  ![v144_r0.toNat]
def k8_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k8_cond2 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k8_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k8_off8 (i : grid8.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k8_off9 (arg7_r0 : BitVec 32) : Fin 1 → Nat :=
  let c2_i32_100_r0 : BitVec 32 := 2#32
  let v145_r0 : BitVec 32 := Scalar.remui arg7_r0 c2_i32_100_r0
  ![v145_r0.toNat]
def k8_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k8_chk2 (arg8_r0 : BitVec 32) : Prop :=
  (∀ a, (k8_off10 arg8_r0) a + S1x128x128.size a ≤ S2x128x128.size a)
theorem k8_off10_inb : ∀ (arg8_r0 : BitVec 32) (k8_hw2 : k8_chk2 arg8_r0), ∀ a, (k8_off10 arg8_r0) a + S1x128x128.size a ≤ S2x128x128.size a := fun arg8_r0 k8_hw2 => k8_hw2

def k8_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k8_chk3 (arg7_r0 : BitVec 32) : Prop :=
  (∀ a, (k8_off11 arg7_r0) a + S1x1x128.size a ≤ S2x1x128.size a)
theorem k8_off11_inb : ∀ (arg7_r0 : BitVec 32) (k8_hw3 : k8_chk3 arg7_r0), ∀ a, (k8_off11 arg7_r0) a + S1x1x128.size a ≤ S2x1x128.size a := fun arg7_r0 k8_hw3 => k8_hw3

def k8_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k8_cond5 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k8_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k8_off13 (i : grid8.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k8_off14 (arg8_r0 : BitVec 32) : Fin 1 → Nat :=
  let c2_i32_99_r0 : BitVec 32 := 2#32
  let v144_r0 : BitVec 32 := Scalar.remui arg8_r0 c2_i32_99_r0
  ![v144_r0.toNat]
def k8_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k8_cond7 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k8_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k8_off16 (i : grid8.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k8_off17 (arg9_r0 : BitVec 32) : Fin 1 → Nat :=
  let c2_i32_99_r0 : BitVec 32 := 2#32
  let v144_r0 : BitVec 32 := Scalar.remui arg9_r0 c2_i32_99_r0
  ![v144_r0.toNat]

def k8_chk1 (i : grid8.Coords) (k8_t1 : Fin k8_t1_loop.trips) (arg6_r0 : BitVec 32) (arg7_r0 : BitVec 32) (arg8_r0 : BitVec 32) (arg9_r0 : BitVec 32) (arg10_r0 : BitVec 32) : Prop :=
  (∀ (k8_h1 : k8_cond1 i k8_t1 arg10_r0 = 1#1), ∀ a, (k8_off4 arg6_r0) a + S1x1x128.size a ≤ S2x1x128.size a) ∧
  (∀ (k8_h1 : k8_cond1 i k8_t1 arg10_r0 = 1#1), ∀ a, (k8_off5 i arg10_r0) a + S1x128.size a ≤ S1x40960.size a) ∧
  (∀ (k8_h1 : k8_cond1 i k8_t1 arg10_r0 = 1#1), ∀ a, (k8_off6 arg6_r0) a + S1.size a ≤ S2.size a) ∧
  (∀ (k8_h2 : k8_cond2 i k8_t1 arg10_r0 = 1#1), ∀ a, (k8_off7 arg7_r0) a + S1x1x128.size a ≤ S2x1x128.size a) ∧
  (∀ (k8_h2 : k8_cond2 i k8_t1 arg10_r0 = 1#1), ∀ a, (k8_off8 i arg10_r0) a + S1x128.size a ≤ S1x40960.size a) ∧
  (∀ (k8_h2 : k8_cond2 i k8_t1 arg10_r0 = 1#1), ∀ a, (k8_off9 arg7_r0) a + S1.size a ≤ S2.size a) ∧
  (∀ (k8_h5 : k8_cond5 i k8_t1 arg10_r0 = 1#1), ∀ a, (k8_off12 arg8_r0) a + S1x128x128.size a ≤ S2x128x128.size a) ∧
  (∀ (k8_h5 : k8_cond5 i k8_t1 arg10_r0 = 1#1), ∀ a, (k8_off13 i arg10_r0) a + S128x128.size a ≤ S40960x128.size a) ∧
  (∀ (k8_h5 : k8_cond5 i k8_t1 arg10_r0 = 1#1), ∀ a, (k8_off14 arg8_r0) a + S1.size a ≤ S2.size a) ∧
  (∀ (k8_h7 : k8_cond7 i k8_t1 arg10_r0 = 1#1), ∀ a, (k8_off15 arg9_r0) a + S1x128x128.size a ≤ S2x128x128.size a) ∧
  (∀ (k8_h7 : k8_cond7 i k8_t1 arg10_r0 = 1#1), ∀ a, (k8_off16 i arg10_r0) a + S128x128.size a ≤ S40960x128.size a) ∧
  (∀ (k8_h7 : k8_cond7 i k8_t1 arg10_r0 = 1#1), ∀ a, (k8_off17 arg9_r0) a + S1.size a ≤ S2.size a)
theorem k8_off4_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off4 arg6_r0) a + S1x1x128.size a ≤ S2x1x128.size a := fun i k8_t1 arg6_r0 arg7_r0 arg8_r0 arg9_r0 arg10_r0 k8_hw1 k8_h1 => k8_hw1.1 k8_h1
theorem k8_off5_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off5 i arg10_r0) a + S1x128.size a ≤ S1x40960.size a := fun i k8_t1 arg6_r0 arg7_r0 arg8_r0 arg9_r0 arg10_r0 k8_hw1 k8_h1 => k8_hw1.2.1 k8_h1
theorem k8_off6_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off6 arg6_r0) a + S1.size a ≤ S2.size a := fun i k8_t1 arg6_r0 arg7_r0 arg8_r0 arg9_r0 arg10_r0 k8_hw1 k8_h1 => k8_hw1.2.2.1 k8_h1
theorem k8_off7_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off7 arg7_r0) a + S1x1x128.size a ≤ S2x1x128.size a := fun i k8_t1 arg6_r0 arg7_r0 arg8_r0 arg9_r0 arg10_r0 k8_hw1 k8_h2 => k8_hw1.2.2.2.1 k8_h2
theorem k8_off8_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off8 i arg10_r0) a + S1x128.size a ≤ S1x40960.size a := fun i k8_t1 arg6_r0 arg7_r0 arg8_r0 arg9_r0 arg10_r0 k8_hw1 k8_h2 => k8_hw1.2.2.2.2.1 k8_h2
theorem k8_off9_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off9 arg7_r0) a + S1.size a ≤ S2.size a := fun i k8_t1 arg6_r0 arg7_r0 arg8_r0 arg9_r0 arg10_r0 k8_hw1 k8_h2 => k8_hw1.2.2.2.2.2.1 k8_h2
theorem k8_off12_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off12 arg8_r0) a + S1x128x128.size a ≤ S2x128x128.size a := fun i k8_t1 arg6_r0 arg7_r0 arg8_r0 arg9_r0 arg10_r0 k8_hw1 k8_h5 => k8_hw1.2.2.2.2.2.2.1 k8_h5
theorem k8_off13_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off13 i arg10_r0) a + S128x128.size a ≤ S40960x128.size a := fun i k8_t1 arg6_r0 arg7_r0 arg8_r0 arg9_r0 arg10_r0 k8_hw1 k8_h5 => k8_hw1.2.2.2.2.2.2.2.1 k8_h5
theorem k8_off14_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off14 arg8_r0) a + S1.size a ≤ S2.size a := fun i k8_t1 arg6_r0 arg7_r0 arg8_r0 arg9_r0 arg10_r0 k8_hw1 k8_h5 => k8_hw1.2.2.2.2.2.2.2.2.1 k8_h5
theorem k8_off15_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off15 arg9_r0) a + S1x128x128.size a ≤ S2x128x128.size a := fun i k8_t1 arg6_r0 arg7_r0 arg8_r0 arg9_r0 arg10_r0 k8_hw1 k8_h7 => k8_hw1.2.2.2.2.2.2.2.2.2.1 k8_h7
theorem k8_off16_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off16 i arg10_r0) a + S128x128.size a ≤ S40960x128.size a := fun i k8_t1 arg6_r0 arg7_r0 arg8_r0 arg9_r0 arg10_r0 k8_hw1 k8_h7 => k8_hw1.2.2.2.2.2.2.2.2.2.2.1 k8_h7
theorem k8_off17_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off17 arg9_r0) a + S1.size a ≤ S2.size a := fun i k8_t1 arg6_r0 arg7_r0 arg8_r0 arg9_r0 arg10_r0 k8_hw1 k8_h7 => k8_hw1.2.2.2.2.2.2.2.2.2.2.2 k8_h7

def k8_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k8_off19 (i : grid8.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k8_chk5 (i : grid8.Coords) (v33_4_r0 : BitVec 32) : Prop :=
  (∀ a, (k8_off19 i v33_4_r0) a + S128x128.size a ≤ S40960x128.size a)
theorem k8_off19_inb : ∀ (i : grid8.Coords) (v33_4_r0 : BitVec 32) (k8_hw5 : k8_chk5 i v33_4_r0), ∀ a, (k8_off19 i v33_4_r0) a + S128x128.size a ≤ S40960x128.size a := fun i v33_4_r0 k8_hw5 => k8_hw5

def k8_off20 (v33_3_r0 : BitVec 32) : Fin 1 → Nat :=
  let c2_i32_46_r0 : BitVec 32 := 2#32
  let v54_r0 : BitVec 32 := Scalar.remui v33_3_r0 c2_i32_46_r0
  ![v54_r0.toNat]
def k8_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k8_chk4 (v33_3_r0 : BitVec 32) : Prop :=
  (∀ a, (k8_off18 v33_3_r0) a + S1x128x128.size a ≤ S2x128x128.size a) ∧
  (∀ a, (k8_off20 v33_3_r0) a + S1.size a ≤ S2.size a) ∧
  (∀ a, (k8_off21 v33_3_r0) a + S1x128x128.size a ≤ S2x128x128.size a)
theorem k8_off18_inb : ∀ (v33_3_r0 : BitVec 32) (k8_hw4 : k8_chk4 v33_3_r0), ∀ a, (k8_off18 v33_3_r0) a + S1x128x128.size a ≤ S2x128x128.size a := fun v33_3_r0 k8_hw4 => k8_hw4.1
theorem k8_off20_inb : ∀ (v33_3_r0 : BitVec 32) (k8_hw4 : k8_chk4 v33_3_r0), ∀ a, (k8_off20 v33_3_r0) a + S1.size a ≤ S2.size a := fun v33_3_r0 k8_hw4 => k8_hw4.2.1
theorem k8_off21_inb : ∀ (v33_3_r0 : BitVec 32) (k8_hw4 : k8_chk4 v33_3_r0), ∀ a, (k8_off21 v33_3_r0) a + S1x128x128.size a ≤ S2x128x128.size a := fun v33_3_r0 k8_hw4 => k8_hw4.2.2

abbrev grid9 : Pipeline.Grid := ⟨1, ![8], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10x512x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x1000 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1000 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S512x1000 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S4096x50 : Shape := ⟨2, ![4096, 50]⟩
abbrev S100000x64 : Shape := ⟨2, ![100000, 64]⟩
abbrev S256x64 : Shape := ⟨2, ![256, 64]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x256 : Shape := ⟨2, ![4096, 256]⟩
abbrev S50x4096x64 : Shape := ⟨3, ![50, 4096, 64]⟩
abbrev S1x4096x64 : Shape := ⟨3, ![1, 4096, 64]⟩
abbrev S4096x64 : Shape := ⟨2, ![4096, 64]⟩
abbrev S64x256 : Shape := ⟨2, ![64, 256]⟩
abbrev S1x256 : Shape := ⟨2, ![1, 256]⟩
abbrev S256x1000 : Shape := ⟨2, ![256, 1000]⟩
abbrev S4096x1000 : Shape := ⟨2, ![4096, 1000]⟩
abbrev S1x1000 : Shape := ⟨2, ![1, 1000]⟩

abbrev nBuf : Space → Nat
  | .hbm => 67
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x64, .f32⟩
  | .hbm, ⟨2, _⟩ => ⟨S256x64, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000, .f32⟩
  | .hbm, ⟨8, _⟩ => ⟨S_, .i32⟩
  | .hbm, ⟨9, _⟩ => ⟨S4096x50, .i32⟩
  | .hbm, ⟨10, _⟩ => ⟨S4096x50, .i1⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S4096x50, .i32⟩
  | .hbm, ⟨15, _⟩ => ⟨S4096x50x1, .i32⟩
  | .hbm, ⟨16, _⟩ => ⟨S1, .i32⟩
  | .hbm, ⟨17, _⟩ => ⟨S_, .i32⟩
  | .hbm, ⟨18, _⟩ => ⟨S4096x50x1, .i32⟩
  | .hbm, ⟨19, _⟩ => ⟨S4096x50x1, .i1⟩
  | .hbm, ⟨20, _⟩ => ⟨S1x1x1, .i32⟩
  | .hbm, ⟨21, _⟩ => ⟨S4096x50x1, .i32⟩
  | .hbm, ⟨22, _⟩ => ⟨S4096x50x1, .i1⟩
  | .hbm, ⟨23, _⟩ => ⟨S4096x50x1, .i1⟩
  | .hbm, ⟨24, _⟩ => ⟨S_, .i1⟩
  | .hbm, ⟨25, _⟩ => ⟨S4096x50, .i1⟩
  | .hbm, ⟨26, _⟩ => ⟨S4096x50x64, .f32⟩
  | .hbm, ⟨27, _⟩ => ⟨S4096x50x64, .i1⟩
  | .hbm, ⟨28, _⟩ => ⟨S_, .f32⟩
  | .hbm, ⟨29, _⟩ => ⟨S4096x50x64, .f32⟩
  | .hbm, ⟨30, _⟩ => ⟨S4096x50x64, .f32⟩
  | .hbm, ⟨31, _⟩ => ⟨S_, .f32⟩
  | .hbm, ⟨32, _⟩ => ⟨S4096x256, .f32⟩
  | .hbm, ⟨33, _⟩ => ⟨S50x4096x64, .f32⟩
  | .hbm, ⟨34, _⟩ => ⟨S_, .i32⟩
  | .hbm, ⟨35, _⟩ => ⟨S50x4096x64, .f32⟩
  | .hbm, ⟨36, _⟩ => ⟨S256x64, .f32⟩
  | .hbm, ⟨37, _⟩ => ⟨S256, .f32⟩
  | .hbm, ⟨38, _⟩ => ⟨S256x256, .f32⟩
  | .hbm, ⟨39, _⟩ => ⟨S256, .f32⟩
  | .hbm, ⟨40, _⟩ => ⟨S_, .i32⟩
  | .hbm, ⟨41, _⟩ => ⟨S4096x256, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S1x4096x64, .f32⟩
  | .hbm, ⟨47, _⟩ => ⟨S4096x64, .f32⟩
  | .hbm, ⟨48, _⟩ => ⟨S64x256, .f32⟩
  | .hbm, ⟨49, _⟩ => ⟨S4096x256, .f32⟩
  | .hbm, ⟨50, _⟩ => ⟨S1x256, .f32⟩
  | .hbm, ⟨51, _⟩ => ⟨S4096x256, .f32⟩
  | .hbm, ⟨52, _⟩ => ⟨S4096x256, .f32⟩
  | .hbm, ⟨53, _⟩ => ⟨S256x256, .f32⟩
  | .hbm, ⟨54, _⟩ => ⟨S4096x256, .f32⟩
  | .hbm, ⟨55, _⟩ => ⟨S4096x256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S_, .i32⟩
  | .hbm, ⟨61, _⟩ => ⟨S_, .i32⟩
  | .hbm, ⟨62, _⟩ => ⟨S256x1000, .f32⟩
  | .hbm, ⟨63, _⟩ => ⟨S4096x1000, .f32⟩
  | .hbm, ⟨64, _⟩ => ⟨S1x1000, .f32⟩
  | .hbm, ⟨65, _⟩ => ⟨S4096x1000, .f32⟩
  | .hbm, ⟨66, _⟩ => ⟨S4096x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_c : Ref sig .tc := ⟨.hbm, 34, rfl⟩
abbrev main_v3_0 : Ref sig .tc := ⟨.hbm, 35, rfl⟩
abbrev main_v3_1 : Ref sig .tc := ⟨.hbm, 36, rfl⟩
abbrev main_v3_2 : Ref sig .tc := ⟨.hbm, 37, rfl⟩
abbrev main_v3_3 : Ref sig .tc := ⟨.hbm, 38, rfl⟩
abbrev main_v3_4 : Ref sig .tc := ⟨.hbm, 39, rfl⟩
abbrev main_v3_5 : Ref sig .tc := ⟨.hbm, 40, rfl⟩
abbrev main_v3_6 : Ref sig .tc := ⟨.hbm, 41, rfl⟩
abbrev main_while0c_c_6 : Ref sig .tc := ⟨.hbm, 42, rfl⟩
abbrev main_while0c_v9 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v9 : Ref sig .tc := ⟨.hbm, 47, rfl⟩
abbrev main_while0b_v10 : Ref sig .tc := ⟨.hbm, 48, rfl⟩
abbrev main_while0b_v11 : Ref sig .tc := ⟨.hbm, 49, rfl⟩
abbrev main_while0b_v12 : Ref sig .tc := ⟨.hbm, 50, rfl⟩
abbrev main_while0b_v13 : Ref sig .tc := ⟨.hbm, 51, rfl⟩
abbrev main_while0b_v14 : Ref sig .tc := ⟨.hbm, 52, rfl⟩
abbrev main_while0b_v15 : Ref sig .tc := ⟨.hbm, 53, rfl⟩
abbrev main_while0b_v16 : Ref sig .tc := ⟨.hbm, 54, rfl⟩
abbrev main_while0b_v17 : Ref sig .tc := ⟨.hbm, 55, rfl⟩
abbrev main_while0b_v18 : Ref sig .tc := ⟨.hbm, 56, rfl⟩
abbrev main_while0b_v19 : Ref sig .tc := ⟨.hbm, 57, rfl⟩
abbrev main_while0b_v20 : Ref sig .tc := ⟨.hbm, 58, rfl⟩
abbrev main_while0b_v21 : Ref sig .tc := ⟨.hbm, 59, rfl⟩
abbrev main_while0b_c_6 : Ref sig .tc := ⟨.hbm, 60, rfl⟩
abbrev main_while0b_v22 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩

abbrev nD : Nat := 1
abbrev τ : Topo := Topo.v7x

variable {F : FTy → Type} [FloatOps F]

abbrev main_while0_count : Scf.Loop 32 := ⟨0#32, 50#32, 1#32⟩
-- ==== Proof.Same.lean ====
module

public import proofs.«01_k».proof.KernelIdeal
public import proofs.«01_k».proof.Proof.Gen.KernelIdeal.Skeleton

@[expose] public section

noncomputable section

/-!
The five SparseCore calls run one text. Each of the later gather kernels equals the first, so what is proved of the
first, for any arrays, buffers and semaphores, holds of all five.
-/

namespace Cert.KernelIdeal.Proof

open Idealize.ShloMosaic Idealize.SL Idealize.SL.Sem

variable {F : FTy → Type} [FloatOps F]

/-- The second call's kernel is the first's. -/
theorem gather2_eq : cc2_gather_kernel (F := F) = cc0_gather_kernel (F := F) := rfl
/-- The third call's kernel is the first's. -/
theorem gather4_eq : cc4_gather_kernel (F := F) = cc0_gather_kernel (F := F) := rfl
/-- The fourth call's kernel is the first's. -/
theorem gather6_eq : cc6_gather_kernel (F := F) = cc0_gather_kernel (F := F) := rfl
/-- The fifth call's kernel is the first's. -/
theorem gather8_eq : cc8_gather_kernel (F := F) = cc0_gather_kernel (F := F) := rfl

end Cert.KernelIdeal.Proof
-- ==== Proof.Offsets.lean ====
/-
  The numbers the gather kernel computes, in closed form. Tile `(a, b)` (SparseCore `a`, subcore `b`) handles the ten
  blocks of 128 rows from block `10 (16 a + b)` on. Before trip `t` of its loop it carries five words (`w6` … `w10`),
  and every offset, condition and check of the trip is a function of them.
-/
module

public import proofs.«01_k».proof.Proof.Same

@[expose] public section

noncomputable section

namespace Cert.KernelIdeal.Proof

open Idealize.ShloMosaic

/-- The grid coordinates of SparseCore `a`, subcore `b`. -/
def coords (a : Fin (grid0.bound 0)) (b : Fin (grid0.bound 1)) : grid0.Coords :=
  fun | 0 => a | 1 => b | ⟨_ + 2, h⟩ => absurd h (Nat.not_lt.2 (Nat.le_add_left _ _))

/-- The block of 128 rows tile `(a, b)` handles on trip `t`. -/
def blk (a : Fin (grid0.bound 0)) (b : Fin (grid0.bound 1)) (t : ℕ) : ℕ := 10 * (16 * a.val + b.val) + t

/-- The words the loop carries before trip `t`. -/
def w6 (t : ℕ) : BitVec 32 := BitVec.ofNat 32 (min (t + 1) 10)
def w7 (t : ℕ) : BitVec 32 := BitVec.ofNat 32 t
def w9 (t : ℕ) : BitVec 32 := BitVec.ofNat 32 (t - 1)
def w10 (t : ℕ) : BitVec 32 := BitVec.ofNat 32 (t % 10)

theorem trips_eq : k0_t1_loop.trips = 10 := by decide +kernel

variable (a : Fin (grid0.bound 0)) (b : Fin (grid0.bound 1)) (t : Fin k0_t1_loop.trips)

theorem blk_lt (n : ℕ) (hn : n < 10) : blk a b n < 320 := by
  have ha : a.val < 2 := a.isLt
  have hb : b.val < 16 := b.isLt
  unfold blk; omega

theorem off1_eq : k0_off1 = ![0, 0, 0] := by decide +kernel
theorem off2_eq : k0_off2 (coords a b) = ![0, 128 * blk a b 0] := by revert a b; decide +kernel
theorem off3_eq : k0_off3 = ![0] := by decide +kernel
theorem cond1_iff : k0_cond1 (coords a b) t (w10 t) = 1#1 ↔ t.val < 9 := by revert a b t; decide +kernel
theorem off4_eq (h : t.val < 9) : k0_off4 (w6 t) = ![(t.val + 1) % 2, 0, 0] := by revert t; decide +kernel
theorem off5_eq (h : t.val < 9) : k0_off5 (coords a b) (w10 t) = ![0, 128 * blk a b (t.val + 1)] := by
  revert a b t; decide +kernel
theorem off6_eq (h : t.val < 9) : k0_off6 (w6 t) = ![(t.val + 1) % 2] := by revert t; decide +kernel
theorem cond2_eq : k0_cond2 (coords a b) t (w10 t) = 1#1 := by revert a b t; decide +kernel
theorem off7_eq : k0_off7 (w7 t) = ![t.val % 2, 0, 0] := by revert t; decide +kernel
theorem off8_eq : k0_off8 (coords a b) (w10 t) = ![0, 128 * blk a b t.val] := by revert a b t; decide +kernel
theorem off9_eq : k0_off9 (w7 t) = ![t.val % 2] := by revert t; decide +kernel
theorem off10_eq : k0_off10 (w7 t) = ![t.val % 2, 0, 0] := by revert t; decide +kernel
theorem off11_eq : k0_off11 (w7 t) = ![t.val % 2, 0, 0] := by revert t; decide +kernel
theorem off12_eq : k0_off12 (w7 t) = ![t.val % 2, 0, 0] := by revert t; decide +kernel
theorem cond5_eq : k0_cond5 (coords a b) t (w10 t) = 1#1 := by revert a b t; decide +kernel
theorem off13_eq : k0_off13 (coords a b) (w10 t) = ![128 * blk a b t.val, 0] := by revert a b t; decide +kernel
theorem off14_eq : k0_off14 (w7 t) = ![t.val % 2] := by revert t; decide +kernel
theorem cond7_iff : k0_cond7 (coords a b) t (w10 t) = 1#1 ↔ 1 ≤ t.val := by revert a b t; decide +kernel
theorem off15_eq : k0_off15 (w9 t) = ![(t.val - 1) % 2, 0, 0] := by revert t; decide +kernel
theorem off16_eq (h : 1 ≤ t.val) : k0_off16 (coords a b) (w10 t) = ![128 * blk a b (t.val - 1), 0] := by
  revert a b t; decide +kernel
theorem off17_eq : k0_off17 (w9 t) = ![(t.val - 1) % 2] := by revert t; decide +kernel
theorem off19_eq : k0_off19 (coords a b) (w10 10) = ![128 * blk a b 9, 0] := by revert a b; decide +kernel
theorem off20_eq : k0_off20 (w9 10) = ![1] := by decide +kernel
theorem off21_eq : k0_off21 (w9 10) = ![1, 0, 0] := by decide +kernel

theorem chk1_ok : k0_chk1 (coords a b) t (w6 t) (w7 t) (w7 t) (w9 t) (w10 t) := by
  revert a b t; decide +kernel
theorem chk2_ok : k0_chk2 (w7 t) := by revert t; decide +kernel
theorem chk3_ok : k0_chk3 (w7 t) := by revert t; decide +kernel
theorem chk4_ok : k0_chk4 (w9 10) := by decide +kernel
theorem chk5_ok : k0_chk5 (coords a b) (w10 10) := by revert a b; decide +kernel

end Cert.KernelIdeal.Proof
-- ==== Proof.Base.lean ====
/-
  The setting of the proof: the program as the SparseCore launch theorem sees it, the resource algebra (the handshakes'
  rounds, the pipelines' rounds, the transfers' counters) and the names of the threads.
-/
module

public import proofs.«01_k».proof.Proof.Offsets
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdxCore
public import Idealize.ShloMosaic.Lib.ValueLayout
public import proofs.«01_k».proof.Proof.Gen.KernelIdeal
public import proofs.«01_k».proof.Proof.Gen.KernelIdeal.Launch

@[expose] public section

noncomputable section

namespace Cert.KernelIdeal.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The pipelines' labels beside the kernel's. -/
abbrev ΛP : Labels := Pipeline.Sig Λ₀ (Fin 5) fun p => (pcfgs (F := F) p).Adm
/-- The SparseCore launch configuration of the printed program. -/
abbrev K : SparseCore.Cfg τ sig (ΛP (F := F)) 5 := sc (F := F)
/-- The definitions under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 5) : (K (F := F)).nSub q = 16 := by
  match q with | 0 => rfl | 1 => rfl | 2 => rfl | 3 => rfl | 4 => rfl
theorem nCore_eq (q : Fin 5) : (K (F := F)).nCore q = 2 := by
  match q with | 0 => rfl | 1 => rfl | 2 => rfl | 3 => rfl | 4 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun q => by match q with | 0 => rfl | 1 => rfl | 2 => rfl | 3 => rfl | 4 => rfl⟩

/-- The handshakes' rounds. -/
abbrev UH : Type := URounds (GSem nD τ sig) ℕ
/-- The pipelines' rounds. -/
abbrev UP : Type := UR sig nD τ
abbrev UU : Type := UH × (UP × Counters)

abbrev EH : Emb UH (MT nD τ sig (HIx 5) (Elt F) ℕ UU ℕ) := embL
abbrev EP : Emb UP (MT nD τ sig (HIx 5) (Elt F) ℕ UU ℕ) := (Emb.inl : Emb UP (UP × Counters)).trans embR

end Cert.KernelIdeal.Proof
-- ==== Proof.HostOps.lean ====
/-
  The host's operations, in the stretches between the kernel calls, and @main as those stretches and the calls in turn.
-/
module

public import proofs.«01_k».proof.Proof.Base

@[expose] public section

noncomputable section

namespace Cert.KernelIdeal.Proof

open Idealize.ShloMosaic
open Idealize.SL.Sem
open Facts₀ Facts

variable {F : FTy → Type} [FloatOps F]

/-- A stretch of the host's operations. -/
def ops0 : List (HloOp τ sig (Elt F)) := [
  StableHlo.unary main_arg0 main_v0 ((transpose S50x4096 [1, 0] · transposes_S4096x50_S50x4096_1_0) : (⟨S4096x50, .i32⟩ : BufTy).Contents (Elt F) → (⟨S50x4096, .i32⟩ : BufTy).Contents (Elt F)),
  StableHlo.reshape main_v0 main_v1 (rfl : (.i32 : EltTy) = .i32) shapeCasts_S50x4096_S1x204800,
  StableHlo.nullary main_cst (constant S_ .f32 0x00000000#32),
  StableHlo.unary main_cst main_v2 (broadcastInDim S100000x64 ![] bcast_S_S100000x64 : (⟨S_, .f32⟩ : BufTy).Contents (Elt F) → (⟨S100000x64, .f32⟩ : BufTy).Contents (Elt F)),
  StableHlo.binary main_arg1 main_v2 main_v3 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.unary main_arg2 main_v4 ((transpose S64x256 [1, 0] · transposes_S256x64_S64x256_1_0) : (⟨S256x64, .f32⟩ : BufTy).Contents (Elt F) → (⟨S64x256, .f32⟩ : BufTy).Contents (Elt F)),
  StableHlo.nullary main_cst_0 (constant S_ .f32 0x00000000#32),
  StableHlo.unary main_cst_0 main_v5 (broadcastInDim S64x256 ![] bcast_S_S64x256 : (⟨S_, .f32⟩ : BufTy).Contents (Elt F) → (⟨S64x256, .f32⟩ : BufTy).Contents (Elt F)),
  StableHlo.binary main_v4 main_v5 main_v6 ((fun a b => concatenate S128x256 0 [⟨S64x256, a⟩, ⟨S64x256, b⟩] concatenates_S64x256_S64x256_S128x256_d0) : (⟨S64x256, .f32⟩ : BufTy).Contents (Elt F) → (⟨S64x256, .f32⟩ : BufTy).Contents (Elt F) → (⟨S128x256, .f32⟩ : BufTy).Contents (Elt F)),
  StableHlo.binary main_arg4 main_arg5 main_v7 (addf : (⟨S256, .f32⟩ : BufTy).Contents (Elt F) → (⟨S256, .f32⟩ : BufTy).Contents (Elt F) → (⟨S256, .f32⟩ : BufTy).Contents (Elt F)),
  StableHlo.reshape main_v7 main_v8 (rfl : (.f32 : EltTy) = .f32) shapeCasts_S256_S1x256,
  StableHlo.nullary main_cst_1 (constant S_ .f32 0x00000000#32),
  StableHlo.unary main_cst_1 main_v9 (broadcastInDim S4096x256 ![] bcast_S_S4096x256 : (⟨S_, .f32⟩ : BufTy).Contents (Elt F) → (⟨S4096x256, .f32⟩ : BufTy).Contents (Elt F)),
  StableHlo.unary main_v1 main_v10 ((extractStridedSlice S1x40960 ![0, 0] · slices_S1x204800_S1x40960_0_0) : (⟨S1x204800, .i32⟩ : BufTy).Contents (Elt F) → (⟨S1x40960, .i32⟩ : BufTy).Contents (Elt F)),
  StableHlo.reshape main_v10 main_v11 (rfl : (.i32 : EltTy) = .i32) shapeCasts_S1x40960_S40960,
  StableHlo.reshape main_v11 main_v12 (rfl : (.i32 : EltTy) = .i32) shapeCasts_S40960_S1x40960]

/-- A stretch of the host's operations. -/
def ops1 : List (HloOp τ sig (Elt F)) := [
  StableHlo.reshape main_v13 main_v14 (rfl : (.f32 : EltTy) = .f32) shapeCasts_S40960x128_S10x4096x128,
  StableHlo.unary main_arg3 main_v15 ((transpose S256x256 [1, 0] · transposes_S256x256_S256x256_1_0) : (⟨S256x256, .f32⟩ : BufTy).Contents (Elt F) → (⟨S256x256, .f32⟩ : BufTy).Contents (Elt F))]

/-- A stretch of the host's operations. -/
def ops2 : List (HloOp τ sig (Elt F)) := [
  StableHlo.unary main_v1 main_v17 ((extractStridedSlice S1x40960 ![0, 40960] · slices_S1x204800_S1x40960_0_40960) : (⟨S1x204800, .i32⟩ : BufTy).Contents (Elt F) → (⟨S1x40960, .i32⟩ : BufTy).Contents (Elt F)),
  StableHlo.reshape main_v17 main_v18 (rfl : (.i32 : EltTy) = .i32) shapeCasts_S1x40960_S40960,
  StableHlo.reshape main_v18 main_v19 (rfl : (.i32 : EltTy) = .i32) shapeCasts_S40960_S1x40960]

/-- A stretch of the host's operations. -/
def ops3 : List (HloOp τ sig (Elt F)) := [
  StableHlo.reshape main_v20 main_v21 (rfl : (.f32 : EltTy) = .f32) shapeCasts_S40960x128_S10x4096x128,
  StableHlo.unary main_arg3 main_v22 ((transpose S256x256 [1, 0] · transposes_S256x256_S256x256_1_0) : (⟨S256x256, .f32⟩ : BufTy).Contents (Elt F) → (⟨S256x256, .f32⟩ : BufTy).Contents (Elt F))]

/-- A stretch of the host's operations. -/
def ops4 : List (HloOp τ sig (Elt F)) := [
  StableHlo.unary main_v1 main_v24 ((extractStridedSlice S1x40960 ![0, 81920] · slices_S1x204800_S1x40960_0_81920) : (⟨S1x204800, .i32⟩ : BufTy).Contents (Elt F) → (⟨S1x40960, .i32⟩ : BufTy).Contents (Elt F)),
  StableHlo.reshape main_v24 main_v25 (rfl : (.i32 : EltTy) = .i32) shapeCasts_S1x40960_S40960,
  StableHlo.reshape main_v25 main_v26 (rfl : (.i32 : EltTy) = .i32) shapeCasts_S40960_S1x40960]

/-- A stretch of the host's operations. -/
def ops5 : List (HloOp τ sig (Elt F)) := [
  StableHlo.reshape main_v27 main_v28 (rfl : (.f32 : EltTy) = .f32) shapeCasts_S40960x128_S10x4096x128,
  StableHlo.unary main_arg3 main_v29 ((transpose S256x256 [1, 0] · transposes_S256x256_S256x256_1_0) : (⟨S256x256, .f32⟩ : BufTy).Contents (Elt F) → (⟨S256x256, .f32⟩ : BufTy).Contents (Elt F))]

/-- A stretch of the host's operations. -/
def ops6 : List (HloOp τ sig (Elt F)) := [
  StableHlo.unary main_v1 main_v31 ((extractStridedSlice S1x40960 ![0, 122880] · slices_S1x204800_S1x40960_0_122880) : (⟨S1x204800, .i32⟩ : BufTy).Contents (Elt F) → (⟨S1x40960, .i32⟩ : BufTy).Contents (Elt F)),
  StableHlo.reshape main_v31 main_v32 (rfl : (.i32 : EltTy) = .i32) shapeCasts_S1x40960_S40960,
  StableHlo.reshape main_v32 main_v33 (rfl : (.i32 : EltTy) = .i32) shapeCasts_S40960_S1x40960]

/-- A stretch of the host's operations. -/
def ops7 : List (HloOp τ sig (Elt F)) := [
  StableHlo.reshape main_v34 main_v35 (rfl : (.f32 : EltTy) = .f32) shapeCasts_S40960x128_S10x4096x128,
  StableHlo.unary main_arg3 main_v36 ((transpose S256x256 [1, 0] · transposes_S256x256_S256x256_1_0) : (⟨S256x256, .f32⟩ : BufTy).Contents (Elt F) → (⟨S256x256, .f32⟩ : BufTy).Contents (Elt F))]

/-- A stretch of the host's operations. -/
def ops8 : List (HloOp τ sig (Elt F)) := [
  StableHlo.unary main_v1 main_v38 ((extractStridedSlice S1x40960 ![0, 163840] · slices_S1x204800_S1x40960_0_163840) : (⟨S1x204800, .i32⟩ : BufTy).Contents (Elt F) → (⟨S1x40960, .i32⟩ : BufTy).Contents (Elt F)),
  StableHlo.reshape main_v38 main_v39 (rfl : (.i32 : EltTy) = .i32) shapeCasts_S1x40960_S40960,
  StableHlo.reshape main_v39 main_v40 (rfl : (.i32 : EltTy) = .i32) shapeCasts_S40960_S1x40960]

/-- A stretch of the host's operations. -/
def ops9 : List (HloOp τ sig (Elt F)) := [
  StableHlo.reshape main_v41 main_v42 (rfl : (.f32 : EltTy) = .f32) shapeCasts_S40960x128_S10x4096x128,
  StableHlo.unary main_arg3 main_v43 ((transpose S256x256 [1, 0] · transposes_S256x256_S256x256_1_0) : (⟨S256x256, .f32⟩ : BufTy).Contents (Elt F) → (⟨S256x256, .f32⟩ : BufTy).Contents (Elt F)),
  StableHlo.unary main_arg6 main_v44 ((transpose S256x1000 [1, 0] · transposes_S1000x256_S256x1000_1_0) : (⟨S1000x256, .f32⟩ : BufTy).Contents (Elt F) → (⟨S256x1000, .f32⟩ : BufTy).Contents (Elt F)),
  StableHlo.reshape main_arg7 main_v45 (rfl : (.f32 : EltTy) = .f32) shapeCasts_S1000_S1x1000]

/-! The operations of each stretch name TensorCore buffers only, and make none. -/

theorem sub0 : (ops0 (F := F)).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.unary_bufs_sub .., StableHlo.reshape_bufs_sub .., StableHlo.reshape_bufs_sub ..⟩
theorem fresh0 : (ops0 (F := F)).Forall fun op => op.fresh = ∅ := StableHlo.forall_fresh_of_map rfl
theorem sub1 : (ops1 (F := F)).Forall fun op => op.bufs ⊆ StableHlo.tcRefs τ sig :=
  ⟨StableHlo.reshape_bufs_sub .., StableHlo.unary_bufs_sub ..⟩
theorem fresh1 : (ops1 (F := F)).Forall fun op => op.fresh = ∅ := StableHlo.forall_fresh_of_map rfl
theorem sub2 : (ops2 (F := F)).Forall fun op => op.bufs ⊆ StableHlo.tcRefs τ sig :=
  ⟨StableHlo.unary_bufs_sub .., StableHlo.reshape_bufs_sub .., StableHlo.reshape_bufs_sub ..⟩
theorem fresh2 : (ops2 (F := F)).Forall fun op => op.fresh = ∅ := StableHlo.forall_fresh_of_map rfl
theorem sub3 : (ops3 (F := F)).Forall fun op => op.bufs ⊆ StableHlo.tcRefs τ sig :=
  ⟨StableHlo.reshape_bufs_sub .., StableHlo.unary_bufs_sub ..⟩
theorem fresh3 : (ops3 (F := F)).Forall fun op => op.fresh = ∅ := StableHlo.forall_fresh_of_map rfl
theorem sub4 : (ops4 (F := F)).Forall fun op => op.bufs ⊆ StableHlo.tcRefs τ sig :=
  ⟨StableHlo.unary_bufs_sub .., StableHlo.reshape_bufs_sub .., StableHlo.reshape_bufs_sub ..⟩
theorem fresh4 : (ops4 (F := F)).Forall fun op => op.fresh = ∅ := StableHlo.forall_fresh_of_map rfl
theorem sub5 : (ops5 (F := F)).Forall fun op => op.bufs ⊆ StableHlo.tcRefs τ sig :=
  ⟨StableHlo.reshape_bufs_sub .., StableHlo.unary_bufs_sub ..⟩
theorem fresh5 : (ops5 (F := F)).Forall fun op => op.fresh = ∅ := StableHlo.forall_fresh_of_map rfl
theorem sub6 : (ops6 (F := F)).Forall fun op => op.bufs ⊆ StableHlo.tcRefs τ sig :=
  ⟨StableHlo.unary_bufs_sub .., StableHlo.reshape_bufs_sub .., StableHlo.reshape_bufs_sub ..⟩
theorem fresh6 : (ops6 (F := F)).Forall fun op => op.fresh = ∅ := StableHlo.forall_fresh_of_map rfl
theorem sub7 : (ops7 (F := F)).Forall fun op => op.bufs ⊆ StableHlo.tcRefs τ sig :=
  ⟨StableHlo.reshape_bufs_sub .., StableHlo.unary_bufs_sub ..⟩
theorem fresh7 : (ops7 (F := F)).Forall fun op => op.fresh = ∅ := StableHlo.forall_fresh_of_map rfl
theorem sub8 : (ops8 (F := F)).Forall fun op => op.bufs ⊆ StableHlo.tcRefs τ sig :=
  ⟨StableHlo.unary_bufs_sub .., StableHlo.reshape_bufs_sub .., StableHlo.reshape_bufs_sub ..⟩
theorem fresh8 : (ops8 (F := F)).Forall fun op => op.fresh = ∅ := StableHlo.forall_fresh_of_map rfl
theorem sub9 : (ops9 (F := F)).Forall fun op => op.bufs ⊆ StableHlo.tcRefs τ sig :=
  ⟨StableHlo.reshape_bufs_sub .., StableHlo.unary_bufs_sub .., StableHlo.unary_bufs_sub .., StableHlo.reshape_bufs_sub ..⟩
theorem fresh9 : (ops9 (F := F)).Forall fun op => op.fresh = ∅ := StableHlo.forall_fresh_of_map rfl

/-- A program of the TensorCore. -/
abbrev TcProg (F : FTy → Type) : Type 1 := Prog (TpuEff nD τ sig (Elt F) (SparseCore.Sig (Pipeline.Sig Λ₀ (Fin 5) fun p => (pcfgs (F := F) p).Adm) 5) .tc) PUnit

/-- The call of TensorCore pipeline `p`. -/
abbrev tcCall (p : Fin 5) : TcProg F := Prog.lift (.customCall (SparseCore.inner (Pipeline.entry p)) ())

/-- The rest of @main from call 4 on, and so on back to its start. -/
def rest4 (d : Dev nD) : TcProg F := StableHlo.seqK ops8 ((K (F := F)).run d 4 >>= fun _ => StableHlo.seqK ops9 (tcCall 4 >>= fun _ => pure ⟨⟩))
def rest3 (d : Dev nD) : TcProg F := StableHlo.seqK ops6 ((K (F := F)).run d 3 >>= fun _ => StableHlo.seqK ops7 (tcCall 3 >>= fun _ => rest4 d))
def rest2 (d : Dev nD) : TcProg F := StableHlo.seqK ops4 ((K (F := F)).run d 2 >>= fun _ => StableHlo.seqK ops5 (tcCall 2 >>= fun _ => rest3 d))
def rest1 (d : Dev nD) : TcProg F := StableHlo.seqK ops2 ((K (F := F)).run d 1 >>= fun _ => StableHlo.seqK ops3 (tcCall 1 >>= fun _ => rest2 d))
def rest0 (d : Dev nD) : TcProg F := StableHlo.seqK ops0 ((K (F := F)).run d 0 >>= fun _ => StableHlo.seqK ops1 (tcCall 0 >>= fun _ => rest1 d))

theorem main_eq (d : Dev nD) : main (F := F) d = rest0 d := by
  chain_rfl

end Cert.KernelIdeal.Proof

end
-- ==== Proof.TcBody.lean ====
/-
  The TensorCore bodies run once, at symbolic staging buffers: one chunk of ten recurrence steps, and the last chunk
  with the output layer behind it.
-/
module

public import proofs.«01_k».proof.Proof.Base
public import proofs.«01_k».proof.Proof.Gen.KernelIdeal.Skeleton
public import Idealize.ShloMosaic.Lib.Pipeline.Value
public import Idealize.ShloMosaic.Lib.VecWindow

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-- One chunk: ten steps of the recurrence on one block of the batch, from the gathered rows `xe`, the state `h`, the
    two weight tables and the bias. -/
def chunkVal [FloatOps F] (xe : Vec F S10x512x128 .f32) (h : Vec F S512x256 .f32) (wih : Vec F S128x256 .f32)
    (whh : Vec F S256x256 .f32) (b : Vec F S1x256 .f32) : FVec F S512x256 .f32 :=
  k1_pay1 (k1_pay2 whh) (k1_pay3 b xe wih) (k1_pay4 whh b xe wih h) (k1_pay5 b xe wih)

/-- The chunk body, from its staging buffers at any contents, leaves `chunkVal` of them in the last. -/
theorem chunk_wp [FloatOps F] (d : Dev nD) (i : grid1.Coords)
    (M1 : Memref sig .tc .vmem S10x512x128 .f32) (h1 : M1.IsWhole) (M2 : Memref sig .tc .vmem S512x256 .f32) (h2 : M2.IsWhole)
    (M3 : Memref sig .tc .vmem S128x256 .f32) (h3 : M3.IsWhole) (M4 : Memref sig .tc .vmem S256x256 .f32) (h4 : M4.IsWhole)
    (M5 : Memref sig .tc .vmem S1x256 .f32) (h5 : M5.IsWhole) (M6 : Memref sig .tc .vmem S512x256 .f32) (h6 : M6.IsWhole)
    (X1 : Vec F S10x512x128 .f32) (X2 : Vec F S512x256 .f32) (X3 : Vec F S128x256 .f32) (X4 : Vec F S256x256 .f32)
    (X5 : Vec F S1x256 .f32) (X6 : Vec F S512x256 .f32) (Q : PUnit → sProp 𝕄) :
    iprop(owns (T d) M1 fullShare X1 ∗ owns (T d) M2 fullShare X2 ∗ owns (T d) M3 fullShare X3 ∗ owns (T d) M4 fullShare X4
      ∗ owns (T d) M5 fullShare X5 ∗ owns (T d) M6 fullShare X6
      ∗ ((owns (T d) M1 fullShare X1 ∗ owns (T d) M2 fullShare X2 ∗ owns (T d) M3 fullShare X3 ∗ owns (T d) M4 fullShare X4
      ∗ owns (T d) M5 fullShare X5 ∗ owns (T d) M6 fullShare (chunkVal X1 X2 X3 X4 X5)) -∗ Q ⟨⟩))
    ⊢ wp frame (wpE (defs₀ (F := F)) 𝒱₀ (T d) none) Set.univ (cc1__chunk_body (F := F) i M1 h1 M2 h2 M3 h3 M4 h4 M5 h5 M6 h6) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; swap
  · iexact H6
  ipureintro
  unfold chunk_wp.sl.H6_1
  refine (View.read_writes_full _ _ _ _ _).trans ?_
  have z2 : (![0, 0] : Fin 2 → ℕ) = fun _ => 0 := by funext a; fin_cases a <;> rfl
  have z3 : (![0, 0, 0] : Fin 3 → ℕ) = fun _ => 0 := by funext a; fin_cases a <;> rfl
  unfold chunkVal chunk_wp.sl.r chunk_wp.sl.r_1 chunk_wp.sl.r_2 chunk_wp.sl.r_3
  simp only [View.readAt_eq_ld, e1, e2, e3, e4, e5]
  repeat first | rw [View.ld_unit_zero z2] | rw [View.ld_unit_zero z3]

/-- The later chunks' bodies are the same program. -/
theorem chunk3_eq [FloatOps F] : cc3__chunk_body (F := F) = cc1__chunk_body (F := F) := rfl
theorem chunk5_eq [FloatOps F] : cc5__chunk_body (F := F) = cc1__chunk_body (F := F) := rfl
theorem chunk7_eq [FloatOps F] : cc7__chunk_body (F := F) = cc1__chunk_body (F := F) := rfl

/-- The last chunk and the output layer on one block of the batch. -/
def headVal [FloatOps F] (xe : Vec F S10x512x128 .f32) (h : Vec F S512x256 .f32) (wih : Vec F S128x256 .f32)
    (whh : Vec F S256x256 .f32) (b : Vec F S1x256 .f32) (wo : Vec F S256x1000 .f32) (bo : Vec F S1x1000 .f32) : FVec F S512x1000 .f32 :=
  k9_pay1 (k9_pay2 whh) (k9_pay3 b xe wih) (k9_pay4 whh b xe wih h) (k9_pay5 b xe wih) wo bo

/-- The last body, from its staging buffers at any contents, leaves `headVal` of them in the last. -/
theorem head_wp [FloatOps F] (d : Dev nD) (i : grid9.Coords)
    (M1 : Memref sig .tc .vmem S10x512x128 .f32) (h1 : M1.IsWhole) (M2 : Memref sig .tc .vmem S512x256 .f32) (h2 : M2.IsWhole)
    (M3 : Memref sig .tc .vmem S128x256 .f32) (h3 : M3.IsWhole) (M4 : Memref sig .tc .vmem S256x256 .f32) (h4 : M4.IsWhole)
    (M5 : Memref sig .tc .vmem S1x256 .f32) (h5 : M5.IsWhole) (M6 : Memref sig .tc .vmem S256x1000 .f32) (h6 : M6.IsWhole)
    (M7 : Memref sig .tc .vmem S1x1000 .f32) (h7 : M7.IsWhole) (M8 : Memref sig .tc .vmem S512x1000 .f32) (h8 : M8.IsWhole)
    (X1 : Vec F S10x512x128 .f32) (X2 : Vec F S512x256 .f32) (X3 : Vec F S128x256 .f32) (X4 : Vec F S256x256 .f32)
    (X5 : Vec F S1x256 .f32) (X6 : Vec F S256x1000 .f32) (X7 : Vec F S1x1000 .f32) (X8 : Vec F S512x1000 .f32) (Q : PUnit → sProp 𝕄) :
    iprop(owns (T d) M1 fullShare X1 ∗ owns (T d) M2 fullShare X2 ∗ owns (T d) M3 fullShare X3 ∗ owns (T d) M4 fullShare X4
      ∗ owns (T d) M5 fullShare X5 ∗ owns (T d) M6 fullShare X6 ∗ owns (T d) M7 fullShare X7 ∗ owns (T d) M8 fullShare X8
      ∗ ((owns (T d) M1 fullShare X1 ∗ owns (T d) M2 fullShare X2 ∗ owns (T d) M3 fullShare X3 ∗ owns (T d) M4 fullShare X4
      ∗ owns (T d) M5 fullShare X5 ∗ owns (T d) M6 fullShare X6 ∗ owns (T d) M7 fullShare X7
      ∗ owns (T d) M8 fullShare (headVal X1 X2 X3 X4 X5 X6 X7)) -∗ Q ⟨⟩))
    ⊢ wp frame (wpE (defs₀ (F := F)) 𝒱₀ (T d) none) Set.univ (cc9__chunk_head_body (F := F) i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec!
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  iexists _
  isplitr; swap
  · iexact H8
  ipureintro
  unfold head_wp.sl.H8_1
  refine (View.read_writes_full _ _ _ _ _).trans ?_
  have z2 : (![0, 0] : Fin 2 → ℕ) = fun _ => 0 := by funext a; fin_cases a <;> rfl
  have z3 : (![0, 0, 0] : Fin 3 → ℕ) = fun _ => 0 := by funext a; fin_cases a <;> rfl
  unfold headVal head_wp.sl.r head_wp.sl.r_1 head_wp.sl.r_2 head_wp.sl.r_3
  simp only [View.readAt_eq_ld, e1, e2, e3, e4, e5, e6, e7]
  repeat first | rw [View.ld_unit_zero z2] | rw [View.ld_unit_zero z3]

end Cert.KernelIdeal.Proof

end
-- ==== Proof.TcDat.lean ====
/-
  The five TensorCore pipelines' proof data at a valuation of the arrays, and their body obligations: at every grid
  point the input blocks are the arrays' blocks and the output block is the value of one chunk of the recurrence (and,
  in the last, of the output layer).
-/
module

public import proofs.«01_k».proof.Proof.TcBody
public import proofs.«01_k».proof.Proof.Gen.KernelIdeal.Points
public import Idealize.ShloMosaic.Lib.Pipeline.RegionsLoop
public import Idealize.ShloMosaic.Lib.Pipeline.FrameBody

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

/-- The contents of every buffer of one device. -/
abbrev VV (F : FTy → Type) : Type := Valuation τ sig (Elt F)

/-- What the TensorCore's recorded waits stay within before call `n`. -/
def recd (d : Dev nD) (n : ℕ) : Set (SemLoc sig × HIx 5) := {p | (K (F := F)).lev (T d, p.1) p.2 ≤ 8 * n}

/-- A chunk body at one grid point, in the shape a body obligation asks: the input buffers at whatever the pipeline
    finds there, known to be `X1 … X5`, the output buffer at anything. -/
theorem chunk_point (d : Dev nD) (i : grid1.Coords)
    (M1 : Memref sig .tc .vmem S10x512x128 .f32) (h1 : M1.IsWhole) (M2 : Memref sig .tc .vmem S512x256 .f32) (h2 : M2.IsWhole) (M3 : Memref sig .tc .vmem S128x256 .f32) (h3 : M3.IsWhole) (M4 : Memref sig .tc .vmem S256x256 .f32) (h4 : M4.IsWhole) (M5 : Memref sig .tc .vmem S1x256 .f32) (h5 : M5.IsWhole) (M6 : Memref sig .tc .vmem S512x256 .f32) (h6 : M6.IsWhole)
    (B1 : Vec F S10x512x128 .f32 → Vec F S10x512x128 .f32) (B2 : Vec F S512x256 .f32 → Vec F S512x256 .f32) (B3 : Vec F S128x256 .f32 → Vec F S128x256 .f32) (B4 : Vec F S256x256 .f32 → Vec F S256x256 .f32) (B5 : Vec F S1x256 .f32 → Vec F S1x256 .f32) (B6 : Vec F S512x256 .f32 → Vec F S512x256 .f32)
    (X1 : Vec F S10x512x128 .f32) (X2 : Vec F S512x256 .f32) (X3 : Vec F S128x256 .f32) (X4 : Vec F S256x256 .f32) (X5 : Vec F S1x256 .f32)
    (e1 : ∀ e, B1 e = X1) (e2 : ∀ e, B2 e = X2) (e3 : ∀ e, B3 e = X3) (e4 : ∀ e, B4 e = X4) (e5 : ∀ e, B5 e = X5) (R₁ R₂ : sProp 𝕄) :
    iprop(R₁ ∗ R₂ ∗ (∃ e, owns (T d) M1 fullShare (B1 e)) ∗ (∃ e, owns (T d) M2 fullShare (B2 e)) ∗ (∃ e, owns (T d) M3 fullShare (B3 e)) ∗ (∃ e, owns (T d) M4 fullShare (B4 e)) ∗ (∃ e, owns (T d) M5 fullShare (B5 e)) ∗ (∃ e, owns (T d) M6 fullShare (B6 e)))
    ⊢ wp frame (wpE (defs₀ (F := F)) 𝒱₀ (T d) none) Set.univ (cc1__chunk_body (F := F) i M1 h1 M2 h2 M3 h3 M4 h4 M5 h5 M6 h6)
      fun _ => iprop(R₁ ∗ R₂ ∗ owns (T d) M1 fullShare X1 ∗ owns (T d) M2 fullShare X2 ∗ owns (T d) M3 fullShare X3 ∗ owns (T d) M4 fullShare X4 ∗ owns (T d) M5 fullShare X5 ∗ owns (T d) M6 fullShare (chunkVal X1 X2 X3 X4 X5)) := by
  simp only [e1, e2, e3, e4, e5]
  iintro ⟨HΦ, HO, ⟨%_, H1⟩, ⟨%_, H2⟩, ⟨%_, H3⟩, ⟨%_, H4⟩, ⟨%_, H5⟩, ⟨%_, H6⟩⟩
  iapply (chunk_wp d i M1 h1 M2 h2 M3 h3 M4 h4 M5 h5 M6 h6 X1 X2 X3 X4 X5 _ _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [HΦ]; · iexact HΦ
  isplitl [HO]; · iexact HO
  isplitl [H1]; · iexact H1
  isplitl [H2]; · iexact H2
  isplitl [H3]; · iexact H3
  isplitl [H4]; · iexact H4
  isplitl [H5]; · iexact H5
  iexact H6

/-- The last body at one grid point, in the shape a body obligation asks: the input buffers at whatever the pipeline
    finds there, known to be `X1 … X7`, the output buffer at anything. -/
theorem head_point (d : Dev nD) (i : grid9.Coords)
    (M1 : Memref sig .tc .vmem S10x512x128 .f32) (h1 : M1.IsWhole) (M2 : Memref sig .tc .vmem S512x256 .f32) (h2 : M2.IsWhole) (M3 : Memref sig .tc .vmem S128x256 .f32) (h3 : M3.IsWhole) (M4 : Memref sig .tc .vmem S256x256 .f32) (h4 : M4.IsWhole) (M5 : Memref sig .tc .vmem S1x256 .f32) (h5 : M5.IsWhole) (M6 : Memref sig .tc .vmem S256x1000 .f32) (h6 : M6.IsWhole) (M7 : Memref sig .tc .vmem S1x1000 .f32) (h7 : M7.IsWhole) (M8 : Memref sig .tc .vmem S512x1000 .f32) (h8 : M8.IsWhole)
    (B1 : Vec F S10x512x128 .f32 → Vec F S10x512x128 .f32) (B2 : Vec F S512x256 .f32 → Vec F S512x256 .f32) (B3 : Vec F S128x256 .f32 → Vec F S128x256 .f32) (B4 : Vec F S256x256 .f32 → Vec F S256x256 .f32) (B5 : Vec F S1x256 .f32 → Vec F S1x256 .f32) (B6 : Vec F S256x1000 .f32 → Vec F S256x1000 .f32) (B7 : Vec F S1x1000 .f32 → Vec F S1x1000 .f32) (B8 : Vec F S512x1000 .f32 → Vec F S512x1000 .f32)
    (X1 : Vec F S10x512x128 .f32) (X2 : Vec F S512x256 .f32) (X3 : Vec F S128x256 .f32) (X4 : Vec F S256x256 .f32) (X5 : Vec F S1x256 .f32) (X6 : Vec F S256x1000 .f32) (X7 : Vec F S1x1000 .f32)
    (e1 : ∀ e, B1 e = X1) (e2 : ∀ e, B2 e = X2) (e3 : ∀ e, B3 e = X3) (e4 : ∀ e, B4 e = X4) (e5 : ∀ e, B5 e = X5) (e6 : ∀ e, B6 e = X6) (e7 : ∀ e, B7 e = X7) (R₁ R₂ : sProp 𝕄) :
    iprop(R₁ ∗ R₂ ∗ (∃ e, owns (T d) M1 fullShare (B1 e)) ∗ (∃ e, owns (T d) M2 fullShare (B2 e)) ∗ (∃ e, owns (T d) M3 fullShare (B3 e)) ∗ (∃ e, owns (T d) M4 fullShare (B4 e)) ∗ (∃ e, owns (T d) M5 fullShare (B5 e)) ∗ (∃ e, owns (T d) M6 fullShare (B6 e)) ∗ (∃ e, owns (T d) M7 fullShare (B7 e)) ∗ (∃ e, owns (T d) M8 fullShare (B8 e)))
    ⊢ wp frame (wpE (defs₀ (F := F)) 𝒱₀ (T d) none) Set.univ (cc9__chunk_head_body (F := F) i M1 h1 M2 h2 M3 h3 M4 h4 M5 h5 M6 h6 M7 h7 M8 h8)
      fun _ => iprop(R₁ ∗ R₂ ∗ owns (T d) M1 fullShare X1 ∗ owns (T d) M2 fullShare X2 ∗ owns (T d) M3 fullShare X3 ∗ owns (T d) M4 fullShare X4 ∗ owns (T d) M5 fullShare X5 ∗ owns (T d) M6 fullShare X6 ∗ owns (T d) M7 fullShare X7 ∗ owns (T d) M8 fullShare (headVal X1 X2 X3 X4 X5 X6 X7)) := by
  simp only [e1, e2, e3, e4, e5, e6, e7]
  iintro ⟨HΦ, HO, ⟨%_, H1⟩, ⟨%_, H2⟩, ⟨%_, H3⟩, ⟨%_, H4⟩, ⟨%_, H5⟩, ⟨%_, H6⟩, ⟨%_, H7⟩, ⟨%_, H8⟩⟩
  iapply (head_wp d i M1 h1 M2 h2 M3 h3 M4 h4 M5 h5 M6 h6 M7 h7 M8 h8 X1 X2 X3 X4 X5 X6 X7 _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  isplitl [HΦ]; · iexact HΦ
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Pipeline 0: the block of window `w` at point `t`, read off the array. -/
abbrev blk1 (W : VV F) (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- What the body leaves in pipeline 0's output block at point `t`. -/
def out1 (W : VV F) (t : Fin cfg1.N) : FVec F S512x256 .f32 :=
  chunkVal (blk1 W 0 t) (blk1 W 1 t) (blk1 W 2 t) (blk1 W 3 t) (blk1 W 4 t)

/-- The proof data of pipeline 0 at the valuation `W`. -/
def dat1 (W : VV F) (d : Dev nD) : Dat τ (Elt F) (HIx 5) ℕ UU ℕ cfg1 d where
  A w := W (Proc.devRef .tc (Pipeline.arrRef spec1 w))
  after w t := match w with
    | ⟨0, _⟩ => blk1 W 0 t
    | ⟨1, _⟩ => blk1 W 1 t
    | ⟨2, _⟩ => blk1 W 2 t
    | ⟨3, _⟩ => blk1 W 3 t
    | ⟨4, _⟩ => blk1 W 4 t
    | ⟨5, _⟩ => out1 W t
  Φ _ := Pipeline.scopedRest spec1 d
  q _ := fullShare
  owed _ := (K (F := F)).Otc d 1
  recorded _ := recd (F := F) d 1

theorem dat1_body (W : VV F) (d : Dev nD) : BodyObligation (dat1 W d) (defs₀ (F := F)) 𝒱₀ none Set.univ := fun t => by
  have hb0 : ∀ e, (dat1 W d).before 0 t e = blk1 W 0 t := fun e =>
    (dat1 W d).before_in_eq_fetched 0 rfl (fun _ => rfl) (fun _ _ _ => rfl) (fun _ => rfl) t e
  have hb1 : ∀ e, (dat1 W d).before 1 t e = blk1 W 1 t := fun e =>
    (dat1 W d).before_in_eq_fetched 1 rfl (fun _ => rfl) (fun _ _ _ => rfl) (fun _ => rfl) t e
  have hb2 : ∀ e, (dat1 W d).before 2 t e = blk1 W 2 t := fun e =>
    (dat1 W d).before_in_eq_fetched 2 rfl (fun _ => rfl) (fun _ _ _ => rfl) (fun _ => rfl) t e
  have hb3 : ∀ e, (dat1 W d).before 3 t e = blk1 W 3 t := fun e =>
    (dat1 W d).before_in_eq_fetched 3 rfl (fun _ => rfl) (fun _ _ _ => rfl) (fun _ => rfl) t e
  have hb4 : ∀ e, (dat1 W d).before 4 t e = blk1 W 4 t := fun e =>
    (dat1 W d).before_in_eq_fetched 4 rfl (fun _ => rfl) (fun _ _ _ => rfl) (fun _ => rfl) t e
  rw [bigSep_W1, bigSep_W1]
  change _ ⊢ wp _ _ _ (bodyAt1 t) _
  unfold bodyAt1
  exact chunk_point d _ (st1_0 t) _ (st1_1 t) _ (st1_2 t) _ (st1_3 t) _ (st1_4 t) _ (st1_5 t) _ ((dat1 W d).before 0 t) ((dat1 W d).before 1 t) ((dat1 W d).before 2 t) ((dat1 W d).before 3 t) ((dat1 W d).before 4 t) ((dat1 W d).before 5 t) _ _ _ _ _ hb0 hb1 hb2 hb3 hb4 _ _

/-- Pipeline 1: the block of window `w` at point `t`, read off the array. -/
abbrev blk3 (W : VV F) (w : Fin cfg3.W) (t : Fin cfg3.N) : ((cfg3.win w).xblock (cfg3.grid.coords t)).Idx → Elt F (cfg3.win w).elt :=
  ((cfg3.win w).blk t).view.read (Elt F) (W (Proc.devRef .tc (Pipeline.arrRef spec3 w)))

/-- What the body leaves in pipeline 1's output block at point `t`. -/
def out3 (W : VV F) (t : Fin cfg3.N) : FVec F S512x256 .f32 :=
  chunkVal (blk3 W 0 t) (blk3 W 1 t) (blk3 W 2 t) (blk3 W 3 t) (blk3 W 4 t)

/-- The proof data of pipeline 1 at the valuation `W`. -/
def dat3 (W : VV F) (d : Dev nD) : Dat τ (Elt F) (HIx 5) ℕ UU ℕ cfg3 d where
  A w := W (Proc.devRef .tc (Pipeline.arrRef spec3 w))
  after w t := match w with
    | ⟨0, _⟩ => blk3 W 0 t
    | ⟨1, _⟩ => blk3 W 1 t
    | ⟨2, _⟩ => blk3 W 2 t
    | ⟨3, _⟩ => blk3 W 3 t
    | ⟨4, _⟩ => blk3 W 4 t
    | ⟨5, _⟩ => out3 W t
  Φ _ := Pipeline.scopedRest spec3 d
  q _ := fullShare
  owed _ := (K (F := F)).Otc d 2
  recorded _ := recd (F := F) d 2

theorem dat3_body (W : VV F) (d : Dev nD) : BodyObligation (dat3 W d) (defs₀ (F := F)) 𝒱₀ none Set.univ := fun t => by
  have hb0 : ∀ e, (dat3 W d).before 0 t e = blk3 W 0 t := fun e =>
    (dat3 W d).before_in_eq_fetched 0 rfl (fun _ => rfl) (fun _ _ _ => rfl) (fun _ => rfl) t e
  have hb1 : ∀ e, (dat3 W d).before 1 t e = blk3 W 1 t := fun e =>
    (dat3 W d).before_in_eq_fetched 1 rfl (fun _ => rfl) (fun _ _ _ => rfl) (fun _ => rfl) t e
  have hb2 : ∀ e, (dat3 W d).before 2 t e = blk3 W 2 t := fun e =>
    (dat3 W d).before_in_eq_fetched 2 rfl (fun _ => rfl) (fun _ _ _ => rfl) (fun _ => rfl) t e
  have hb3 : ∀ e, (dat3 W d).before 3 t e = blk3 W 3 t := fun e =>
    (dat3 W d).before_in_eq_fetched 3 rfl (fun _ => rfl) (fun _ _ _ => rfl) (fun _ => rfl) t e
  have hb4 : ∀ e, (dat3 W d).before 4 t e = blk3 W 4 t := fun e =>
    (dat3 W d).before_in_eq_fetched 4 rfl (fun _ => rfl) (fun _ _ _ => rfl) (fun _ => rfl) t e
  rw [bigSep_W3, bigSep_W3]
  change _ ⊢ wp _ _ _ (bodyAt3 t) _
  unfold bodyAt3
  rw [chunk3_eq]
  exact chunk_point d _ (st3_0 t) _ (st3_1 t) _ (st3_2 t) _ (st3_3 t) _ (st3_4 t) _ (st3_5 t) _ ((dat3 W d).before 0 t) ((dat3 W d).before 1 t) ((dat3 W d).before 2 t) ((dat3 W d).before 3 t) ((dat3 W d).before 4 t) ((dat3 W d).before 5 t) _ _ _ _ _ hb0 hb1 hb2 hb3 hb4 _ _

/-- Pipeline 2: the block of window `w` at point `t`, read off the array. -/
abbrev blk5 (W : VV F) (w : Fin cfg5.W) (t : Fin cfg5.N) : ((cfg5.win w).xblock (cfg5.grid.coords t)).Idx → Elt F (cfg5.win w).elt :=
  ((cfg5.win w).blk t).view.read (Elt F) (W (Proc.devRef .tc (Pipeline.arrRef spec5 w)))

/-- What the body leaves in pipeline 2's output block at point `t`. -/
def out5 (W : VV F) (t : Fin cfg5.N) : FVec F S512x256 .f32 :=
  chunkVal (blk5 W 0 t) (blk5 W 1 t) (blk5 W 2 t) (blk5 W 3 t) (blk5 W 4 t)

/-- The proof data of pipeline 2 at the valuation `W`. -/
def dat5 (W : VV F) (d : Dev nD) : Dat τ (Elt F) (HIx 5) ℕ UU ℕ cfg5 d where
  A w := W (Proc.devRef .tc (Pipeline.arrRef spec5 w))
  after w t := match w with
    | ⟨0, _⟩ => blk5 W 0 t
    | ⟨1, _⟩ => blk5 W 1 t
    | ⟨2, _⟩ => blk5 W 2 t
    | ⟨3, _⟩ => blk5 W 3 t
    | ⟨4, _⟩ => blk5 W 4 t
    | ⟨5, _⟩ => out5 W t
  Φ _ := Pipeline.scopedRest spec5 d
  q _ := fullShare
  owed _ := (K (F := F)).Otc d 3
  recorded _ := recd (F := F) d 3

theorem dat5_body (W : VV F) (d : Dev nD) : BodyObligation (dat5 W d) (defs₀ (F := F)) 𝒱₀ none Set.univ := fun t => by
  have hb0 : ∀ e, (dat5 W d).before 0 t e = blk5 W 0 t := fun e =>
    (dat5 W d).before_in_eq_fetched 0 rfl (fun _ => rfl) (fun _ _ _ => rfl) (fun _ => rfl) t e
  have hb1 : ∀ e, (dat5 W d).before 1 t e = blk5 W 1 t := fun e =>
    (dat5 W d).before_in_eq_fetched 1 rfl (fun _ => rfl) (fun _ _ _ => rfl) (fun _ => rfl) t e
  have hb2 : ∀ e, (dat5 W d).before 2 t e = blk5 W 2 t := fun e =>
    (dat5 W d).before_in_eq_fetched 2 rfl (fun _ => rfl) (fun _ _ _ => rfl) (fun _ => rfl) t e
  have hb3 : ∀ e, (dat5 W d).before 3 t e = blk5 W 3 t := fun e =>
    (dat5 W d).before_in_eq_fetched 3 rfl (fun _ => rfl) (fun _ _ _ => rfl) (fun _ => rfl) t e
  have hb4 : ∀ e, (dat5 W d).before 4 t e = blk5 W 4 t := fun e =>
    (dat5 W d).before_in_eq_fetched 4 rfl (fun _ => rfl) (fun _ _ _ => rfl) (fun _ => rfl) t e
  rw [bigSep_W5, bigSep_W5]
  change _ ⊢ wp _ _ _ (bodyAt5 t) _
  unfold bodyAt5
  rw [chunk5_eq]
  exact chunk_point d _ (st5_0 t) _ (st5_1 t) _ (st5_2 t) _ (st5_3 t) _ (st5_4 t) _ (st5_5 t) _ ((dat5 W d).before 0 t) ((dat5 W d).before 1 t) ((dat5 W d).before 2 t) ((dat5 W d).before 3 t) ((dat5 W d).before 4 t) ((dat5 W d).before 5 t) _ _ _ _ _ hb0 hb1 hb2 hb3 hb4 _ _

/-- Pipeline 3: the block of window `w` at point `t`, read off the array. -/
abbrev blk7 (W : VV F) (w : Fin cfg7.W) (t : Fin cfg7.N) : ((cfg7.win w).xblock (cfg7.grid.coords t)).Idx → Elt F (cfg7.win w).elt :=
  ((cfg7.win w).blk t).view.read (Elt F) (W (Proc.devRef .tc (Pipeline.arrRef spec7 w)))

/-- What the body leaves in pipeline 3's output block at point `t`. -/
def out7 (W : VV F) (t : Fin cfg7.N) : FVec F S512x256 .f32 :=
  chunkVal (blk7 W 0 t) (blk7 W 1 t) (blk7 W 2 t) (blk7 W 3 t) (blk7 W 4 t)

/-- The proof data of pipeline 3 at the valuation `W`. -/
def dat7 (W : VV F) (d : Dev nD) : Dat τ (Elt F) (HIx 5) ℕ UU ℕ cfg7 d where
  A w := W (Proc.devRef .tc (Pipeline.arrRef spec7 w))
  after w t := match w with
    | ⟨0, _⟩ => blk7 W 0 t
    | ⟨1, _⟩ => blk7 W 1 t
    | ⟨2, _⟩ => blk7 W 2 t
    | ⟨3, _⟩ => blk7 W 3 t
    | ⟨4, _⟩ => blk7 W 4 t
    | ⟨5, _⟩ => out7 W t
  Φ _ := Pipeline.scopedRest spec7 d
  q _ := fullShare
  owed _ := (K (F := F)).Otc d 4
  recorded _ := recd (F := F) d 4

theorem dat7_body (W : VV F) (d : Dev nD) : BodyObligation (dat7 W d) (defs₀ (F := F)) 𝒱₀ none Set.univ := fun t => by
  have hb0 : ∀ e, (dat7 W d).before 0 t e = blk7 W 0 t := fun e =>
    (dat7 W d).before_in_eq_fetched 0 rfl (fun _ => rfl) (fun _ _ _ => rfl) (fun _ => rfl) t e
  have hb1 : ∀ e, (dat7 W d).before 1 t e = blk7 W 1 t := fun e =>
    (dat7 W d).before_in_eq_fetched 1 rfl (fun _ => rfl) (fun _ _ _ => rfl) (fun _ => rfl) t e
  have hb2 : ∀ e, (dat7 W d).before 2 t e = blk7 W 2 t := fun e =>
    (dat7 W d).before_in_eq_fetched 2 rfl (fun _ => rfl) (fun _ _ _ => rfl) (fun _ => rfl) t e
  have hb3 : ∀ e, (dat7 W d).before 3 t e = blk7 W 3 t := fun e =>
    (dat7 W d).before_in_eq_fetched 3 rfl (fun _ => rfl) (fun _ _ _ => rfl) (fun _ => rfl) t e
  have hb4 : ∀ e, (dat7 W d).before 4 t e = blk7 W 4 t := fun e =>
    (dat7 W d).before_in_eq_fetched 4 rfl (fun _ => rfl) (fun _ _ _ => rfl) (fun _ => rfl) t e
  rw [bigSep_W7, bigSep_W7]
  change _ ⊢ wp _ _ _ (bodyAt7 t) _
  unfold bodyAt7
  rw [chunk7_eq]
  exact chunk_point d _ (st7_0 t) _ (st7_1 t) _ (st7_2 t) _ (st7_3 t) _ (st7_4 t) _ (st7_5 t) _ ((dat7 W d).before 0 t) ((dat7 W d).before 1 t) ((dat7 W d).before 2 t) ((dat7 W d).before 3 t) ((dat7 W d).before 4 t) ((dat7 W d).before 5 t) _ _ _ _ _ hb0 hb1 hb2 hb3 hb4 _ _

/-- Pipeline 4: the block of window `w` at point `t`, read off the array. -/
abbrev blk9 (W : VV F) (w : Fin cfg9.W) (t : Fin cfg9.N) : ((cfg9.win w).xblock (cfg9.grid.coords t)).Idx → Elt F (cfg9.win w).elt :=
  ((cfg9.win w).blk t).view.read (Elt F) (W (Proc.devRef .tc (Pipeline.arrRef spec9 w)))

/-- What the body leaves in pipeline 4's output block at point `t`. -/
def out9 (W : VV F) (t : Fin cfg9.N) : FVec F S512x1000 .f32 :=
  headVal (blk9 W 0 t) (blk9 W 1 t) (blk9 W 2 t) (blk9 W 3 t) (blk9 W 4 t) (blk9 W 5 t) (blk9 W 6 t)

/-- The proof data of pipeline 4 at the valuation `W`. -/
def dat9 (W : VV F) (d : Dev nD) : Dat τ (Elt F) (HIx 5) ℕ UU ℕ cfg9 d where
  A w := W (Proc.devRef .tc (Pipeline.arrRef spec9 w))
  after w t := match w with
    | ⟨0, _⟩ => blk9 W 0 t
    | ⟨1, _⟩ => blk9 W 1 t
    | ⟨2, _⟩ => blk9 W 2 t
    | ⟨3, _⟩ => blk9 W 3 t
    | ⟨4, _⟩ => blk9 W 4 t
    | ⟨5, _⟩ => blk9 W 5 t
    | ⟨6, _⟩ => blk9 W 6 t
    | ⟨7, _⟩ => out9 W t
  Φ _ := Pipeline.scopedRest spec9 d
  q _ := fullShare
  owed _ := (K (F := F)).Otc d 5
  recorded _ := recd (F := F) d 5

theorem dat9_body (W : VV F) (d : Dev nD) : BodyObligation (dat9 W d) (defs₀ (F := F)) 𝒱₀ none Set.univ := fun t => by
  have hb0 : ∀ e, (dat9 W d).before 0 t e = blk9 W 0 t := fun e =>
    (dat9 W d).before_in_eq_fetched 0 rfl (fun _ => rfl) (fun _ _ _ => rfl) (fun _ => rfl) t e
  have hb1 : ∀ e, (dat9 W d).before 1 t e = blk9 W 1 t := fun e =>
    (dat9 W d).before_in_eq_fetched 1 rfl (fun _ => rfl) (fun _ _ _ => rfl) (fun _ => rfl) t e
  have hb2 : ∀ e, (dat9 W d).before 2 t e = blk9 W 2 t := fun e =>
    (dat9 W d).before_in_eq_fetched 2 rfl (fun _ => rfl) (fun _ _ _ => rfl) (fun _ => rfl) t e
  have hb3 : ∀ e, (dat9 W d).before 3 t e = blk9 W 3 t := fun e =>
    (dat9 W d).before_in_eq_fetched 3 rfl (fun _ => rfl) (fun _ _ _ => rfl) (fun _ => rfl) t e
  have hb4 : ∀ e, (dat9 W d).before 4 t e = blk9 W 4 t := fun e =>
    (dat9 W d).before_in_eq_fetched 4 rfl (fun _ => rfl) (fun _ _ _ => rfl) (fun _ => rfl) t e
  have hb5 : ∀ e, (dat9 W d).before 5 t e = blk9 W 5 t := fun e =>
    (dat9 W d).before_in_eq_fetched 5 rfl (fun _ => rfl) (fun _ _ _ => rfl) (fun _ => rfl) t e
  have hb6 : ∀ e, (dat9 W d).before 6 t e = blk9 W 6 t := fun e =>
    (dat9 W d).before_in_eq_fetched 6 rfl (fun _ => rfl) (fun _ _ _ => rfl) (fun _ => rfl) t e
  rw [bigSep_W9, bigSep_W9]
  change _ ⊢ wp _ _ _ (bodyAt9 t) _
  unfold bodyAt9
  exact head_point d _ (st9_0 t) _ (st9_1 t) _ (st9_2 t) _ (st9_3 t) _ (st9_4 t) _ (st9_5 t) _ (st9_6 t) _ (st9_7 t) _ ((dat9 W d).before 0 t) ((dat9 W d).before 1 t) ((dat9 W d).before 2 t) ((dat9 W d).before 3 t) ((dat9 W d).before 4 t) ((dat9 W d).before 5 t) ((dat9 W d).before 6 t) ((dat9 W d).before 7 t) _ _ _ _ _ _ _ hb0 hb1 hb2 hb3 hb4 hb5 hb6 _ _

end Cert.KernelIdeal.Proof

end
-- ==== Proof.TcRegion.lean ====
/-
  One TensorCore call of the program: entered from all of the device's unscoped buffers at a valuation, left with the
  pipeline's arrays at their final contents.
-/
module

public import proofs.«01_k».proof.Proof.TcDat

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 5) (Elt F) ℕ UU ℕ

/-- No pipeline prefetches a table. -/
abbrev adm : (p : Fin 5) → (pcfgs (F := F) p).Adm := fun p => (cfgs p).toPCfg_adm

/-- The five pipelines' proof data, every one at the valuation `W`. -/
def pdats (W : VV F) : (p : Fin 5) → (c : Dev nD) → Dat τ (Elt F) (HIx 5) ℕ UU ℕ (Pipeline.pin (pcfgs (F := F)) adm p) c
  | ⟨0, _⟩ => fun c => dat1 W c
  | ⟨1, _⟩ => fun c => dat3 W c
  | ⟨2, _⟩ => fun c => dat5 W c
  | ⟨3, _⟩ => fun c => dat7 W c
  | ⟨4, _⟩ => fun c => dat9 W c

theorem launchF (p : Fin 5) : Pipeline.LaunchFacts (nD := nD) (τ := τ) cfgs p := by
  match p with
  | ⟨0, _⟩ => exact launch1
  | ⟨1, _⟩ => exact launch3
  | ⟨2, _⟩ => exact launch5
  | ⟨3, _⟩ => exact launch7
  | ⟨4, _⟩ => exact launch9

theorem pdats_body (W : VV F) (p : Fin 5) (c : Dev nD) : BodyObligation (pdats W p c) (defs₀ (F := F)) 𝒱₀ none Set.univ := by
  match p with
  | ⟨0, _⟩ => exact dat1_body W c
  | ⟨1, _⟩ => exact dat3_body W c
  | ⟨2, _⟩ => exact dat5_body W c
  | ⟨3, _⟩ => exact dat7_body W c
  | ⟨4, _⟩ => exact dat9_body W c

theorem pdats_q (W : VV F) (p : Fin 5) (c : Dev nD) (w) : (pdats W p c).q w = fullShare := by
  match p with
  | ⟨0, _⟩ => rfl
  | ⟨1, _⟩ => rfl
  | ⟨2, _⟩ => rfl
  | ⟨3, _⟩ => rfl
  | ⟨4, _⟩ => rfl

theorem pdats_A (W : VV F) (p : Fin 5) (c : Dev nD) (w) : (pdats W p c).A w = W (Proc.devRef .tc (Pipeline.arrRef (cfgs p).spec w)) := by
  match p with
  | ⟨0, _⟩ => rfl
  | ⟨1, _⟩ => rfl
  | ⟨2, _⟩ => rfl
  | ⟨3, _⟩ => rfl
  | ⟨4, _⟩ => rfl

theorem pdats_Φ (W : VV F) (p : Fin 5) (c : Dev nD) (t) : (pdats W p c).Φ t = (Pipeline.scopedRest (cfgs p).spec c : sProp 𝕄) := by
  match p with
  | ⟨0, _⟩ => show (dat1 W c).Φ t = (Pipeline.scopedRest spec1 c : sProp 𝕄); rfl
  | ⟨1, _⟩ => show (dat3 W c).Φ t = (Pipeline.scopedRest spec3 c : sProp 𝕄); rfl
  | ⟨2, _⟩ => show (dat5 W c).Φ t = (Pipeline.scopedRest spec5 c : sProp 𝕄); rfl
  | ⟨3, _⟩ => show (dat7 W c).Φ t = (Pipeline.scopedRest spec7 c : sProp 𝕄); rfl
  | ⟨4, _⟩ => show (dat9 W c).Φ t = (Pipeline.scopedRest spec9 c : sProp 𝕄); rfl

theorem pdats_owed (W : VV F) (p : Fin 5) (c : Dev nD) (t) : (pdats W p c).owed t = (K (F := F)).Otc c (p.val + 1) := by
  match p with
  | ⟨0, _⟩ => rfl
  | ⟨1, _⟩ => rfl
  | ⟨2, _⟩ => rfl
  | ⟨3, _⟩ => rfl
  | ⟨4, _⟩ => rfl

theorem pdats_recorded (W : VV F) (p : Fin 5) (c : Dev nD) (t) : (pdats W p c).recorded t = recd (F := F) c (p.val + 1) := by
  match p with
  | ⟨0, _⟩ => rfl
  | ⟨1, _⟩ => rfl
  | ⟨2, _⟩ => rfl
  | ⟨3, _⟩ => rfl
  | ⟨4, _⟩ => rfl

theorem prefHeld_emp (p : Fin 5) (c : Dev nD) : (Pipeline.prefHeld (pcfgs (F := F) p).pre c (fun _ => fullShare) (adm (F := F) p).1 : sProp 𝕄) = iprop(emp) := by
  match p with
  | ⟨0, _⟩ => unfold Pipeline.prefHeld; rw [show (Finset.univ : Finset (Fin 0)) = ∅ from rfl, BI.bigSep_empty]; rfl
  | ⟨1, _⟩ => unfold Pipeline.prefHeld; rw [show (Finset.univ : Finset (Fin 0)) = ∅ from rfl, BI.bigSep_empty]; rfl
  | ⟨2, _⟩ => unfold Pipeline.prefHeld; rw [show (Finset.univ : Finset (Fin 0)) = ∅ from rfl, BI.bigSep_empty]; rfl
  | ⟨3, _⟩ => unfold Pipeline.prefHeld; rw [show (Finset.univ : Finset (Fin 0)) = ∅ from rfl, BI.bigSep_empty]; rfl
  | ⟨4, _⟩ => unfold Pipeline.prefHeld; rw [show (Finset.univ : Finset (Fin 0)) = ∅ from rfl, BI.bigSep_empty]; rfl

theorem Otc_none (d : Dev nD) (n : ℕ) (g) : (K (F := F)).Otc (nD := nD) d n g none = 0 := by
  by_contra h
  have := SparseCore.Cfg.lev_of_Otc_pos (K := K (F := F)) (d := d) (n := n) (g := g) (ι := none) (Nat.pos_of_ne_zero h)
  rw [SparseCore.Cfg.lev_none] at this
  omega

/-- What the TensorCore owes and has recorded before call `n`. -/
def tcOwes (d : Dev nD) (n : ℕ) : sProp 𝕄 :=
  iprop(∃ W, ⌜(K (F := F)).WBelow (T d) W (8 * n)⌝ ∗ owes (T d) ((K (F := F)).Otc d n) W)

set_option backward.isDefEq.respectTransparency.types false in
/-- One call of pipeline `p` as a region over all of the unscoped buffers: from the valuation `W` to any `W'` that has the
    arrays at their final contents and agrees with `W` elsewhere. -/
def seg (W W' : VV F) (p : Fin 5)
    (hW : ∀ c w, (pdats W p c).arrAt w (cfgs p).N = W' (Proc.devRef .tc (Pipeline.arrRef (cfgs p).spec w)))
    (hW' : ∀ b : Ref sig .tc, b ∉ Finset.univ.image (Pipeline.arrRef (cfgs p).spec) → W' (Proc.devRef .tc b) = W (Proc.devRef .tc b)) :
    Pipeline.RegionSeg (pcfgs (F := F)) adm (pdats W) (none : HIx 5) (defs₀ (F := F)) 𝒱₀ ((K (F := F)).L (nD := nD)) (K (F := F)).lev p where
  win := (launchF p).win.to₀
  block_pos := (launchF p).block_pos
  stage_whole := (launchF p).stage_whole
  K := PEmpty
  osem k := k.elim
  ho := Pipeline.OwnSemFacts.none _
  hbody c := (pdats_body W p c).loose
  hwaits c := Pipeline.cellsWaits_intro _ _ _ p c fun w s t =>
    (K (F := F)).mayWait_none _ (fun g => by rw [pdats_owed]; exact Otc_none c _ g)
  pre c := iprop(unscopedBufs c (fun b => W (Proc.devRef .tc b)) ∗ tcOwes (F := F) c (p.val + 1))
  post c := iprop(unscopedBufs c (fun b => W' (Proc.devRef .tc b)) ∗ tcOwes (F := F) c (p.val + 1))
  X _ := BI.emp
  Y _ := BI.emp
  Z c := Pipeline.unscopedRest (Ix := HIx 5) (Name := ℕ) (U := UU) (Lvl := ℕ) (cfgs p).spec c (fun b => W (Proc.devRef .tc b))
  hentry c := by
    rw [Pipeline.ownSems0_none]
    have hsplit := Pipeline.arrays_of_unscopedBufs (p := p) (pcfgs (F := F)) adm (pdats W) (launchF p).win (launchF p).arr_whole c
      ((pdats W p c).share_full fun w => pdats_q W p c w) (fun b => W (Proc.devRef .tc b)) fun w => pdats_A W p c w
    have hpre := Entails.of_eq (prefHeld_emp (F := F) p c).symm
    iintro ⟨⟨Hub, HO⟩, -, -⟩
    ihave H := hsplit $$ Hub
    icases H with ⟨Ha, Hrest⟩
    imodintro
    isplitl [Ha]; · iexact Ha
    isplitr; · iapply hpre; iempintro
    isplitl [HO]
    · unfold Pipeline.Dat.owesAt Pipeline.owesWithin tcOwes
      icases HO with ⟨%Wt, %hWt, HO⟩; iexists Wt
      isplitr; · ipureintro; exact fun q hq => Or.inl (by rw [pdats_recorded]; exact hWt q hq)
      rw [pdats_owed]; iexact HO
    isplitr; · iempintro
    iexact Hrest
  hin c := by
    rw [pdats_Φ]
    iintro ⟨-, -, Hr⟩; iexact Hr
  hout c := by
    rw [Pipeline.ownSems0_none, pdats_Φ]
    iintro Hr
    isplitr; · iempintro
    isplitr; · iempintro
    iexact Hr
  hexit c := by
    have hjoin := Pipeline.unscopedBufs_of_arrays (p := p) (pcfgs (F := F)) adm (Ix := HIx 5) (Name := ℕ) (U := UU) (Lvl := ℕ) (launchF p).win (launchF p).arr_whole c
      (pdats W) ((pdats W p c).share_full fun w => pdats_q W p c w) (fun b => W (Proc.devRef .tc b)) (fun b => W' (Proc.devRef .tc b)) ((pdats W p c).arrAt · (cfgs p).N)
      (hW c) hW'
    iintro ⟨Ha, HO, -, Hrest⟩
    imodintro
    isplitl [Ha Hrest]
    · iapply hjoin; isplitl [Ha] <;> iassumption
    unfold Pipeline.Dat.owesAt Pipeline.owesWithin tcOwes
    icases HO with ⟨%Wt, %hWt, HO⟩; iexists Wt
    isplitr
    · ipureintro; intro q hq
      rcases hWt (Finset.mem_coe.mpr hq) with h | ⟨w, s, rfl⟩
      · rw [pdats_recorded] at h; exact h
      · exact Nat.zero_le _
    rw [pdats_owed]; iexact HO

/-- The staging cells of all the pipelines are distinct. -/
theorem cells_inj : Function.Injective (Pipeline.cellOf (nD := nD) (τ := τ) (Pipeline.pin (pcfgs (F := F)) adm)) := cellOf_inj

/-- THE RULE of a TensorCore call: from the boundary, the unscoped buffers at `W`, what the TensorCore owes, the levels
    and the pipeline's ghost state, the call runs to the buffers at `W'`. -/
theorem wp_tcCall (d : Dev nD) (W W' : VV F) (p : Fin 5)
    (hW : ∀ c w, (pdats W p c).arrAt w (cfgs p).N = W' (Proc.devRef .tc (Pipeline.arrRef (cfgs p).spec w)))
    (hW' : ∀ b : Ref sig .tc, b ∉ Finset.univ.image (Pipeline.arrRef (cfgs p).spec) → W' (Proc.devRef .tc b) = W (Proc.devRef .tc b))
    (Q : PUnit → sProp 𝕄) :
    iprop(boundary (T d) ∗ unscopedBufs d (fun b => W (Proc.devRef .tc b)) ∗ tcOwes (F := F) d (p.val + 1) ∗ levAts ((K (F := F)).L) (K (F := F)).lev
        ∗ Pipeline.cellsGhost (Pipeline.pin (pcfgs (F := F)) adm) EP p d ∗ Pipeline.toksInit (Pipeline.pin (pcfgs (F := F)) adm) EP p d
        ∗ ((boundary (T d) ∗ unscopedBufs d (fun b => W' (Proc.devRef .tc b)) ∗ tcOwes (F := F) d (p.val + 1)) -∗ Q ⟨⟩))
      ⊢ wp frame (wpE ((K (F := F)).defs (D (F := F))) 𝒱 (T d) none) Set.univ
          (Prog.lift (.customCall (SparseCore.inner (Pipeline.entry p)) ())) Q := by
  have hr := Pipeline.RegionSeg.wp (pcfgs (F := F)) adm (pdats W) (none : HIx 5) (cells_inj (F := F)) EP (defs₀ (F := F)) 𝒱₀
    ((K (F := F)).L (nD := nD)) (K (F := F)).lev (seg W W' p hW hW') d none (fun _ h => nomatch h) (fun _ => .ret ⟨⟩) Q
  have h2 := ((K (F := F)).wp_liftProg (D (F := F)) 𝒱 (T d) Set.univ none (.op (.customCall (Pipeline.entry p) ()) fun _ => .ret ⟨⟩) Q)
  have h3 : (Prog.lift (.customCall (SparseCore.inner (Pipeline.entry p)) ()) : Prog (TpuEff nD τ sig (Elt F) (SparseCore.Sig (Pipeline.Sig Λ₀ (Fin 5) fun p => (pcfgs (F := F) p).Adm) 5) .tc) PUnit) = SparseCore.liftProg (.op (.customCall (Pipeline.entry p) ()) fun _ => .ret ⟨⟩) := rfl
  rw [h3]
  iintro ⟨Hb, Hu, HO, #Hl, Hg, Ht, Hk⟩
  iapply h2
  iapply hr
  isplitl [Hk]
  · rw [wp_ret]
    iintro ⟨Hb, H⟩
    unfold seg
    icases H with ⟨Hu, HO⟩
    imodintro
    iapply Hk
    isplitl [Hb]; · iexact Hb
    isplitl [Hu] <;> iassumption
  isplitl [Hb]; · iexact Hb
  isplitl [Hu HO]
  · unfold seg
    isplitl [Hu] <;> iassumption
  isplitl []; · iexact Hl
  isplitl [Hg] <;> iassumption

end Cert.KernelIdeal.Proof

end
-- ==== Proof.Steps.lean ====
/-
  The gather kernel's five memory operations as proof rules, each once for every slot, block and call: fetch a block of
  indices into a slot and wait for it; gather the block's rows of the table and wait; send a slot of rows out to its
  block of the output and wait. A tile owns the indices and the output rows of its own blocks and reads the table
  through a share.
-/
module

public import proofs.«01_k».proof.Proof.Base

@[expose] public section

noncomputable section

namespace Cert.KernelIdeal.Proof

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type}

local notation "𝕄" => MT nD τ sig (HIx 5) (Elt F) ℕ UU ℕ

/-! ## The pieces of the buffers -/

/-- The entries of the index list in block `j`. -/
def blkX (j : ℕ) : Finset S1x40960.Idx := Finset.univ.filter fun y => 128 * j ≤ (y 1).val ∧ (y 1).val < 128 * j + 128
/-- The rows of the output in block `j`. -/
def blkO (j : ℕ) : Finset S40960x128.Idx := Finset.univ.filter fun y => 128 * j ≤ (y 0).val ∧ (y 0).val < 128 * j + 128

theorem slotI_inb (p : Fin 2) : ∀ a, (![p.val, 0, 0] : Fin 3 → ℕ) a + S1x1x128.size a ≤ S2x1x128.size a := by
  revert p; decide
theorem slotR_inb (p : Fin 2) : ∀ a, (![p.val, 0, 0] : Fin 3 → ℕ) a + S1x128x128.size a ≤ S2x128x128.size a := by
  revert p; decide
theorem slotS_inb (p : Fin 2) : ∀ a, (![p.val] : Fin 1 → ℕ) a + S1.size a ≤ S2.size a := by
  revert p; decide
theorem blkX_inb (j : ℕ) (hj : j < 320) : ∀ a, (![0, 128 * j] : Fin 2 → ℕ) a + S1x128.size a ≤ S1x40960.size a := fun a => by
  match a with
  | ⟨0, _⟩ => simp
  | ⟨1, _⟩ => simp; omega
theorem blkO_inb (j : ℕ) (hj : j < 320) : ∀ a, (![128 * j, 0] : Fin 2 → ℕ) a + S128x128.size a ≤ S40960x128.size a := fun a => by
  match a with
  | ⟨0, _⟩ => simp; omega
  | ⟨1, _⟩ => simp

/-- Slot `p` of the index buffer, as a row of 128 words. -/
abbrev idxSlot (A : Memref sig .scVector .vmem S2x1x128 .i32) (o : Fin 3 → ℕ) (h : ∀ a, o a + S1x1x128.size a ≤ S2x1x128.size a) :
    Memref sig .scVector .vmem S1x128 .i32 :=
  (A.slice (Rect.unit (s := S2x1x128) o S1x1x128.size h) (fun _ => rfl)).squeeze S1x128 squeezes_S1x1x128_S1x128
/-- Slot `p` of the row buffer. -/
abbrev rowSlot (R : Memref sig .scVector .vmem S2x128x128 .f32) (o : Fin 3 → ℕ) (h : ∀ a, o a + S1x128x128.size a ≤ S2x128x128.size a) :
    Memref sig .scVector .vmem S128x128 .f32 :=
  (R.slice (Rect.unit (s := S2x128x128) o S1x128x128.size h) (fun _ => rfl)).squeeze S128x128 squeezes_S1x128x128_S128x128
/-- One semaphore of a pair. -/
abbrev semSlot (s : DmaSems sig S2) (o : Fin 1 → ℕ) (h : ∀ a, o a + S1.size a ≤ S2.size a) : DmaSems sig S_ :=
  (s.slice (Rect.unit (s := S2) o S1.size h)).squeeze S_ squeezes_S1_S_
/-- A block of the index list. -/
abbrev idxBlk (X : Memref sig .scVector .hbm S1x40960 .i32) (o : Fin 2 → ℕ) (h : ∀ a, o a + S1x128.size a ≤ S1x40960.size a) :
    Memref sig .scVector .hbm S1x128 .i32 := X.slice (Rect.unit (s := S1x40960) o S1x128.size h) (fun _ => rfl)
/-- A block of the output. -/
abbrev outBlk (O : Memref sig .scVector .hbm S40960x128 .f32) (o : Fin 2 → ℕ) (h : ∀ a, o a + S128x128.size a ≤ S40960x128.size a) :
    Memref sig .scVector .hbm S128x128 .f32 := O.slice (Rect.unit (s := S40960x128) o S128x128.size h) (fun _ => rfl)
/-- The whole table, as the gather addresses it. -/
abbrev tblAll (Tb : Memref sig .scVector .hbm S100000x128 .f32) : Memref sig .scVector .hbm S100000x128 .f32 :=
  Tb.slice (Rect.unit (s := S100000x128) ![0, 0] S100000x128.size inb_S100000x128_S100000x128_0_0) (fun _ => rfl)
/-- An index slot as the list the gather reads. -/
abbrev slotList (m : Memref sig .scVector .vmem S1x128 .i32) : Memref sig .scVector .vmem S128 .i32 :=
  (m.slice (Rect.unit (s := S1x128) ![0, 0] S1x128.size inb_S1x128_S1x128_0_0) (fun _ => rfl)).squeeze S128 squeezes_S1x128_S128

theorem set_idxBlk (X : Memref sig .scVector .hbm S1x40960 .i32) (j : ℕ) (hj : j < 320) :
    (idxBlk X ![0, 128 * j] (blkX_inb j hj)).view.set = X.view.setOn (blkX j) := by
  show (X.view.slice _).set = _
  rw [View.set_slice]
  refine congrArg (Finset.map X.view.emb) (Finset.ext fun y => ?_)
  rw [Rect.mem_set_unit, blkX, Finset.mem_filter, and_iff_right (Finset.mem_univ y)]
  constructor
  · intro h; exact h 1
  · intro h a
    match a with
    | ⟨0, _⟩ => exact ⟨Nat.zero_le _, by have := (y 0).isLt; simpa using this⟩
    | ⟨1, _⟩ => exact h

theorem set_outBlk (O : Memref sig .scVector .hbm S40960x128 .f32) (j : ℕ) (hj : j < 320) :
    (outBlk O ![128 * j, 0] (blkO_inb j hj)).view.set = O.view.setOn (blkO j) := by
  show (O.view.slice _).set = _
  rw [View.set_slice]
  refine congrArg (Finset.map O.view.emb) (Finset.ext fun y => ?_)
  rw [Rect.mem_set_unit, blkO, Finset.mem_filter, and_iff_right (Finset.mem_univ y)]
  constructor
  · intro h; exact h 0
  · intro h a
    match a with
    | ⟨0, _⟩ => exact h
    | ⟨1, _⟩ => exact ⟨Nat.zero_le _, by have := (y 1).isLt; simpa using this⟩

theorem emb_idxBlk (j : ℕ) (hj : j < 320) (k : Fin 128) :
    (Rect.unit (s := S1x40960) ![0, 128 * j] S1x128.size (blkX_inb j hj)).emb (ix2 (0 : Fin 1) k)
      = ix2 (0 : Fin 1) (⟨128 * j + k.val, by omega⟩ : Fin 40960) := by
  funext a
  match a with
  | ⟨0, _⟩ => rfl
  | ⟨1, _⟩ => exact Fin.ext (by simp [Rect.emb_apply])

theorem emb_outBlk (j : ℕ) (hj : j < 320) (r k : Fin 128) :
    (Rect.unit (s := S40960x128) ![128 * j, 0] S128x128.size (blkO_inb j hj)).emb (ix2 r k)
      = ix2 (⟨128 * j + r.val, by omega⟩ : Fin 40960) k := by
  funext a
  match a with
  | ⟨0, _⟩ => exact Fin.ext (by simp [Rect.emb_apply])
  | ⟨1, _⟩ => exact Fin.ext (by simp [Rect.emb_apply])

/-- Two contents that read the same through a view at an index agree at the element under it. -/
theorem eq_of_read {κ : Kind} {sp : Space} {s : Shape} {e : EltTy} (v : View sig κ sp s e) {f g : v.ty.Contents (Elt F)} {z : s.Idx}
    (h : v.read (Elt F) f z = v.read (Elt F) g z) : f (v.emb z) = g (v.emb z) := by
  rw [View.read_apply, View.read_apply] at h
  exact cast_inj _ |>.1 h

/-! ## What a tile holds -/

section Rules

variable {Λ : Labels} {defs : Defs nD τ sig (Elt F) Λ} (𝒱r : Variants) (bd : Option 𝒱r.V)
variable (d : Dev nD) (x : Fin τ.nSC) (y : Fin τ.nSub)
variable (Tb : Memref sig .scVector .hbm S100000x128 .f32) (X : Memref sig .scVector .hbm S1x40960 .i32)
  (O : Memref sig .scVector .hbm S40960x128 .f32) (A : Memref sig .scVector .vmem S2x1x128 .i32)
  (R : Memref sig .scVector .vmem S2x128x128 .f32) (s5 s6 : DmaSems sig S2) (sg : DmaSems sig S_)

local notation "th" => V d x y

variable (qT : PosShare TreeShare) (fT : Buf (Elt F) (Tb.view.loc (V d x y))) (fX : Buf (Elt F) (X.view.loc (V d x y)))
  (fG : Buf (Elt F) (O.view.loc (V d x y)))

/-- Block `j` of the index list. -/
def XB (j : ℕ) : sProp 𝕄 := X.view.loc (V d x y) ↦[X.view.setOn (blkX j)]{fullShare} fX
/-- Block `j` of the output, at contents `f`. -/
def OB (f : Buf (Elt F) (O.view.loc (V d x y))) (j : ℕ) : sProp 𝕄 := O.view.loc (V d x y) ↦[O.view.setOn (blkO j)]{fullShare} f
/-- The table's share. -/
def TB : sProp 𝕄 := Tb.view.loc (V d x y) ↦[Tb.view.set]{qT} fT
/-- Index slot `p`, at any contents. -/
def IdxFree (p : Fin 2) : sProp 𝕄 :=
  iprop(∃ f, (idxSlot A _ (slotI_inb p)).view.loc (V d x y) ↦[(idxSlot A _ (slotI_inb p)).view.set]{fullShare} f)
/-- Index slot `p`, holding block `j` of the index list. -/
def IdxFull (p : Fin 2) (j : ℕ) : sProp 𝕄 :=
  iprop(∃ f, ⌜∀ (h : j < 320) (k : Fin 128), (idxSlot A _ (slotI_inb p)).view.read (Elt F) f (ix2 (0 : Fin 1) k)
        = X.view.read (Elt F) fX (ix2 (0 : Fin 1) (⟨128 * j + k.val, by omega⟩ : Fin 40960))⌝
      ∗ (idxSlot A _ (slotI_inb p)).view.loc (V d x y) ↦[(idxSlot A _ (slotI_inb p)).view.set]{fullShare} f)
/-- Row slot `p`, at any contents. -/
def RowFree (p : Fin 2) : sProp 𝕄 :=
  iprop(∃ f, (rowSlot R _ (slotR_inb p)).view.loc (V d x y) ↦[(rowSlot R _ (slotR_inb p)).view.set]{fullShare} f)
/-- Row slot `p`, holding block `j` of the gathered rows `fG`. -/
def RowFull (p : Fin 2) (j : ℕ) : sProp 𝕄 :=
  iprop(∃ f, ⌜∀ (h : j < 320) (r k : Fin 128), (rowSlot R _ (slotR_inb p)).view.read (Elt F) f (ix2 r k)
        = O.view.read (Elt F) fG (ix2 (⟨128 * j + r.val, by omega⟩ : Fin 40960) k)⌝
      ∗ (rowSlot R _ (slotR_inb p)).view.loc (V d x y) ↦[(rowSlot R _ (slotR_inb p)).view.set]{fullShare} f)
/-- Semaphore `p` of a pair, at zero. -/
def Sem0 (s : DmaSems sig S2) (p : Fin 2) : sProp 𝕄 := semVal (V d x y, .dma (semSlot s _ (slotS_inb p)).sem) 0
/-- The gather's semaphore, at zero. -/
def SemG : sProp 𝕄 := semVal (V d x y, .dma sg.sem) 0
/-- What the tile owes; the waits recorded are `W` and waits of no handshake. -/
def Ow (Od : CellTallies nD τ sig (HIx 5)) (W : Waits sig (HIx 5)) : sProp 𝕄 :=
  iprop(∃ W', ⌜∀ p ∈ W', p ∈ W ∨ p.2 = none⌝ ∗ owes (V d x y) Od W')

/-- What the fetch of a block credits. -/
abbrev NI (p : Fin 2) : ℕ := (idxSlot A _ (slotI_inb p)).view.dmaCredit
abbrev NO (j : ℕ) (hj : j < 320) : ℕ := (outBlk O _ (blkO_inb j hj)).view.dmaCredit

/-- The fetch of block `j` into slot `p` is on its way. -/
def FlI (p : Fin 2) (j : ℕ) : sProp 𝕄 :=
  Transfers.Flight countersEmb (V d x y) (.dma (semSlot s5 _ (slotS_inb p)).sem) (none : HIx 5) (NI A p)
    iprop(IdxFull d x y X A fX p j ∗ XB d x y X fX j)
/-- Row slot `p` is on its way out to block `j`. -/
def FlO (p : Fin 2) (j : ℕ) : sProp 𝕄 :=
  iprop(∃ hj : j < 320, Transfers.Flight countersEmb (V d x y) (.dma (semSlot s6 _ (slotS_inb p)).sem) (none : HIx 5) (NO O j hj)
    iprop(OB d x y O fG j ∗ RowFree (F := F) d x y R p))

variable {α : Type} {Q : α → sProp (MT nD τ sig (HIx 5) (Elt F) ℕ UU ℕ)}

theorem wp_fetch (p : Fin 2) (j : ℕ) (hj : j < 320) {o4 : Fin 3 → ℕ} {o5 : Fin 2 → ℕ} {o6 : Fin 1 → ℕ}
    (h4 : o4 = ![p.val, 0, 0]) (h5 : o5 = ![0, 128 * j]) (h6 : o6 = ![p.val]) {i4 i5 i6 hws hwd hc}
    {Q : PUnit → sProp 𝕄} :
    iprop(IdxFree (F := F) d x y A p ∗ Sem0 (F := F) d x y s5 p ∗ XB d x y X fX j)
      ⊢ iprop((FlI d x y X A s5 fX p j -∗ Q ⟨⟩)
        -∗ wp frame (wpE defs 𝒱r (V d x y) bd) Set.univ
          (Prog.lift (.enqueueDma (idxBlk X o5 i5) (.here (idxSlot A o4 i4)) (.dma (semSlot s5 o6 i6).sem) hws hwd hc)) Q) := by
  subst h4 h5 h6
  unfold IdxFree Sem0 XB
  iintro ⟨⟨%fd, Hd⟩, Hs, HX⟩ Hk
  ihave HX' := (Entails.of_eq (show (X.view.loc (V d x y) ↦[X.view.setOn (blkX j)]{fullShare} fX : sProp 𝕄)
    = ((idxBlk X ![0, 128 * j] i5).view.loc (V d x y) ↦[(idxBlk X ![0, 128 * j] i5).view.set]{fullShare} fX) by
      rw [set_idxBlk X j hj])) $$ HX
  iapply (Transfers.wp_dmaLocal countersEmb 𝒱r (V d x y) bd (none : HIx 5) (NI A p) rfl
    (View.dmaCredit_pos _ (by decide)) (Finset.Subset.refl _)) $$ [HX' Hd Hs]
  · isplitl [HX']; · iexact HX'
    isplitl [Hd]; · iexact Hd
    iexact Hs
  iintro Hf
  rw [wp_ret]
  imodintro
  iapply Hk
  unfold FlI
  iapply (Transfers.Flight_mono (EC := countersEmb) (c := V d x y)) $$ Hf
  iintro ⟨Hd, HX⟩
  isplitl [Hd]
  · unfold IdxFull
    iexists _
    isplitr
    swap; · iexact Hd
    ipureintro
    intro h k
    rw [View.read_write_univ]
    show X.view.read (Elt F) fX _ = _
    exact congrArg _ (emb_idxBlk j hj k)
  · unfold XB
    rw [← set_idxBlk X j hj]
    iexact HX

theorem wp_waitFetch (p : Fin 2) (j : ℕ) {Od : CellTallies nD τ sig (HIx 5)} {W : Waits sig (HIx 5)}
    {o4 : Fin 3 → ℕ} {o5 : Fin 2 → ℕ} {o6 : Fin 1 → ℕ}
    (h4 : o4 = ![p.val, 0, 0]) (h6 : o6 = ![p.val]) {i4 i5 i6 hws hwd} {Q : PUnit → sProp 𝕄} :
    iprop(FlI d x y X A s5 fX p j ∗ Ow (F := F) d x y Od W ∗ Transfers.MayWaits (V d x y) (none : HIx 5) Od)
      ⊢ iprop((iprop(IdxFull d x y X A fX p j ∗ XB d x y X fX j ∗ Sem0 (F := F) d x y s5 p ∗ Ow (F := F) d x y Od W) -∗ Q ⟨⟩)
        -∗ wp frame (wpE defs 𝒱r (V d x y) bd) Set.univ
          (Prog.lift (.waitDma2 (semSlot s5 o6 i6).sem (idxBlk X o5 i5) (idxSlot A o4 i4) hws hwd)) Q) := by
  subst h4 h6
  unfold FlI Ow Sem0
  iintro ⟨Hf, ⟨%W', %hW, HO⟩, #Hmw⟩ Hk
  iapply (Transfers.wp_waitLocalO countersEmb 𝒱r (V d x y) bd (none : HIx 5) (N := NI A p) rfl) $$ [Hf HO]
  · isplitl [Hf]; · iexact Hf
    isplitl [HO]; · iexact HO
    iapply (Transfers.MayWaits.elim (SemLoc.dma (semSlot s5 _ (slotS_inb p)).sem)) $$ Hmw
  iintro ⟨⟨Hi, HX⟩, Hs, HO⟩
  rw [wp_ret]
  imodintro
  iapply Hk
  isplitl [Hi]; · iexact Hi
  isplitl [HX]; · iexact HX
  isplitl [Hs]; · iexact Hs
  iexists _
  isplitr
  swap; · iexact HO
  ipureintro
  intro q hq
  rcases Finset.mem_insert.1 hq with h | h
  · exact Or.inr (by rw [h])
  · exact hW q h

theorem wp_send (p : Fin 2) (j : ℕ) (hj : j < 320) {f : Buf (Elt F) (O.view.loc (V d x y))}
    {o4 : Fin 3 → ℕ} {o5 : Fin 2 → ℕ} {o6 : Fin 1 → ℕ}
    (h4 : o4 = ![p.val, 0, 0]) (h5 : o5 = ![128 * j, 0]) (h6 : o6 = ![p.val]) {i4 i5 i6 hws hwd hc}
    {Q : PUnit → sProp 𝕄} :
    iprop(RowFull d x y O R fG p j ∗ Sem0 (F := F) d x y s6 p ∗ OB d x y O f j)
      ⊢ iprop((FlO d x y O R s6 fG p j -∗ Q ⟨⟩)
        -∗ wp frame (wpE defs 𝒱r (V d x y) bd) Set.univ
          (Prog.lift (.enqueueDma (rowSlot R o4 i4) (.here (outBlk O o5 i5)) (.dma (semSlot s6 o6 i6).sem) hws hwd hc)) Q) := by
  subst h4 h5 h6
  unfold RowFull Sem0 OB
  iintro ⟨⟨%fr, %hr, Hr⟩, Hs, HO⟩ Hk
  ihave HO' := (Entails.of_eq (show (O.view.loc (V d x y) ↦[O.view.setOn (blkO j)]{fullShare} f : sProp 𝕄)
    = ((outBlk O ![128 * j, 0] i5).view.loc (V d x y) ↦[(outBlk O ![128 * j, 0] i5).view.set]{fullShare} f) by
      rw [set_outBlk O j hj])) $$ HO
  iapply (Transfers.wp_dmaLocal countersEmb 𝒱r (V d x y) bd (none : HIx 5) (NO O j hj) rfl
    (View.dmaCredit_pos _ (by decide)) (Finset.Subset.refl _)) $$ [HO' Hr Hs]
  · isplitl [Hr]; · iexact Hr
    isplitl [HO']; · iexact HO'
    iexact Hs
  iintro Hf
  rw [wp_ret]
  imodintro
  iapply Hk
  unfold FlO
  iexists hj
  iapply (Transfers.Flight_mono (EC := countersEmb) (c := V d x y)) $$ Hf
  iintro ⟨HO, Hr⟩
  isplitl [HO]
  · unfold OB
    rw [← set_outBlk O j hj]
    iapply (Entails.of_eq (pointsTo_congr (f := (outBlk O _ (blkO_inb j hj)).view.write (Elt F) f
      ((rowSlot R _ (slotR_inb p)).view.read (Elt F) fr) Finset.univ) ?_)) $$ HO
    intro i hi
    obtain ⟨z, -, rfl⟩ := Finset.mem_map.1 hi
    refine eq_of_read (outBlk O _ (blkO_inb j hj)).view ?_
    rw [View.read_write_univ]
    obtain ⟨r, k, rfl⟩ : ∃ r k, z = ix2 r k := ⟨_, _, eq_ix2 z⟩
    refine (hr hj r k).trans (congrArg (O.view.read (Elt F) fG) (emb_outBlk j hj r k).symm)
  · unfold RowFree
    iexists _
    iexact Hr

theorem wp_waitSend (p : Fin 2) (j : ℕ) (hj : j < 320) {Od : CellTallies nD τ sig (HIx 5)} {W : Waits sig (HIx 5)}
    {o4 : Fin 3 → ℕ} {o5 : Fin 2 → ℕ} {o6 : Fin 1 → ℕ}
    (h5 : o5 = ![128 * j, 0]) (h6 : o6 = ![p.val]) {i4 i5 i6 hws hwd} {Q : PUnit → sProp 𝕄} :
    iprop(FlO d x y O R s6 fG p j ∗ Ow (F := F) d x y Od W ∗ Transfers.MayWaits (V d x y) (none : HIx 5) Od)
      ⊢ iprop((iprop(OB d x y O fG j ∗ RowFree (F := F) d x y R p ∗ Sem0 (F := F) d x y s6 p ∗ Ow (F := F) d x y Od W) -∗ Q ⟨⟩)
        -∗ wp frame (wpE defs 𝒱r (V d x y) bd) Set.univ
          (Prog.lift (.waitDma2 (semSlot s6 o6 i6).sem (rowSlot R o4 i4) (outBlk O o5 i5) hws hwd)) Q) := by
  subst h5 h6
  unfold FlO Ow Sem0
  iintro ⟨⟨%_, Hf⟩, ⟨%W', %hW, HO⟩, #Hmw⟩ Hk
  iapply (Transfers.wp_waitLocalO countersEmb 𝒱r (V d x y) bd (none : HIx 5) (N := NO O j hj) rfl) $$ [Hf HO]
  · isplitl [Hf]; · iexact Hf
    isplitl [HO]; · iexact HO
    iapply (Transfers.MayWaits.elim (SemLoc.dma (semSlot s6 _ (slotS_inb p)).sem)) $$ Hmw
  iintro ⟨⟨Hi, HX⟩, Hs, HO⟩
  rw [wp_ret]
  imodintro
  iapply Hk
  isplitl [Hi]; · iexact Hi
  isplitl [HX]; · iexact HX
  isplitl [Hs]; · iexact Hs
  iexists _
  isplitr
  swap; · iexact HO
  ipureintro
  intro q hq
  rcases Finset.mem_insert.1 hq with h | h
  · exact Or.inr (by rw [h])
  · exact hW q h

/-! ## The gather -/

/-- The list a gather reads is the slot's row of words. -/
theorem read_slotList (m : Memref sig .scVector .vmem S1x128 .i32) (f : Buf (Elt F) (m.view.loc (V d x y))) (k : Fin 128) :
    (slotList m).view.read (Elt F) f (ix1 k) = m.view.read (Elt F) f (ix2 (0 : Fin 1) k) := by
  show m.view.read (Elt F) f _ = _
  refine congrArg _ ?_
  show (Rect.unit (s := S1x128) ![0, 0] S1x128.size inb_S1x128_S1x128_0_0).emb (Shape.reshapeEquiv _ (ix1 k)) = _
  rw [Shape.reshapeEquiv_eq_of_rowMajor (y := ix2 (0 : Fin 1) k) _ (by
    rw [Shape.rowMajor_val_two, Shape.rowMajor_val_one]
    show 0 * 128 + k.val = k.val
    omega)]
  funext a
  match a with
  | ⟨0, _⟩ => rfl
  | ⟨1, _⟩ => exact Fin.ext (by simp [Rect.emb_apply])

/-- What a tile's transfer credits is a function of its shape. -/
theorem credit_eq {sp : Space} {s : Shape} {e : EltTy} (v : View sig .scVector sp s e) :
    v.dmaCredit = RefSig.kindCredit RefSig.tileCredit RefSig.tileCredit_eq_zero RefSig.tileCredit_pos .scVector s e := rfl

theorem set_slotList (m : Memref sig .scVector .vmem S1x128 .i32) : (slotList m).view.set = m.view.set := by
  show ((m.view.slice _).reshape _ _).set = _
  rw [View.set_reshape, View.set_slice]
  refine congrArg (Finset.map m.view.emb) (Finset.ext fun z => ?_)
  rw [Rect.mem_set_unit, iff_true_right (Finset.mem_univ z)]
  intro a
  match a with
  | ⟨0, _⟩ => exact ⟨Nat.zero_le _, by have := (z 0).isLt; simpa using this⟩
  | ⟨1, _⟩ => exact ⟨Nat.zero_le _, by have := (z 1).isLt; simpa using this⟩

theorem credit_sum (h : S100000x128.Gathers 0 S128x128) :
    ∑ _j : Fin (S128x128.size h.axis'), (RefSig.kindCredit RefSig.tileCredit RefSig.tileCredit_eq_zero RefSig.tileCredit_pos .scVector
        (S128x128.rowShape h.axis') .f32 : ℕ)
      = RefSig.kindCredit RefSig.tileCredit RefSig.tileCredit_eq_zero RefSig.tileCredit_pos .scVector S128x128 .f32 := by
  revert h
  decide

theorem credit_rows (h : S100000x128.Gathers 0 S128x128) (p : Fin 2) :
    ∑ j, ((rowSlot R _ (slotR_inb p)).slice (S128x128.rowRect h.axis' j) (S128x128.stride_rowRect h.axis' j)).view.dmaCredit
      = (rowSlot R _ (slotR_inb p)).view.dmaCredit := by
  simp only [credit_eq]
  exact credit_sum h

theorem set_tblAll : (tblAll Tb).view.set = Tb.view.set := by
  show (Tb.view.slice _).set = _
  rw [View.set_slice]
  refine congrArg (Finset.map Tb.view.emb) (Finset.ext fun z => ?_)
  rw [Rect.mem_set_unit, iff_true_right (Finset.mem_univ z)]
  intro a
  match a with
  | ⟨0, _⟩ => exact ⟨Nat.zero_le _, by have := (z 0).isLt; simpa using this⟩
  | ⟨1, _⟩ => exact ⟨Nat.zero_le _, by have := (z 1).isLt; simpa using this⟩

theorem read_tblAll (i : Fin 100000) (k : Fin 128) :
    (tblAll Tb).view.read (Elt F) fT (ix2 i k) = Tb.view.read (Elt F) fT (ix2 i k) := by
  show Tb.view.read (Elt F) fT _ = _
  refine congrArg _ ?_
  funext a
  match a with
  | ⟨0, _⟩ => exact Fin.ext (by simp [Rect.emb_apply])
  | ⟨1, _⟩ => exact Fin.ext (by simp [Rect.emb_apply])

theorem wp_gather (p : Fin 2) (j : ℕ) (hj : j < 320) {Od : CellTallies nD τ sig (HIx 5)} {W : Waits sig (HIx 5)}
    (hX : ∀ k, (X.view.read (Elt F) fX k).toNat < 100000)
    (hG : ∀ (r : Fin 40960) (k : Fin 128), O.view.read (Elt F) fG (ix2 r k)
      = Tb.view.read (Elt F) fT (ix2 (⟨(X.view.read (Elt F) fX (ix2 (0 : Fin 1) r)).toNat, hX _⟩ : Fin 100000) k))
    {oR oR' : Fin 3 → ℕ} {oA : Fin 3 → ℕ} (hR : oR = ![p.val, 0, 0]) (hR' : oR' = ![p.val, 0, 0]) (hA : oA = ![p.val, 0, 0])
    {iR iR' iA hp hn hs he hsp hr hws hwd} {α : Type}
    {k : PUnit → Prog (TpuEff nD τ sig (Elt F) Λ (V d x y).2) α} {Q : α → sProp 𝕄} :
    iprop(RowFree (F := F) d x y R p ∗ IdxFull d x y X A fX p j ∗ TB d x y Tb qT fT ∗ SemG (F := F) d x y sg
        ∗ Ow (F := F) d x y Od W ∗ Transfers.MayWaits (V d x y) (none : HIx 5) Od)
      ⊢ iprop((iprop(RowFull d x y O R fG p j ∗ IdxFree (F := F) d x y A p ∗ TB d x y Tb qT fT ∗ SemG (F := F) d x y sg
            ∗ Ow (F := F) d x y Od W) -∗ wp frame (wpE defs 𝒱r (V d x y) bd) Set.univ (k ⟨⟩) Q)
        -∗ wp frame (wpE defs 𝒱r (V d x y) bd) Set.univ
          (SparseCore.enqueueIndirectGather hp (tblAll Tb) (rowSlot R oR iR) gathers_S100000x128_S128x128 (slotList (idxSlot A oA iA))
              hn sg.sem hs he hsp hr >>= fun _ =>
            SparseCore.waitIndirectGather sg.sem (tblAll Tb) (rowSlot R oR' iR') hws hwd >>= k) Q) := by
  subst hR hR' hA
  unfold RowFree IdxFull SemG Ow
  iintro ⟨⟨%fr, Hr⟩, ⟨%fi, %hi, Hi⟩, HT, Hs, ⟨%W', %hW, HO⟩, #Hmw⟩ Hk
  have hin : ∀ z, ((slotList (idxSlot A _ (slotI_inb p))).view.read (Elt F) fi z).toNat
      < S100000x128.size (Shape.Gathers.axis gathers_S100000x128_S128x128) := by
    intro z
    obtain ⟨k, rfl⟩ : ∃ k, z = ix1 k := ⟨_, eq_ix1 z⟩
    rw [read_slotList d x y, hi hj]
    exact hX _
  have hset : (slotList (idxSlot A _ (slotI_inb p))).view.set = (idxSlot A _ (slotI_inb p)).view.set := set_slotList _
  unfold TB
  rw [← set_tblAll Tb, ← hset]
  iapply (SparseCore.wp_indirectGatherLocal countersEmb 𝒱r (V d x y) bd (hg := gathers_S100000x128_S128x128) (none : HIx 5)
      (rowSlot R _ (slotR_inb p)).view.dmaCredit (credit_rows R _ p) (by decide) hin) $$ [HT Hr Hi Hs]
  · isplitl [HT]; · iexact HT
    isplitl [Hr]; · iexact Hr
    isplitl [Hi]; · iexact Hi
    iexact Hs
  iintro Hf
  iapply (Transfers.wp_waitLocalO countersEmb 𝒱r (V d x y) bd (none : HIx 5) (N := (rowSlot R _ (slotR_inb p)).view.dmaCredit) rfl) $$ [Hf HO]
  · isplitl [Hf]; · iexact Hf
    isplitl [HO]; · iexact HO
    iapply (Transfers.MayWaits.elim (SemLoc.dma sg.sem)) $$ Hmw
  iintro ⟨⟨Hr, HT, Hi⟩, Hs, HO⟩
  iapply Hk
  isplitl [Hr]
  · unfold RowFull
    iexists _
    isplitr
    swap; · iexact Hr
    ipureintro
    intro h r k
    rw [View.read_write_univ, hG]
    show (tblAll Tb).view.read (Elt F) fT _ = _
    rw [← read_tblAll]
    refine congrArg _ ?_
    have hrow : (S128.rowMajor.symm ((r : Fin 128).cast hn.symm)) = ix1 r := by
      rw [Equiv.symm_apply_eq]
      refine Fin.ext ?_
      rw [Shape.rowMajor_val_one]
      rfl
    funext a
    match a with
    | ⟨0, h0⟩ =>
      refine (Shape.Gathers.idx_axis gathers_S100000x128_S128x128 _ (ix2 r k)).trans ?_
      refine Fin.ext ?_
      show ((slotList (idxSlot A _ (slotI_inb p))).view.read (Elt F) fi (S128.rowMajor.symm ((r : Fin 128).cast hn.symm))).toNat = _
      rw [hrow, read_slotList d x y, hi hj]
    | ⟨1, h1⟩ => rfl
  isplitl [Hi]
  · unfold IdxFree
    iexists _
    rw [← hset]
    iexact Hi
  isplitl [HT]; · iexact HT
  isplitl [Hs]; · iexact Hs
  iexists _
  isplitr
  swap; · iexact HO
  ipureintro
  intro q hq
  rcases Finset.mem_insert.1 hq with h | h
  · exact Or.inr (by rw [h])
  · exact hW q h

end Rules

end Cert.KernelIdeal.Proof
-- ==== Proof.Tile.lean ====
/-
  One tile's run of the gather kernel, with what it computes: from its own blocks of the index list, a share of the
  table, and its own blocks of the output, it leaves every one of its output rows holding the table's row that the
  index list names. The loop is double buffered: before trip `t` the indices of block `t` are on their way into slot
  `t mod 2`, the rows of block `t - 1` are on their way out, and the blocks before have arrived.
-/
module

public import proofs.«01_k».proof.Proof.Steps
public import proofs.«01_k».proof.Proof.Gen.KernelIdeal.Skeleton

@[expose] public section

noncomputable section

namespace Cert.KernelIdeal.Proof

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

local notation "𝕄" => MT nD τ sig (HIx 5) (Elt F) ℕ UU ℕ

/-- The slot of trip `n`. -/
def par (n : ℕ) : Fin 2 := ⟨n % 2, Nat.mod_lt _ (by decide)⟩

theorem par_add_two (n : ℕ) : par (n + 1 + 1) = par n := Fin.ext (by show (n + 1 + 1) % 2 = n % 2; omega)

theorem ico_step (n : ℕ) (hn : n < 10) (Φ : ℕ → sProp (MT nD τ sig (HIx 5) (Elt F) ℕ UU ℕ)) :
    bigSep (Finset.Ico n 10) Φ = iprop(Φ n ∗ bigSep (Finset.Ico (n + 1) 10) Φ) := by
  rw [← SparseCore.bigSep_insert' (i := n) (s := Finset.Ico (n + 1) 10) (by simp)]
  congr 1
  ext k
  simp only [Finset.mem_insert, Finset.mem_Ico]
  omega

theorem range_step (n : ℕ) (Φ : ℕ → sProp (MT nD τ sig (HIx 5) (Elt F) ℕ UU ℕ)) :
    bigSep (Finset.range (n + 1)) Φ = iprop(Φ n ∗ bigSep (Finset.range n) Φ) := by
  rw [Finset.range_add_one, SparseCore.bigSep_insert' Finset.notMem_range_self]

theorem range_pred (n : ℕ) (h : 1 ≤ n) (Φ : ℕ → sProp (MT nD τ sig (HIx 5) (Elt F) ℕ UU ℕ)) :
    iprop(Φ (n - 1) ∗ bigSep (Finset.range (n - 1)) Φ) = bigSep (Finset.range n) Φ := by
  obtain ⟨m, rfl⟩ : ∃ m, n = m + 1 := ⟨n - 1, by omega⟩
  exact (range_step m Φ).symm

/-- The tile's first block, as the kernel computes it. -/
def v4At (a : Fin (grid0.bound 0)) (b : Fin (grid0.bound 1)) : BitVec 32 :=
  Scalar.muli (Scalar.addi (Scalar.addi 0#32 (Scalar.muli (BitVec.ofNat 32 (coords a b 1).val) 1#32))
    (Scalar.muli (BitVec.ofNat 32 (coords a b 0).val) 16#32)) 10#32

/-- The five words the loop carries before trip `n`. -/
def carry (n : ℕ) : BitVec 32 × BitVec 32 × BitVec 32 × BitVec 32 × BitVec 32 := (w6 n, w7 n, w7 n, w9 n, w10 n)

/-- The words a trip yields, as the kernel computes them, are those carried before the next. -/
theorem yield_eq (a : Fin (grid0.bound 0)) (b : Fin (grid0.bound 1)) (t : Fin k0_t1_loop.trips) :
    (let v4 := v4At a b
     let arg5 : BitVec 32 := Scf.iv 0#32 1#32 t
     let v64 : BitVec 1 := Scalar.cmpi .eq arg5 0#32
     let v65 : BitVec 1 := Scalar.cmpi .eq arg5 9#32
     let v66 : BitVec 32 := Scalar.addi (w10 t) v4
     let v68 : BitVec 32 := Scalar.select 1#1 (Scalar.subi (w10 t) 1#32) (w10 t)
     let v71 : BitVec 32 := Scalar.addi (Scalar.select (Scalar.cmpi .eq v68 4294967295#32) 9#32 v68) v4
     let v73 : BitVec 32 := Scalar.select 1#1 (Scalar.addi (w10 t) 1#32) (w10 t)
     let v75 : BitVec 32 := Scalar.select (Scalar.cmpi .eq v73 10#32) 0#32 v73
     let v76 : BitVec 32 := Scalar.addi v75 v4
     let v85 : BitVec 1 := Scalar.andi (Scalar.cmpi .ne v66 v76) (Scalar.xori (Scalar.cmpi .sge arg5 9#32) 1#1)
     let v116 : BitVec 1 := Scalar.ori (Scalar.cmpi .ne v66 v76) v65
     let v130 : BitVec 1 := Scalar.andi (Scalar.cmpi .ne v66 v71) (Scalar.xori v64 1#1)
     ((Scalar.select (Scalar.andi v85 1#1) (Scalar.addi (w6 t) 1#32) (w6 t),
       Scalar.select v116 (Scalar.addi (w7 t) 1#32) (w7 t),
       Scalar.select (Scalar.andi v116 1#1) (Scalar.addi (w7 t) 1#32) (w7 t),
       Scalar.select (Scalar.andi v130 1#1) (Scalar.addi (w9 t) 1#32) (w9 t), v75) :
       BitVec 32 × BitVec 32 × BitVec 32 × BitVec 32 × BitVec 32)) = carry (t.val + 1) := by
  revert a b t; decide +kernel

section Body

variable [FloatOps F] {defs : Defs nD τ sig (Elt F) Λ₀} (𝒱r : Variants) (bd : Option 𝒱r.V)
variable (d : Dev nD) (a : Fin (grid0.bound 0)) (b : Fin (grid0.bound 1))

/-- The SparseCore and the subcore of tile `(a, b)`. -/
abbrev cAt (a : Fin (grid0.bound 0)) (b : Fin (grid0.bound 1)) : Fin τ.nSC := ((coords a b) 0).castLE hcore0
abbrev jAt (a : Fin (grid0.bound 0)) (b : Fin (grid0.bound 1)) : Fin τ.nSub := ((coords a b) 1).castLE hsub0

variable (Tb : Memref sig .scVector .hbm S100000x128 .f32) (X : Memref sig .scVector .hbm S1x40960 .i32)
  (O : Memref sig .scVector .hbm S40960x128 .f32) (A : Memref sig .scVector .vmem S2x1x128 .i32)
  (R : Memref sig .scVector .vmem S2x128x128 .f32) (s5 s6 : DmaSems sig S2) (sg : DmaSems sig S_)
variable (qT : PosShare TreeShare) (fT : Buf (Elt F) (Tb.view.loc (V d (cAt a b) (jAt a b))))
  (fX : Buf (Elt F) (X.view.loc (V d (cAt a b) (jAt a b))))
  (fG fO : Buf (Elt F) (O.view.loc (V d (cAt a b) (jAt a b))))
  (Od : CellTallies nD τ sig (HIx 5)) (W : Waits sig (HIx 5))

/-- The fetch side of slot `n mod 2` before trip `n`. -/
def InSide (n : ℕ) : sProp 𝕄 :=
  if n < 10 then FlI d (cAt a b) (jAt a b) X A s5 fX (par n) (blk a b n)
  else iprop(IdxFree (F := F) d (cAt a b) (jAt a b) A (par n) ∗ Sem0 (F := F) d (cAt a b) (jAt a b) s5 (par n))
/-- The send side of the other slot before trip `n`. -/
def OutSide (n : ℕ) : sProp 𝕄 :=
  if 1 ≤ n then FlO d (cAt a b) (jAt a b) O R s6 fG (par (n + 1)) (blk a b (n - 1))
  else iprop(RowFree (F := F) d (cAt a b) (jAt a b) R (par (n + 1)) ∗ Sem0 (F := F) d (cAt a b) (jAt a b) s6 (par (n + 1)))
theorem inSide_lt {n : ℕ} (h : n < 10) :
    InSide d a b X A s5 fX n = FlI d (cAt a b) (jAt a b) X A s5 fX (par n) (blk a b n) := if_pos h
theorem inSide_ge {n : ℕ} (h : ¬ n < 10) :
    InSide d a b X A s5 fX n
      = iprop(IdxFree (F := F) d (cAt a b) (jAt a b) A (par n) ∗ Sem0 (F := F) d (cAt a b) (jAt a b) s5 (par n)) := if_neg h
theorem outSide_pos {n : ℕ} (h : 1 ≤ n) :
    OutSide d a b O R s6 fG n = FlO d (cAt a b) (jAt a b) O R s6 fG (par (n + 1)) (blk a b (n - 1)) := if_pos h
theorem outSide_zero {n : ℕ} (h : ¬ 1 ≤ n) :
    OutSide d a b O R s6 fG n = iprop(RowFree (F := F) d (cAt a b) (jAt a b) R (par (n + 1))
      ∗ Sem0 (F := F) d (cAt a b) (jAt a b) s6 (par (n + 1))) := if_neg h
/-- What the tile holds before trip `n`. -/
def Held (n : ℕ) : sProp 𝕄 :=
  iprop(InSide d a b X A s5 fX n
    ∗ (IdxFree (F := F) d (cAt a b) (jAt a b) A (par (n + 1)) ∗ Sem0 (F := F) d (cAt a b) (jAt a b) s5 (par (n + 1)))
    ∗ OutSide d a b O R s6 fG n
    ∗ (RowFree (F := F) d (cAt a b) (jAt a b) R (par n) ∗ Sem0 (F := F) d (cAt a b) (jAt a b) s6 (par n))
    ∗ bigSep (Finset.range n) (fun k => XB d (cAt a b) (jAt a b) X fX (blk a b k))
    ∗ bigSep (Finset.Ico (n + 1) 10) (fun k => XB d (cAt a b) (jAt a b) X fX (blk a b k))
    ∗ bigSep (Finset.range (n - 1)) (fun k => OB d (cAt a b) (jAt a b) O fG (blk a b k))
    ∗ bigSep (Finset.Ico n 10) (fun k => OB d (cAt a b) (jAt a b) O fO (blk a b k))
    ∗ TB d (cAt a b) (jAt a b) Tb qT fT ∗ SemG (F := F) d (cAt a b) (jAt a b) sg ∗ Ow (F := F) d (cAt a b) (jAt a b) Od W)
/-- The loop's invariant. -/
def Inv (n : ℕ) (acc : BitVec 32 × BitVec 32 × BitVec 32 × BitVec 32 × BitVec 32) : sProp 𝕄 :=
  iprop(⌜acc = carry n⌝ ∗ Transfers.MayWaits (V d (cAt a b) (jAt a b)) (none : HIx 5) Od
    ∗ Held d a b Tb X O A R s5 s6 sg qT fT fX fG fO Od W n)

/-- A side condition that holds. -/
theorem wp_holds {c : Thread nD τ} {P : Prop} {dec : Decidable P} (h : P) {Q : PLift P → sProp 𝕄} :
    Q ⟨h⟩ ⊢ wp frame (wpE defs 𝒱r c bd) Set.univ (Prog.lift (TpuEff.assume (nD := nD) (τ := τ) (sig := sig) (Val := Elt F) (Λ := Λ₀) P dec)) Q := by
  unfold Prog.lift
  iintro H
  iapply (wp_assume 𝒱r c bd Set.univ h)
  rw [wp_ret]
  imodintro
  iexact H

/-- A guarded step in front of the rest of the program: both branches lead to the rest. -/
theorem wp_guard {c : Thread nD τ} {β : Type} {C : Prop} [Decidable C] {f : C → Prog (TpuEff nD τ sig (Elt F) Λ₀ c.2) PUnit}
    {k : PUnit → Prog (TpuEff nD τ sig (Elt F) Λ₀ c.2) β} (P : sProp 𝕄) {Q : β → sProp 𝕄} :
    iprop(wp frame (wpE defs 𝒱r c bd) Set.univ (if h : C then f h else pure ⟨⟩) (fun _ => P)
        ∗ (P -∗ wp frame (wpE defs 𝒱r c bd) Set.univ (k ⟨⟩) Q))
      ⊢ wp frame (wpE defs 𝒱r c bd) Set.univ (if h : C then f h >>= k else k ⟨⟩) Q := by
  by_cases h : C
  · rw [dif_pos h, dif_pos h, wp_bind]
    iintro ⟨Hw, Hk⟩
    iapply (wp_wand_r frame (wpE defs 𝒱r c bd) Set.univ (Q := fun _ => P))
    isplitl [Hw]; · iexact Hw
    iintro %_ HP
    iapply Hk
    iexact HP
  · rw [dif_neg h, dif_neg h, wp_pure]
    iintro ⟨Hw, Hk⟩
    imod Hw
    iapply Hk
    iexact Hw

/-- The middle of a trip: wait for the block's indices and gather its rows. -/
theorem middle (hTb : Tb.IsWhole) (hX : X.IsWhole) (hO : O.IsWhole) (hA : A.IsWhole) (hR : R.IsWhole)
    (hXr : ∀ k, (X.view.read (Elt F) fX k).toNat < 100000)
    (hG : ∀ (r : Fin 40960) (k : Fin 128), O.view.read (Elt F) fG (ix2 r k)
      = Tb.view.read (Elt F) fT (ix2 (⟨(X.view.read (Elt F) fX (ix2 (0 : Fin 1) r)).toNat, hXr _⟩ : Fin 100000) k))
    (t : Fin k0_t1_loop.trips) {hw3 hw2 hw1 v0 v1 v2 v3 v4 v5 v6} {Q : PUnit → sProp 𝕄} :
    iprop(InSide d a b X A s5 fX t.val ∗ RowFree (F := F) d (cAt a b) (jAt a b) R (par t.val)
        ∗ TB d (cAt a b) (jAt a b) Tb qT fT ∗ SemG (F := F) d (cAt a b) (jAt a b) sg ∗ Ow (F := F) d (cAt a b) (jAt a b) Od W
        ∗ Transfers.MayWaits (V d (cAt a b) (jAt a b)) (none : HIx 5) Od)
      ⊢ iprop((iprop(XB d (cAt a b) (jAt a b) X fX (blk a b t.val)
            ∗ (IdxFree (F := F) d (cAt a b) (jAt a b) A (par t.val) ∗ Sem0 (F := F) d (cAt a b) (jAt a b) s5 (par t.val))
            ∗ RowFull d (cAt a b) (jAt a b) O R fG (par t.val) (blk a b t.val)
            ∗ TB d (cAt a b) (jAt a b) Tb qT fT ∗ SemG (F := F) d (cAt a b) (jAt a b) sg
            ∗ Ow (F := F) d (cAt a b) (jAt a b) Od W) -∗ Q ⟨⟩)
        -∗ wp frame (wpE defs 𝒱r (V d (cAt a b) (jAt a b)) bd) Set.univ
          (k0_part2 (F := F) (coords a b) Tb hTb X hX O hO A hA s5 R hR s6 sg t (w6 t) (w7 t) (w7 t) (w9 t) (w10 t)
            hw3 hw2 hw1 v0 v1 v2 v3 v4 v5 v6) Q) := by
  have ht : t.val < 10 := by have := t.isLt; have := trips_eq; omega
  iintro ⟨HIn, HRf, HT, HSg, HO, #Hmw⟩ HQ
  rw [k0_part2_eq_skeleton]
  unfold k0_part2_skel
  simp only [wp_bind, ite_self, wp_pure]
  rw [dif_pos (cond2_eq a b t), wp_bind]
  ihave HIn := (Entails.of_eq (inSide_lt d a b X A s5 fX ht)) $$ HIn
  iapply (wp_waitFetch 𝒱r bd d (cAt a b) (jAt a b) X A s5 fX (par t.val) (blk a b t.val) (off7_eq t) (off9_eq t)) $$ [HIn HO]
  · isplitl [HIn]; · iexact HIn
    isplitl [HO]; · iexact HO
    iexact Hmw
  iintro ⟨HI, HX, HS5, HO⟩
  -- gather this block's rows
  iapply (wp_gather 𝒱r bd d (cAt a b) (jAt a b) Tb X O A R sg qT fT fX fG (par t.val) (blk a b t.val) (blk_lt a b _ ht) hXr hG
    (off10_eq t) (off10_eq t) (off11_eq t)) $$ [HRf HI HT HSg HO]
  · isplitl [HRf]; · iexact HRf
    isplitl [HI]; · iexact HI
    isplitl [HT]; · iexact HT
    isplitl [HSg]; · iexact HSg
    isplitl [HO]; · iexact HO
    iexact Hmw
  iintro ⟨HR, HI, HT, HSg, HO⟩
  rw [wp_pure]
  imodintro
  iapply HQ
  isplitl [HX]; · iexact HX
  isplitl [HI HS5]
  · isplitl [HI]; · iexact HI
    iexact HS5
  isplitl [HR]; · iexact HR
  isplitl [HT]; · iexact HT
  isplitl [HSg]; · iexact HSg
  iexact HO

/-- One trip. -/
theorem trip (hTb : Tb.IsWhole) (hX : X.IsWhole) (hO : O.IsWhole) (hA : A.IsWhole) (hR : R.IsWhole)
    (hXr : ∀ k, (X.view.read (Elt F) fX k).toNat < 100000)
    (hG : ∀ (r : Fin 40960) (k : Fin 128), O.view.read (Elt F) fG (ix2 r k)
      = Tb.view.read (Elt F) fT (ix2 (⟨(X.view.read (Elt F) fX (ix2 (0 : Fin 1) r)).toNat, hXr _⟩ : Fin 100000) k))
    (t : Fin k0_t1_loop.trips) (acc : BitVec 32 × BitVec 32 × BitVec 32 × BitVec 32 × BitVec 32) :
    Inv d a b Tb X O A R s5 s6 sg qT fT fX fG fO Od W t.val acc
      ⊢ wp frame (wpE defs 𝒱r (V d (cAt a b) (jAt a b)) bd) Set.univ
        (k0_t1_body (F := F) (coords a b) Tb hTb X hX O hO A hA s5 R hR s6 sg (v4At a b) t acc)
        (Inv d a b Tb X O A R s5 s6 sg qT fT fX fG fO Od W (t.val + 1)) := by
  have ht : t.val < 10 := by have := t.isLt; have := trips_eq; omega
  unfold Inv
  iintro ⟨%hacc, #Hmw, HH⟩
  subst hacc
  unfold k0_t1_body carry
  dsimp only
  rw [wp_bind, k0_part1_eq_skeleton]
  unfold k0_part1_skel
  simp only [wp_bind]
  iapply (wp_holds 𝒱r bd (chk3_ok t))
  iapply (wp_holds 𝒱r bd (chk2_ok t))
  iapply (wp_holds 𝒱r bd (chk1_ok a b t))
  unfold Held
  icases HH with ⟨HIn, ⟨HIf, HS5⟩, HOut, ⟨HRf, HS6⟩, HXd, HXr, HOd, HOr, HT, HSg, HO⟩
  -- fetch the next block's indices
  iapply (wp_guard 𝒱r bd (iprop(InSide d a b X A s5 fX (t.val + 1)
    ∗ bigSep (Finset.Ico (t.val + 1 + 1) 10) (fun k => XB d (cAt a b) (jAt a b) X fX (blk a b k)))))
  isplitl [HIf HS5 HXr]
  · by_cases h : t.val < 9
    · rw [dif_pos ((cond1_iff a b t).2 h)]
      ihave HXr' := (Entails.of_eq (ico_step (t.val + 1) (by omega) _)) $$ HXr
      icases HXr' with ⟨HX1, HXr⟩
      iapply (wp_fetch 𝒱r bd d (cAt a b) (jAt a b) X A s5 fX (par (t.val + 1)) (blk a b (t.val + 1))
        (blk_lt a b _ (by omega)) (off4_eq t h) (off5_eq a b t h) (off6_eq t h)) $$ [HIf HS5 HX1]
      · isplitl [HIf]; · iexact HIf
        isplitl [HS5]; · iexact HS5
        iexact HX1
      iintro Hf
      isplitl [Hf]
      · iapply (Entails.of_eq (inSide_lt d a b X A s5 fX (n := t.val + 1) (by omega)).symm) $$ Hf
      iexact HXr
    · rw [dif_neg (fun hc => h ((cond1_iff a b t).1 hc)), wp_pure]
      imodintro
      have h10 : t.val + 1 = 10 := by omega
      rw [show Finset.Ico (t.val + 1 + 1) 10 = Finset.Ico (t.val + 1) 10 by rw [h10]; rfl]
      isplitl [HIf HS5]
      · iapply (Entails.of_eq (inSide_ge d a b X A s5 fX (n := t.val + 1) (by omega)).symm)
        isplitl [HIf]; · iexact HIf
        iexact HS5
      iexact HXr
  iintro ⟨HIn', HXr⟩
  rw [wp_pure]
  imodintro
  -- wait for this block's indices
  iapply (middle 𝒱r bd d a b Tb X O A R s5 s6 sg qT fT fX fG Od W hTb hX hO hA hR hXr hG t) $$ [HIn HRf HT HSg HO]
  · isplitl [HIn]; · iexact HIn
    isplitl [HRf]; · iexact HRf
    isplitl [HT]; · iexact HT
    isplitl [HSg]; · iexact HSg
    isplitl [HO]; · iexact HO
    iexact Hmw
  iintro ⟨HX, HI, HR, HT, HSg, HO⟩
  simp only [ite_self]
  rw [dif_pos (cond5_eq a b t), wp_bind]
  ihave HOr' := (Entails.of_eq (ico_step t.val ht _)) $$ HOr
  icases HOr' with ⟨HO1, HOr⟩
  -- send this block's rows out
  iapply (wp_send 𝒱r bd d (cAt a b) (jAt a b) O R s6 fG (par t.val) (blk a b t.val) (blk_lt a b _ ht) (off12_eq t)
    (off13_eq a b t) (off14_eq t)) $$ [HR HS6 HO1]
  · isplitl [HR]; · iexact HR
    isplitl [HS6]; · iexact HS6
    iexact HO1
  iintro Hf
  -- wait for the rows of the block before
  iapply (wp_guard 𝒱r bd (iprop((RowFree (F := F) d (cAt a b) (jAt a b) R (par (t.val + 1))
      ∗ Sem0 (F := F) d (cAt a b) (jAt a b) s6 (par (t.val + 1)))
    ∗ bigSep (Finset.range t.val) (fun k => OB d (cAt a b) (jAt a b) O fG (blk a b k))
    ∗ Ow (F := F) d (cAt a b) (jAt a b) Od W)))
  isplitl [HOut HOd HO]
  · by_cases h : 1 ≤ t.val
    · rw [dif_pos ((cond7_iff a b t).2 h)]
      ihave HOut := (Entails.of_eq (outSide_pos d a b O R s6 fG h)) $$ HOut
      iapply (wp_waitSend 𝒱r bd d (cAt a b) (jAt a b) O R s6 fG (par (t.val + 1)) (blk a b (t.val - 1))
        (blk_lt a b _ (by omega)) (off16_eq a b t h) ((off17_eq t).trans (by
          show ![(t.val - 1) % 2] = ![(t.val + 1) % 2]
          rw [show (t.val - 1) % 2 = (t.val + 1) % 2 by omega]))) $$ [HOut HO]
      · isplitl [HOut]; · iexact HOut
        isplitl [HO]; · iexact HO
        iexact Hmw
      iintro ⟨HOB, HRf, HS6, HO⟩
      isplitl [HRf HS6]
      · isplitl [HRf]; · iexact HRf
        iexact HS6
      isplitl [HOB HOd]
      · iapply (Entails.of_eq (range_pred t.val h (fun k => OB d (cAt a b) (jAt a b) O fG (blk a b k))))
        isplitl [HOB]; · iexact HOB
        iexact HOd
      iexact HO
    · rw [dif_neg (fun hc => h ((cond7_iff a b t).1 hc)), wp_pure]
      imodintro
      isplitl [HOut]
      · iapply (Entails.of_eq (outSide_zero d a b O R s6 fG h)) $$ HOut
      isplitl [HOd]
      · rw [show t.val - 1 = t.val by omega]
        iexact HOd
      iexact HO
  iintro ⟨HRS, HOd, HO⟩
  rw [wp_pure]
  imodintro
  isplitr
  · ipureintro
    exact yield_eq a b t
  isplitr; · iexact Hmw
  isplitl [HIn']; · iexact HIn'
  rw [par_add_two]
  isplitl [HI]; · iexact HI
  isplitl [Hf]
  · iapply (Entails.of_eq (outSide_pos d a b O R s6 fG (n := t.val + 1) (by omega)).symm)
    rw [par_add_two]
    iexact Hf
  isplitl [HRS]; · iexact HRS
  isplitl [HX HXd]
  · rw [range_step]
    isplitl [HX]; · iexact HX
    iexact HXd
  isplitl [HXr]; · iexact HXr
  isplitl [HOd]; · iexact HOd
  isplitl [HOr]; · iexact HOr
  isplitl [HT]; · iexact HT
  isplitl [HSg]; · iexact HSg
  iexact HO

/-- What a tile holds at rest, its output rows at `f`. -/
def Rest (f : Buf (Elt F) (O.view.loc (V d (cAt a b) (jAt a b)))) : sProp 𝕄 :=
  iprop(bigSep (Finset.range 10) (fun k => XB d (cAt a b) (jAt a b) X fX (blk a b k))
    ∗ bigSep (Finset.range 10) (fun k => OB d (cAt a b) (jAt a b) O f (blk a b k))
    ∗ TB d (cAt a b) (jAt a b) Tb qT fT
    ∗ (IdxFree (F := F) d (cAt a b) (jAt a b) A 0 ∗ IdxFree (F := F) d (cAt a b) (jAt a b) A 1)
    ∗ (RowFree (F := F) d (cAt a b) (jAt a b) R 0 ∗ RowFree (F := F) d (cAt a b) (jAt a b) R 1)
    ∗ (Sem0 (F := F) d (cAt a b) (jAt a b) s5 0 ∗ Sem0 (F := F) d (cAt a b) (jAt a b) s5 1)
    ∗ (Sem0 (F := F) d (cAt a b) (jAt a b) s6 0 ∗ Sem0 (F := F) d (cAt a b) (jAt a b) s6 1)
    ∗ SemG (F := F) d (cAt a b) (jAt a b) sg ∗ Ow (F := F) d (cAt a b) (jAt a b) Od W)

/-- THE TILE'S RUN: its output rows go from `fO` to the gathered rows `fG`; everything else is as it was. -/
theorem tile_run (hTb : Tb.IsWhole) (hX : X.IsWhole) (hO : O.IsWhole) (hA : A.IsWhole) (hR : R.IsWhole)
    (hXr : ∀ k, (X.view.read (Elt F) fX k).toNat < 100000)
    (hG : ∀ (r : Fin 40960) (k : Fin 128), O.view.read (Elt F) fG (ix2 r k)
      = Tb.view.read (Elt F) fT (ix2 (⟨(X.view.read (Elt F) fX (ix2 (0 : Fin 1) r)).toNat, hXr _⟩ : Fin 100000) k)) :
    iprop(Rest d a b Tb X O A R s5 s6 sg qT fT fX Od W fO ∗ Transfers.MayWaits (V d (cAt a b) (jAt a b)) (none : HIx 5) Od)
      ⊢ wp frame (wpE defs 𝒱r (V d (cAt a b) (jAt a b)) bd) Set.univ
        (cc0_gather_kernel (F := F) (coords a b) Tb hTb X hX O hO A hA s5 R hR s6 sg)
        (fun _ => Rest d a b Tb X O A R s5 s6 sg qT fT fX Od W fG) := by
  unfold Rest
  iintro ⟨⟨HX, HOr, HT, ⟨HI0, HI1⟩, ⟨HR0, HR1⟩, ⟨H50, H51⟩, ⟨H60, H61⟩, HSg, HO⟩, #Hmw⟩
  rw [cc0_gather_kernel_eq_skeleton]
  unfold cc0_gather_kernel_skel
  rw [wp_bind, k0_part3_eq_skeleton]
  unfold k0_part3_skel
  simp only [wp_bind, wp_pure]
  ihave HX := (Entails.of_eq (show bigSep (Finset.range 10) (fun k => XB d (cAt a b) (jAt a b) X fX (blk a b k))
    = bigSep (Finset.Ico 0 10) (fun k => XB d (cAt a b) (jAt a b) X fX (blk a b k)) by rw [Finset.range_eq_Ico])) $$ HX
  ihave HX := (Entails.of_eq (ico_step 0 (by omega) (fun k => XB d (cAt a b) (jAt a b) X fX (blk a b k)))) $$ HX
  icases HX with ⟨HX0, HXr⟩
  iapply (wp_fetch 𝒱r bd d (cAt a b) (jAt a b) X A s5 fX (par 0) (blk a b 0) (blk_lt a b _ (by omega)) off1_eq (off2_eq a b) off3_eq)
    $$ [HI0 H50 HX0]
  · isplitl [HI0]; · iexact HI0
    isplitl [H50]; · iexact H50
    iexact HX0
  iintro Hf
  imodintro
  rw [k0_part4_eq_skeleton]
  unfold k0_part4_skel
  simp only [wp_bind]
  iapply (Scf.wp_for frame (wpE defs 𝒱r (V d (cAt a b) (jAt a b)) bd) Set.univ k0_t1_loop.lb k0_t1_loop.ub k0_t1_loop.st k0_t1_ok
    (w6 0, w7 0, w7 0, w9 0, w10 0) (k0_t1_body (F := F) (coords a b) Tb hTb X hX O hO A hA s5 R hR s6 sg (v4At a b))
    (Inv d a b Tb X O A R s5 s6 sg qT fT fX fG fO Od W)
    (fun t acc => trip 𝒱r bd d a b Tb X O A R s5 s6 sg qT fT fX fG fO Od W hTb hX hO hA hR hXr hG t acc))
  isplitl [HXr Hf HOr HT HI1 HR0 HR1 H51 H60 H61 HSg HO]
  · unfold Inv
    isplitl []; · ipureintro; rfl
    isplitl []; · iexact Hmw
    unfold Held
    isplitl [Hf]
    · iapply (Entails.of_eq (inSide_lt d a b X A s5 fX (n := 0) (by omega)).symm); iexact Hf
    isplitl [HI1 H51]
    · isplitl [HI1]; · iexact HI1
      iexact H51
    isplitl [HR1 H61]
    · iapply (Entails.of_eq (outSide_zero d a b O R s6 fG (n := 0) (by omega)).symm)
      isplitl [HR1]; · iexact HR1
      iexact H61
    isplitl [HR0 H60]
    · isplitl [HR0]; · iexact HR0
      iexact H60
    isplitl []
    · iapply (Entails.of_eq (show (iprop(emp) : sProp 𝕄) = bigSep (Finset.range 0) (fun k => XB d (cAt a b) (jAt a b) X fX (blk a b k)) by
        rw [Finset.range_zero, bigSep_empty]; rfl))
      iempintro
    isplitl [HXr]; · iexact HXr
    isplitl []
    · iapply (Entails.of_eq (show (iprop(emp) : sProp 𝕄) = bigSep (Finset.range 0) (fun k => OB d (cAt a b) (jAt a b) O fG (blk a b k)) by
        rw [Finset.range_zero, bigSep_empty]; rfl))
      iempintro
    isplitl [HOr]
    · iapply (Entails.of_eq (show bigSep (Finset.range 10) (fun k => OB d (cAt a b) (jAt a b) O fO (blk a b k))
        = bigSep (Finset.Ico 0 10) (fun k => OB d (cAt a b) (jAt a b) O fO (blk a b k)) by rw [Finset.range_eq_Ico]))
      iexact HOr
    isplitl [HT]; · iexact HT
    isplitl [HSg]; · iexact HSg
    iexact HO
  iintro %acc HH
  ihave HH := (Entails.of_eq (congrArg (fun n => Inv d a b Tb X O A R s5 s6 sg qT fT fX fG fO Od W n acc) trips_eq)) $$ HH
  unfold Inv
  icases HH with ⟨%hacc, -, HH⟩
  subst hacc
  unfold carry
  dsimp only
  iapply (wp_holds 𝒱r bd (chk5_ok a b))
  iapply (wp_holds 𝒱r bd chk4_ok)
  rw [wp_pure]
  imodintro
  unfold Held
  icases HH with ⟨HIn, ⟨HI1, H51⟩, HFl, ⟨HR0, H60⟩, HX, HXe, HOd, HOe, HT, HSg, HO⟩
  ihave HIn := (Entails.of_eq (inSide_ge d a b X A s5 fX (n := 10) (by omega))) $$ HIn
  icases HIn with ⟨HI0, H50⟩
  ihave HFl := (Entails.of_eq (outSide_pos d a b O R s6 fG (n := 10) (by omega))) $$ HFl
  iapply (wp_waitSend 𝒱r bd d (cAt a b) (jAt a b) O R s6 fG (par 11) (blk a b 9) (blk_lt a b _ (by omega)) (off19_eq a b) off20_eq) $$ [HFl HO]
  · isplitl [HFl]; · iexact HFl
    isplitl [HO]; · iexact HO
    iexact Hmw
  iintro ⟨HOB, HR1, H61, HO⟩
  imodintro
  iclear HXe HOe
  isplitl [HX]; · iexact HX
  isplitl [HOd HOB]
  · iapply (Entails.of_eq (range_step 9 (fun k => OB d (cAt a b) (jAt a b) O fG (blk a b k))).symm)
    isplitl [HOB]; · iexact HOB
    iexact HOd
  isplitl [HT]; · iexact HT
  isplitl [HI0 HI1]
  · isplitl [HI0]; · iexact HI0
    iexact HI1
  isplitl [HR0 HR1]
  · isplitl [HR0]; · iexact HR0
    iexact HR1
  isplitl [H50 H51]
  · isplitl [H50]; · iexact H50
    iexact H51
  isplitl [H60 H61]
  · isplitl [H60]; · iexact H60
    iexact H61
  isplitl [HSg]; · iexact HSg
  iexact HO

end Body

end Cert.KernelIdeal.Proof
-- ==== Proof.Slots.lean ====
/-
  A tile's scratch, cut and put back together: each two-slot buffer is its two slots, and the tile's own buffers and
  semaphores are those a gather kernel uses and the rest.
-/
module

public import proofs.«01_k».proof.Proof.Tile

@[expose] public section

noncomputable section

namespace Cert.KernelIdeal.Proof

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type}

local notation "𝕄" => MT nD τ sig (HIx 5) (Elt F) ℕ UU ℕ

/-- The entries of slot `p` of a two-slot buffer. -/
def half {s : Shape} (a : Fin s.rank) (p : Fin 2) : Finset s.Idx := Finset.univ.filter fun y => (y a).val = p.val

theorem half_disjoint {s : Shape} (a : Fin s.rank) : Disjoint (half a 0) (half (s := s) a 1) :=
  Finset.disjoint_left.mpr fun y h0 h1 => by
    have h0 := (Finset.mem_filter.mp h0).2
    have h1 := (Finset.mem_filter.mp h1).2
    rw [h0] at h1
    exact absurd h1 (by decide)
theorem half_union {s : Shape} (a : Fin s.rank) (h : s.size a = 2) : half a 0 ∪ half a 1 = (Finset.univ : Finset s.Idx) :=
  Finset.eq_univ_iff_forall.mpr fun y => by
    have := (y a).isLt
    rcases Nat.lt_or_ge (y a).val 1 with h' | h'
    · exact Finset.mem_union_left _ (Finset.mem_filter.mpr ⟨Finset.mem_univ _, show (y a).val = 0 by omega⟩)
    · exact Finset.mem_union_right _ (Finset.mem_filter.mpr ⟨Finset.mem_univ _, show (y a).val = 1 by omega⟩)

theorem set_idxSlot (A : Memref sig .scVector .vmem S2x1x128 .i32) (p : Fin 2) :
    (idxSlot A _ (slotI_inb p)).view.set = A.view.setOn (half (s := S2x1x128) 0 p) := by
  show ((A.view.slice _).reshape _ _).set = _
  rw [View.set_reshape, View.set_slice]
  refine congrArg (Finset.map A.view.emb) (Finset.ext fun y => ?_)
  rw [Rect.mem_set_unit, half, Finset.mem_filter, and_iff_right (Finset.mem_univ y)]
  constructor
  · intro h
    obtain ⟨h1, h2⟩ := h 0
    simp at h1 h2
    exact show (y 0).val = p.val by omega
  · intro h a
    match a with
    | ⟨0, _⟩ => exact ⟨show p.val ≤ (y 0).val by omega, show (y 0).val < p.val + 1 by omega⟩
    | ⟨1, _⟩ => exact ⟨Nat.zero_le _, by have := (y 1).isLt; simpa using this⟩
    | ⟨2, _⟩ => exact ⟨Nat.zero_le _, by have := (y 2).isLt; simpa using this⟩

theorem set_rowSlot (R : Memref sig .scVector .vmem S2x128x128 .f32) (p : Fin 2) :
    (rowSlot R _ (slotR_inb p)).view.set = R.view.setOn (half (s := S2x128x128) 0 p) := by
  show ((R.view.slice _).reshape _ _).set = _
  rw [View.set_reshape, View.set_slice]
  refine congrArg (Finset.map R.view.emb) (Finset.ext fun y => ?_)
  rw [Rect.mem_set_unit, half, Finset.mem_filter, and_iff_right (Finset.mem_univ y)]
  constructor
  · intro h
    obtain ⟨h1, h2⟩ := h 0
    simp at h1 h2
    exact show (y 0).val = p.val by omega
  · intro h a
    match a with
    | ⟨0, _⟩ => exact ⟨show p.val ≤ (y 0).val by omega, show (y 0).val < p.val + 1 by omega⟩
    | ⟨1, _⟩ => exact ⟨Nat.zero_le _, by have := (y 1).isLt; simpa using this⟩
    | ⟨2, _⟩ => exact ⟨Nat.zero_le _, by have := (y 2).isLt; simpa using this⟩

/-- Two disjoint parts that make up the whole, each held at some contents, are the whole at some contents; and back. -/
theorem two_parts {ℓ : Loc nD τ sig} {I J S : Finset (Idx ℓ)} (hd : Disjoint I J) (hu : I ∪ J = S) :
    (iprop(∃ f, ℓ ↦[S]{fullShare} f) : sProp 𝕄) = iprop((∃ f, ℓ ↦[I]{fullShare} f) ∗ ∃ f, ℓ ↦[J]{fullShare} f) := by
  subst hu
  have h1 : (iprop(∃ f, ℓ ↦[I ∪ J]{fullShare} f) : sProp 𝕄) ⊢ iprop((∃ f, ℓ ↦[I]{fullShare} f) ∗ ∃ f, ℓ ↦[J]{fullShare} f) := by
    iintro ⟨%f, H⟩
    ihave H := (pointsTo_union (ℓ := ℓ) (q := fullShare) (f := f) hd).1 $$ H
    icases H with ⟨HI, HJ⟩
    isplitl [HI]; · iexists f; iexact HI
    iexists f; iexact HJ
  have h2 : (iprop((∃ f, ℓ ↦[I]{fullShare} f) ∗ ∃ f, ℓ ↦[J]{fullShare} f) : sProp 𝕄) ⊢ iprop(∃ f, ℓ ↦[I ∪ J]{fullShare} f) := by
    iintro ⟨⟨%f, HI⟩, %g, HJ⟩
    iexists _
    iapply (pointsTo_join (ℓ := ℓ) (q := fullShare) (f := f) (g := g) hd)
    isplitl [HI]; · iexact HI
    iexact HJ
  exact BI.Entails.antisymm h1 h2

section

variable (d : Dev nD) (x : Fin τ.nSC) (y : Fin τ.nSub)
  (A : Memref sig .scVector .vmem S2x1x128 .i32) (R : Memref sig .scVector .vmem S2x128x128 .f32)

/-- The index buffer is its two slots. -/
theorem idx_halves : (iprop(∃ f, A.view.loc (V d x y) ↦[A.view.set]{fullShare} f) : sProp 𝕄)
    = iprop(IdxFree (F := F) d x y A 0 ∗ IdxFree (F := F) d x y A 1) := by
  have h := two_parts (F := F) (ℓ := A.view.loc (V d x y)) (I := A.view.setOn (half (s := S2x1x128) 0 0))
    (J := A.view.setOn (half (s := S2x1x128) 0 1)) (S := A.view.set)
    ((Finset.disjoint_map _).mpr (half_disjoint _))
    (by rw [View.setOn, View.setOn, ← Finset.map_union, half_union _ rfl]; rfl)
  rw [h, ← set_idxSlot A 0, ← set_idxSlot A 1]
  rfl
/-- The row buffer is its two slots. -/
theorem row_halves : (iprop(∃ f, R.view.loc (V d x y) ↦[R.view.set]{fullShare} f) : sProp 𝕄)
    = iprop(RowFree (F := F) d x y R 0 ∗ RowFree (F := F) d x y R 1) := by
  have h := two_parts (F := F) (ℓ := R.view.loc (V d x y)) (I := R.view.setOn (half (s := S2x128x128) 0 0))
    (J := R.view.setOn (half (s := S2x128x128) 0 1)) (S := R.view.set)
    ((Finset.disjoint_map _).mpr (half_disjoint _))
    (by rw [View.setOn, View.setOn, ← Finset.map_union, half_union _ rfl]; rfl)
  rw [h, ← set_rowSlot R 0, ← set_rowSlot R 1]
  rfl

/-- A tile's own buffers: the two a kernel uses and the rest. -/
theorem ownBufs_two (rA rR : Ref sig .scVector)
    (hA : (((Proc.scVector x y).devRef rA : DevRef τ sig)).owner = .proc (Proc.scVector x y))
    (hR : (((Proc.scVector x y).devRef rR : DevRef τ sig)).owner = .proc (Proc.scVector x y)) (hne : rR ≠ rA) :
    (ownBufs (V d x y) : sProp 𝕄)
      = iprop((∃ f, (V d x y).loc rA ↦{fullShare} f) ∗ (∃ f, (V d x y).loc rR ↦{fullShare} f)
          ∗ bigSep (((ownRefs (τ := τ) (.scVector x y)).erase ((Proc.scVector x y).devRef rA)).erase
              ((Proc.scVector x y).devRef rR))
              fun b => iprop(∃ f, ((d, b) : Loc nD τ sig) ↦{fullShare} f)) := by
  unfold SparseCore.Cfg.ownBufs
  refine (SparseCore.bigSep_erase' (SparseCore.Cfg.mem_ownRefs_of_owner (p := Proc.scVector x y)
    (b := (Proc.scVector x y).devRef rA) hA)).trans ?_
  rw [SparseCore.bigSep_erase' (Finset.mem_erase.mpr ⟨fun e => hne (Proc.devRef_injective _ e),
    SparseCore.Cfg.mem_ownRefs_of_owner (p := Proc.scVector x y) (b := (Proc.scVector x y).devRef rR) hR⟩)]

/-- The cells a kernel's semaphores are. -/
abbrev cellAt (s : DmaSem sig) : GSem nD τ sig := (V d x y, .dma s)

/-- A tile's own semaphores at zero: five distinct ones and the rest. -/
theorem ownSems0_five (s₁ s₂ s₃ s₄ s₅ : DmaSem sig) (hn : [s₁, s₂, s₃, s₄, s₅].Nodup)
    (hs : ∀ s ∈ [s₁, s₂, s₃, s₄, s₅], (SemLoc.dma s : SemLoc sig).isScoped .scVector = true) :
    (ownSems0 (V d x y) : sProp 𝕄)
      = iprop((semVal (cellAt d x y s₁) 0 ∗ semVal (cellAt d x y s₂) 0 ∗ semVal (cellAt d x y s₃) 0
            ∗ semVal (cellAt d x y s₄) 0 ∗ semVal (cellAt d x y s₅) 0)
          ∗ bigSep (ownCells (V d x y) \ [s₁, s₂, s₃, s₄, s₅].toFinset.image (cellAt d x y)) fun g => semVal g 0) := by
  unfold SparseCore.Cfg.ownSems0
  rw [SparseCore.bigSep_sdiff_split' (s := ownCells (V d x y)) (t := [s₁, s₂, s₃, s₄, s₅].toFinset.image (cellAt d x y))
    (fun g hg => by
      obtain ⟨s, hs', rfl⟩ := Finset.mem_image.mp hg
      exact (mem_ownCells (g := cellAt d x y s)).mpr ⟨rfl, hs s (List.mem_toFinset.mp hs')⟩),
    SparseCore.bigSep_image_of_injOn (f := cellAt d x y) (fun a _ b _ h => by simpa [cellAt] using h)]
  simp only [List.nodup_cons, List.mem_cons, List.not_mem_nil, or_false, not_or] at hn
  obtain ⟨⟨h12, h13, h14, h15⟩, ⟨h23, h24, h25⟩, ⟨h34, h35⟩, h45, -⟩ := hn
  simp only [List.toFinset_cons, List.toFinset_nil, insert_empty_eq]
  rw [SparseCore.bigSep_insert' (by simp [h12, h13, h14, h15]), SparseCore.bigSep_insert' (by simp [h23, h24, h25]),
    SparseCore.bigSep_insert' (by simp [h34, h35]), SparseCore.bigSep_insert' (by simp [h45]), bigSep_singleton]

end

end Cert.KernelIdeal.Proof
-- ==== Proof.Task.lean ====
/-
  One tile's task, from what the launch hands it: its blocks of the index list and of the output, its share of the table,
  its scratch and its semaphores; all of it comes back, the output blocks holding the gathered rows.
-/
module

public import proofs.«01_k».proof.Proof.Slots
public import proofs.«01_k».proof.Proof.Same

@[expose] public section

noncomputable section

namespace Cert.KernelIdeal.Proof

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 5) (Elt F) ℕ UU ℕ

/-- The gathered rows: row `r` of the table at the index list's word `r` (a word past the table reads its last row). -/
def gath (fT : S100000x128.Idx → Elt F .f32) (fX : S1x40960.Idx → Elt F .i32) : S40960x128.Idx → Elt F .f32 :=
  fun y => fT (ix2 (⟨min (BitVec.toNat (fX (ix2 (0 : Fin 1) (y 0)))) 99999, by omega⟩ : Fin 100000) (y 1))

section Generic

variable (d : Dev nD) (a : Fin (grid0.bound 0)) (b : Fin (grid0.bound 1))
variable (Tb : Memref sig .scVector .hbm S100000x128 .f32) (X : Memref sig .scVector .hbm S1x40960 .i32)
  (O : Memref sig .scVector .hbm S40960x128 .f32) (A : Memref sig .scVector .vmem S2x1x128 .i32)
  (R : Memref sig .scVector .vmem S2x128x128 .f32) (s5 s6 : DmaSems sig S2) (sg : DmaSems sig S_)
variable (qT : PosShare TreeShare) (fT : Buf (Elt F) (Tb.view.loc (V d (cAt a b) (jAt a b))))
  (fX : Buf (Elt F) (X.view.loc (V d (cAt a b) (jAt a b))))
  (fG fO : Buf (Elt F) (O.view.loc (V d (cAt a b) (jAt a b))))

/-- What a tile is handed: its blocks of the index list, of the output (at `f`) and its share of the table. -/
def TileIn (f : Buf (Elt F) (O.view.loc (V d (cAt a b) (jAt a b)))) : sProp 𝕄 :=
  iprop(bigSep (Finset.range 10) (fun k => XB d (cAt a b) (jAt a b) X fX (blk a b k))
    ∗ bigSep (Finset.range 10) (fun k => OB d (cAt a b) (jAt a b) O f (blk a b k))
    ∗ TB d (cAt a b) (jAt a b) Tb qT fT)

instance TileIn_storable (f : Buf (Elt F) (O.view.loc (V d (cAt a b) (jAt a b)))) :
    BI.Storable (upEmb : UEmb _ 𝕄) (TileIn d a b Tb X O qT fT fX f) := by
  unfold TileIn XB OB TB
  infer_instance

theorem task (hF : (K (F := F)).Facts) (rA rR : Ref sig .scVector)
    (hAo : (((Proc.scVector (cAt a b) (jAt a b)).devRef rA : DevRef τ sig)).owner = .proc (Proc.scVector (cAt a b) (jAt a b)))
    (hRo : (((Proc.scVector (cAt a b) (jAt a b)).devRef rR : DevRef τ sig)).owner = .proc (Proc.scVector (cAt a b) (jAt a b)))
    (hne : rR ≠ rA)
    (hAe : (iprop(∃ f, (V d (cAt a b) (jAt a b)).loc rA ↦{fullShare} f) : sProp 𝕄)
      = iprop(∃ f, A.view.loc (V d (cAt a b) (jAt a b)) ↦[A.view.set]{fullShare} f))
    (hRe : (iprop(∃ f, (V d (cAt a b) (jAt a b)).loc rR ↦{fullShare} f) : sProp 𝕄)
      = iprop(∃ f, R.view.loc (V d (cAt a b) (jAt a b)) ↦[R.view.set]{fullShare} f))
    (hn : [(semSlot s5 _ (slotS_inb 0)).sem, (semSlot s5 _ (slotS_inb 1)).sem, (semSlot s6 _ (slotS_inb 0)).sem,
      (semSlot s6 _ (slotS_inb 1)).sem, sg.sem].Nodup)
    (hs : ∀ s ∈ [(semSlot s5 _ (slotS_inb 0)).sem, (semSlot s5 _ (slotS_inb 1)).sem, (semSlot s6 _ (slotS_inb 0)).sem,
      (semSlot s6 _ (slotS_inb 1)).sem, sg.sem], (SemLoc.dma s : SemLoc sig).isScoped .scVector = true)
    (hTb : Tb.IsWhole) (hX : X.IsWhole) (hO : O.IsWhole) (hA : A.IsWhole) (hR : R.IsWhole)
    (hXr : ∀ k, (X.view.read (Elt F) fX k).toNat < 100000)
    (hG : ∀ (r : Fin 40960) (k : Fin 128), O.view.read (Elt F) fG (ix2 r k)
      = Tb.view.read (Elt F) fT (ix2 (⟨(X.view.read (Elt F) fX (ix2 (0 : Fin 1) r)).toNat, hXr _⟩ : Fin 100000) k))
    (Od : CellTallies nD τ sig (HIx 5)) (W : Waits sig (HIx 5)) (hOd : ∀ g, Od g none = 0) :
    iprop(levAts (K (F := F)).L (K (F := F)).lev ∗ emp ∗ TileIn d a b Tb X O qT fT fX fO
        ∗ scopedBufs (V d (cAt a b) (jAt a b)) ∗ scopedSems0 (V d (cAt a b) (jAt a b)) ∗ owes (V d (cAt a b) (jAt a b)) Od W)
      ⊢ wp frame (wpE (defs₀ (F := F)) 𝒱₀ (V d (cAt a b) (jAt a b)) none) Set.univ
        (cc0_gather_kernel (F := F) (coords a b) Tb hTb X hX O hO A hA s5 R hR s6 sg)
        (fun _ => iprop(TileIn d a b Tb X O qT fT fX fG
          ∗ scopedBufs (V d (cAt a b) (jAt a b)) ∗ scopedSems0 (V d (cAt a b) (jAt a b))
          ∗ ∃ W', ⌜∀ p ∈ W', p ∈ W ∨ p.2 = none⌝ ∗ owes (V d (cAt a b) (jAt a b)) Od W')) := by
  rw [(K (F := F)).scopedBufs_V hF d (cAt a b) (jAt a b), SparseCore.Cfg.scopedSems0_V (Val := Elt F) d (cAt a b) (jAt a b),
    ownBufs_two d (cAt a b) (jAt a b) rA rR hAo hRo hne, hAe, hRe, idx_halves, row_halves,
    ownSems0_five d (cAt a b) (jAt a b) _ _ _ _ _ hn hs]
  unfold TileIn
  iintro ⟨#Hlv, -, ⟨HX, HO, HT⟩, ⟨HI, HR, Hbufs⟩, ⟨⟨H50, H51, H60, H61, Hg⟩, Hsems⟩, How⟩
  ihave #Hmw := (show levAts (K (F := F)).L (K (F := F)).lev ⊢ Transfers.MayWaits (V d (cAt a b) (jAt a b)) (none : HIx 5) Od from
    (K (F := F)).mayWaits_none (thr := V d (cAt a b) (jAt a b)) hOd) $$ Hlv
  iapply (wp_wand_r frame (wpE (defs₀ (F := F)) 𝒱₀ (V d (cAt a b) (jAt a b)) none) Set.univ
    (Q := fun _ => Rest d a b Tb X O A R s5 s6 sg qT fT fX Od W fG))
  isplitl [HX HO HT HI HR H50 H51 H60 H61 Hg How]
  · iapply (tile_run 𝒱₀ none d a b Tb X O A R s5 s6 sg qT fT fX fG fO Od W hTb hX hO hA hR hXr hG)
    isplitl
    · unfold Rest SemG Ow Sem0
      isplitl [HX]; · iexact HX
      isplitl [HO]; · iexact HO
      isplitl [HT]; · iexact HT
      isplitl [HI]; · iexact HI
      isplitl [HR]; · iexact HR
      isplitl [H50 H51]
      · isplitl [H50]; · iexact H50
        iexact H51
      isplitl [H60 H61]
      · isplitl [H60]; · iexact H60
        iexact H61
      isplitl [Hg]; · iexact Hg
      iexists W
      isplitr; · ipureintro; exact fun p hp => Or.inl hp
      iexact How
    · iexact Hmw
  iintro %_ H
  unfold Rest SemG Ow Sem0
  icases H with ⟨HX, HO, HT, HI, HR, ⟨H50, H51⟩, ⟨H60, H61⟩, Hg, How⟩
  isplitl [HX HO HT]
  · isplitl [HX]; · iexact HX
    isplitl [HO]; · iexact HO
    iexact HT
  isplitl [HI HR Hbufs]
  · isplitl [HI]; · iexact HI
    isplitl [HR]; · iexact HR
    iexact Hbufs
  isplitl [H50 H51 H60 H61 Hg Hsems]
  · isplitr [Hsems]
    · isplitl [H50]; · iexact H50
      isplitl [H51]; · iexact H51
      isplitl [H60]; · iexact H60
      isplitl [H61]; · iexact H61
      iexact Hg
    iexact Hsems
  iexact How

end Generic

end Cert.KernelIdeal.Proof
-- ==== Proof.ScTask.lean ====
/-
  The five gather calls as the launch asks for them: what every tile is handed and hands back in each call, and the
  obligation of each tile's task.
-/
module

public import proofs.«01_k».proof.Proof.Task

@[expose] public section

noncomputable section

namespace Cert.KernelIdeal.Proof

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 5) (Elt F) ℕ UU ℕ

/-- What the gather calls are run on: the padded table, each call's index list, each call's output before it. -/
structure Conts (F : FTy → Type) where
  T : Dev nD → S100000x128.Idx → Elt F .f32
  X : Fin 5 → Dev nD → S1x40960.Idx → Elt F .i32
  O : Fin 5 → Dev nD → S40960x128.Idx → Elt F .f32

/-- Every index is a row of the table. -/
def Conts.Ok (C : Conts F) : Prop := ∀ q d y, (C.X q d y).toNat < 100000

/-- The share of the table that tile `(a, b)` reads. -/
def shareOf (a : Fin 2) (b : Fin 16) : PosShare TreeShare :=
  Idealize.ShloMosaic.pieceOf fullShare 32 (by decide) ⟨16 * a.val + b.val, by omega⟩

/-- What tile `(a, b)` is handed in call `q`, its output blocks at `f`. -/
def tin (C : Conts F) (q : Fin 5) (d : Dev nD) (a : Fin 2) (b : Fin 16) (f : S40960x128.Idx → Elt F .f32) : sProp 𝕄 :=
  match q with
  | ⟨0, _⟩ => TileIn d a b (Memref.whole main_v3_scv) (Memref.whole main_v12_scv) (Memref.whole main_v13_scv) (shareOf a b) (C.T d) (C.X 0 d) f
  | ⟨1, _⟩ => TileIn d a b (Memref.whole main_v3_scv) (Memref.whole main_v19_scv) (Memref.whole main_v20_scv) (shareOf a b) (C.T d) (C.X 1 d) f
  | ⟨2, _⟩ => TileIn d a b (Memref.whole main_v3_scv) (Memref.whole main_v26_scv) (Memref.whole main_v27_scv) (shareOf a b) (C.T d) (C.X 2 d) f
  | ⟨3, _⟩ => TileIn d a b (Memref.whole main_v3_scv) (Memref.whole main_v33_scv) (Memref.whole main_v34_scv) (shareOf a b) (C.T d) (C.X 3 d) f
  | ⟨4, _⟩ => TileIn d a b (Memref.whole main_v3_scv) (Memref.whole main_v40_scv) (Memref.whole main_v41_scv) (shareOf a b) (C.T d) (C.X 4 d) f

instance tin_storable (C : Conts F) (q : Fin 5) (d : Dev nD) (a : Fin 2) (b : Fin 16) (f : S40960x128.Idx → Elt F .f32) :
    BI.Storable (upEmb : UEmb _ 𝕄) (tin C q d a b f) := by
  match q with
  | ⟨0, _⟩ => exact TileIn_storable ..
  | ⟨1, _⟩ => exact TileIn_storable ..
  | ⟨2, _⟩ => exact TileIn_storable ..
  | ⟨3, _⟩ => exact TileIn_storable ..
  | ⟨4, _⟩ => exact TileIn_storable ..

/-- The payloads: a SparseCore is handed what its tiles are, a tile its blocks; they come back with the rows gathered. -/
def P (C : Conts F) : (K (F := F)).Pay (N := 5) (nD := nD) (Val := Elt F) (Name := ℕ) (U := UU) where
  st q d c := bigSep Finset.univ fun i : Fin ((K (F := F)).nSub q) => tin C q d (Fin.cast (nCore_eq q) c) (Fin.cast (nSub_eq q) i) (C.O q d)
  dn q d c := bigSep Finset.univ fun i : Fin ((K (F := F)).nSub q) => tin C q d (Fin.cast (nCore_eq q) c) (Fin.cast (nSub_eq q) i) (gath (C.T d) (C.X q d))
  go q d c i := tin C q d (Fin.cast (nCore_eq q) c) (Fin.cast (nSub_eq q) i) (C.O q d)
  td q d c i := tin C q d (Fin.cast (nCore_eq q) c) (Fin.cast (nSub_eq q) i) (gath (C.T d) (C.X q d))
  x _ _ := iprop(emp)

instance P_storable (C : Conts F) : (P C).IsStorable where
  st q d c := (inferInstance : BI.Storable (upEmb : UEmb _ 𝕄) (bigSep Finset.univ fun i : Fin ((K (F := F)).nSub q) => tin C q d (Fin.cast (nCore_eq q) c) (Fin.cast (nSub_eq q) i) (C.O q d)))
  dn q d c := (inferInstance : BI.Storable (upEmb : UEmb _ 𝕄) (bigSep Finset.univ fun i : Fin ((K (F := F)).nSub q) => tin C q d (Fin.cast (nCore_eq q) c) (Fin.cast (nSub_eq q) i) (gath (C.T d) (C.X q d))))
  go q d c i := (inferInstance : BI.Storable (upEmb : UEmb _ 𝕄) (tin C q d (Fin.cast (nCore_eq q) c) (Fin.cast (nSub_eq q) i) (C.O q d)))
  td q d c i := (inferInstance : BI.Storable (upEmb : UEmb _ 𝕄) (tin C q d (Fin.cast (nCore_eq q) c) (Fin.cast (nSub_eq q) i) (gath (C.T d) (C.X q d))))

theorem vecSplit (C : Conts F) (q : Fin 5) : (K (F := F)).VecSplit' (P C) q := by
  intro d c
  show (bigSep Finset.univ fun i : Fin ((K (F := F)).nSub q) => (P C).go q d c i) ⊢ |={Set.univ}=> iprop(
      (bigSep Finset.univ fun i : Fin ((K (F := F)).nSub q) => (P C).go q d c i)
      ∗ ((bigSep Finset.univ fun i : Fin ((K (F := F)).nSub q) => (P C).td q d c i)
        -∗ bigSep Finset.univ fun i : Fin ((K (F := F)).nSub q) => (P C).td q d c i))
  iintro H; imodintro
  isplitl [H]; · iexact H
  iintro H; iexact H

omit [FloatOps F] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The gathered rows are rows of the table, when every index is one. -/
theorem gath_apply (fT : S100000x128.Idx → Elt F .f32) (fX : S1x40960.Idx → Elt F .i32) (h : ∀ y, (fX y).toNat < 100000)
    (r : Fin 40960) (k : Fin 128) :
    gath fT fX (ix2 r k) = fT (ix2 (⟨(fX (ix2 (0 : Fin 1) r)).toNat, h _⟩ : Fin 100000) k) := by
  have e : (⟨min (BitVec.toNat (fX (ix2 (0 : Fin 1) r))) 99999, by omega⟩ : Fin 100000) = ⟨(fX (ix2 (0 : Fin 1) r)).toNat, h _⟩ :=
    Fin.ext (min_eq_left (by have := h (ix2 (0 : Fin 1) r); exact Nat.le_of_lt_succ this))
  show fT (ix2 (⟨min (BitVec.toNat (fX (ix2 (0 : Fin 1) r))) 99999, by omega⟩ : Fin 100000) k) = _
  rw [e]

set_option maxRecDepth 16384 in
theorem obl0 (C : Conts F) (hC : C.Ok) : (K (F := F)).TileObl (D (F := F)) 𝒱 (P C) v₀ 0 := by
  intro d c i O W hO _ _
  simp only [show (P C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 () = SparseCore.onTile hcore0 hsub0 (fun c s => cc0_gather_kernel (coords c s) (Memref.whole main_v3_scv) (Memref.isWhole_whole _) (Memref.whole main_v12_scv) (Memref.isWhole_whole _) (Memref.whole main_v13_scv) (Memref.isWhole_whole _) (Memref.whole cc0_scoped0) (Memref.isWhole_whole _) cc0_scoped1 (Memref.whole cc0_scoped2) (Memref.isWhole_whole _) cc0_scoped3 cc0_scoped4) ⟨⟩ ((K (F := F)).core 0 c) ((K (F := F)).sub 0 i) from rfl]
  simp only [SparseCore.onTile, hci, and_self, ↓reduceDIte]
  exact (task d (Fin.cast (nCore_eq 0) c) (Fin.cast (nSub_eq 0) i) (Memref.whole main_v3_scv) (Memref.whole main_v12_scv) (Memref.whole main_v13_scv)
      (Memref.whole cc0_scoped0) (Memref.whole cc0_scoped2) cc0_scoped1 cc0_scoped3 cc0_scoped4
      (shareOf _ _) (C.T d) (C.X 0 d) (gath (C.T d) (C.X 0 d)) (C.O 0 d) facts cc0_scoped0 cc0_scoped2 rfl rfl (by decide)
      (by rw [View.set_whole]) (by rw [View.set_whole]) (by decide) (by decide) (Memref.isWhole_whole _) (Memref.isWhole_whole _) (Memref.isWhole_whole _) (Memref.isWhole_whole _) (Memref.isWhole_whole _)
      (hC 0 d) (fun r k => gath_apply _ _ (hC 0 d) r k) O W hO).trans (wp_mono frame _ _ fun _ => obl_post)

set_option maxRecDepth 16384 in
theorem obl1 (C : Conts F) (hC : C.Ok) : (K (F := F)).TileObl (D (F := F)) 𝒱 (P C) v₀ 1 := by
  intro d c i O W hO _ _
  simp only [show (P C).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 2 () = SparseCore.onTile hcore2 hsub2 (fun c s => cc2_gather_kernel (coords c s) (Memref.whole main_v3_scv) (Memref.isWhole_whole _) (Memref.whole main_v19_scv) (Memref.isWhole_whole _) (Memref.whole main_v20_scv) (Memref.isWhole_whole _) (Memref.whole cc2_scoped0) (Memref.isWhole_whole _) cc2_scoped1 (Memref.whole cc2_scoped2) (Memref.isWhole_whole _) cc2_scoped3 cc2_scoped4) ⟨⟩ ((K (F := F)).core 1 c) ((K (F := F)).sub 1 i) from rfl]
  simp only [SparseCore.onTile, hci, and_self, ↓reduceDIte]
  rw [gather2_eq]
  exact (task d (Fin.cast (nCore_eq 1) c) (Fin.cast (nSub_eq 1) i) (Memref.whole main_v3_scv) (Memref.whole main_v19_scv) (Memref.whole main_v20_scv)
      (Memref.whole cc2_scoped0) (Memref.whole cc2_scoped2) cc2_scoped1 cc2_scoped3 cc2_scoped4
      (shareOf _ _) (C.T d) (C.X 1 d) (gath (C.T d) (C.X 1 d)) (C.O 1 d) facts cc2_scoped0 cc2_scoped2 rfl rfl (by decide)
      (by rw [View.set_whole]) (by rw [View.set_whole]) (by decide) (by decide) (Memref.isWhole_whole _) (Memref.isWhole_whole _) (Memref.isWhole_whole _) (Memref.isWhole_whole _) (Memref.isWhole_whole _)
      (hC 1 d) (fun r k => gath_apply _ _ (hC 1 d) r k) O W hO).trans (wp_mono frame _ _ fun _ => obl_post)

set_option maxRecDepth 16384 in
theorem obl2 (C : Conts F) (hC : C.Ok) : (K (F := F)).TileObl (D (F := F)) 𝒱 (P C) v₀ 2 := by
  intro d c i O W hO _ _
  simp only [show (P C).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [show defs₀ (F := F) (.scVector ((K (F := F)).core 2 c) ((K (F := F)).sub 2 i)) 4 () = SparseCore.onTile hcore4 hsub4 (fun c s => cc4_gather_kernel (coords c s) (Memref.whole main_v3_scv) (Memref.isWhole_whole _) (Memref.whole main_v26_scv) (Memref.isWhole_whole _) (Memref.whole main_v27_scv) (Memref.isWhole_whole _) (Memref.whole cc4_scoped0) (Memref.isWhole_whole _) cc4_scoped1 (Memref.whole cc4_scoped2) (Memref.isWhole_whole _) cc4_scoped3 cc4_scoped4) ⟨⟩ ((K (F := F)).core 2 c) ((K (F := F)).sub 2 i) from rfl]
  simp only [SparseCore.onTile, hci, and_self, ↓reduceDIte]
  rw [gather4_eq]
  exact (task d (Fin.cast (nCore_eq 2) c) (Fin.cast (nSub_eq 2) i) (Memref.whole main_v3_scv) (Memref.whole main_v26_scv) (Memref.whole main_v27_scv)
      (Memref.whole cc4_scoped0) (Memref.whole cc4_scoped2) cc4_scoped1 cc4_scoped3 cc4_scoped4
      (shareOf _ _) (C.T d) (C.X 2 d) (gath (C.T d) (C.X 2 d)) (C.O 2 d) facts cc4_scoped0 cc4_scoped2 rfl rfl (by decide)
      (by rw [View.set_whole]) (by rw [View.set_whole]) (by decide) (by decide) (Memref.isWhole_whole _) (Memref.isWhole_whole _) (Memref.isWhole_whole _) (Memref.isWhole_whole _) (Memref.isWhole_whole _)
      (hC 2 d) (fun r k => gath_apply _ _ (hC 2 d) r k) O W hO).trans (wp_mono frame _ _ fun _ => obl_post)

set_option maxRecDepth 16384 in
theorem obl3 (C : Conts F) (hC : C.Ok) : (K (F := F)).TileObl (D (F := F)) 𝒱 (P C) v₀ 3 := by
  intro d c i O W hO _ _
  simp only [show (P C).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [show defs₀ (F := F) (.scVector ((K (F := F)).core 3 c) ((K (F := F)).sub 3 i)) 6 () = SparseCore.onTile hcore6 hsub6 (fun c s => cc6_gather_kernel (coords c s) (Memref.whole main_v3_scv) (Memref.isWhole_whole _) (Memref.whole main_v33_scv) (Memref.isWhole_whole _) (Memref.whole main_v34_scv) (Memref.isWhole_whole _) (Memref.whole cc6_scoped0) (Memref.isWhole_whole _) cc6_scoped1 (Memref.whole cc6_scoped2) (Memref.isWhole_whole _) cc6_scoped3 cc6_scoped4) ⟨⟩ ((K (F := F)).core 3 c) ((K (F := F)).sub 3 i) from rfl]
  simp only [SparseCore.onTile, hci, and_self, ↓reduceDIte]
  rw [gather6_eq]
  exact (task d (Fin.cast (nCore_eq 3) c) (Fin.cast (nSub_eq 3) i) (Memref.whole main_v3_scv) (Memref.whole main_v33_scv) (Memref.whole main_v34_scv)
      (Memref.whole cc6_scoped0) (Memref.whole cc6_scoped2) cc6_scoped1 cc6_scoped3 cc6_scoped4
      (shareOf _ _) (C.T d) (C.X 3 d) (gath (C.T d) (C.X 3 d)) (C.O 3 d) facts cc6_scoped0 cc6_scoped2 rfl rfl (by decide)
      (by rw [View.set_whole]) (by rw [View.set_whole]) (by decide) (by decide) (Memref.isWhole_whole _) (Memref.isWhole_whole _) (Memref.isWhole_whole _) (Memref.isWhole_whole _) (Memref.isWhole_whole _)
      (hC 3 d) (fun r k => gath_apply _ _ (hC 3 d) r k) O W hO).trans (wp_mono frame _ _ fun _ => obl_post)

set_option maxRecDepth 16384 in
theorem obl4 (C : Conts F) (hC : C.Ok) : (K (F := F)).TileObl (D (F := F)) 𝒱 (P C) v₀ 4 := by
  intro d c i O W hO _ _
  simp only [show (P C).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [show defs₀ (F := F) (.scVector ((K (F := F)).core 4 c) ((K (F := F)).sub 4 i)) 8 () = SparseCore.onTile hcore8 hsub8 (fun c s => cc8_gather_kernel (coords c s) (Memref.whole main_v3_scv) (Memref.isWhole_whole _) (Memref.whole main_v40_scv) (Memref.isWhole_whole _) (Memref.whole main_v41_scv) (Memref.isWhole_whole _) (Memref.whole cc8_scoped0) (Memref.isWhole_whole _) cc8_scoped1 (Memref.whole cc8_scoped2) (Memref.isWhole_whole _) cc8_scoped3 cc8_scoped4) ⟨⟩ ((K (F := F)).core 4 c) ((K (F := F)).sub 4 i) from rfl]
  simp only [SparseCore.onTile, hci, and_self, ↓reduceDIte]
  rw [gather8_eq]
  exact (task d (Fin.cast (nCore_eq 4) c) (Fin.cast (nSub_eq 4) i) (Memref.whole main_v3_scv) (Memref.whole main_v40_scv) (Memref.whole main_v41_scv)
      (Memref.whole cc8_scoped0) (Memref.whole cc8_scoped2) cc8_scoped1 cc8_scoped3 cc8_scoped4
      (shareOf _ _) (C.T d) (C.X 4 d) (gath (C.T d) (C.X 4 d)) (C.O 4 d) facts cc8_scoped0 cc8_scoped2 rfl rfl (by decide)
      (by rw [View.set_whole]) (by rw [View.set_whole]) (by decide) (by decide) (Memref.isWhole_whole _) (Memref.isWhole_whole _) (Memref.isWhole_whole _) (Memref.isWhole_whole _) (Memref.isWhole_whole _)
      (hC 4 d) (fun r k => gath_apply _ _ (hC 4 d) r k) O W hO).trans (wp_mono frame _ _ fun _ => obl_post)

theorem tileObl (C : Conts F) (hC : C.Ok) (q : Fin 5) : (K (F := F)).TileObl (D (F := F)) 𝒱 (P C) v₀ q := by
  match q with
  | ⟨0, _⟩ => exact obl0 C hC
  | ⟨1, _⟩ => exact obl1 C hC
  | ⟨2, _⟩ => exact obl2 C hC
  | ⟨3, _⟩ => exact obl3 C hC
  | ⟨4, _⟩ => exact obl4 C hC

end Cert.KernelIdeal.Proof

end
-- ==== Proof.Splits.lean ====
/-
  What all the tiles of one gather call are handed, put together: the whole index list, the whole output and the whole
  table, each held once.
-/
module

public import proofs.«01_k».proof.Proof.ScTask

@[expose] public section

noncomputable section

namespace Cert.KernelIdeal.Proof

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

/-- A buffer whose elements fall into 320 blocks is its tiles' blocks, ten each. -/
theorem blocks {α : Type} [DecidableEq α] [Fintype α] (B : ℕ → Finset α) (hd : ∀ i j, i ≠ j → Disjoint (B i) (B j)) (hc : ∀ y, ∃ j < 320, y ∈ B j)
    {ℓ : Loc nD τ sig} (e : α ↪ Idx ℓ) (he : ∀ i, ∃ y, e y = i) (f : Buf (Elt F) ℓ) :
    (bigSep Finset.univ fun a : Fin 2 => bigSep Finset.univ fun b : Fin 16 => bigSep (Finset.range 10) fun k => (ℓ ↦[(B (blk a b k)).map e]{fullShare} f : sProp 𝕄))
      = (ℓ ↦{fullShare} f : sProp 𝕄) := by
  have hcov : ((Finset.univ : Finset (Fin 2)) ×ˢ ((Finset.univ : Finset (Fin 16)) ×ˢ Finset.range 10)).biUnion (fun p => (B (blk p.1 p.2.1 p.2.2)).map e) = Finset.univ := by
    refine Finset.eq_univ_iff_forall.2 fun i => ?_
    obtain ⟨y, rfl⟩ := he i
    obtain ⟨j, hj, hy⟩ := hc y
    refine Finset.mem_biUnion.2 ⟨(⟨j / 160, by omega⟩, ⟨j / 10 % 16, by omega⟩, j % 10), ?_, ?_⟩
    · exact Finset.mem_product.2 ⟨Finset.mem_univ _, Finset.mem_product.2 ⟨Finset.mem_univ _, Finset.mem_range.2 (Nat.mod_lt _ (by omega))⟩⟩
    · refine Finset.mem_map.2 ⟨y, ?_, rfl⟩
      have : blk (⟨j / 160, by omega⟩ : Fin 2) (⟨j / 10 % 16, by omega⟩ : Fin 16) (j % 10) = j := by
        show 10 * (16 * (j / 160) + j / 10 % 16) + j % 10 = j
        omega
      show y ∈ B (blk _ _ _)
      rw [this]; exact hy
  rw [← hcov, pointsTo_biUnion, SparseCore.bigSep_product]
  · exact bigSep_congr fun a _ => (SparseCore.bigSep_product _ _ (fun p : Fin 16 × ℕ => (ℓ ↦[(B (blk a p.1 p.2)).map e]{fullShare} f : sProp 𝕄))).symm
  · rintro ⟨a, b, k⟩ hp ⟨a', b', k'⟩ hp' hne
    refine (Finset.disjoint_map e).2 (hd _ _ fun h => hne ?_)
    have hk := Finset.mem_range.1 (Finset.mem_product.1 (Finset.mem_product.1 hp).2).2
    have hk' := Finset.mem_range.1 (Finset.mem_product.1 (Finset.mem_product.1 hp').2).2
    have h' : 10 * (16 * a.val + b.val) + k = 10 * (16 * a'.val + b'.val) + k' := h
    have hb := b.isLt
    have hb' := b'.isLt
    simp only at hk hk'
    have e1 : a = a' := Fin.ext (by omega)
    have e2 : b = b' := Fin.ext (by omega)
    have e3 : k = k' := by omega
    rw [e1, e2, e3]

theorem blkX_disj (i j : ℕ) (h : i ≠ j) : Disjoint (blkX i) (blkX j) := by
  refine Finset.disjoint_left.2 fun y hi hj => ?_
  have h1 := (Finset.mem_filter.1 hi).2
  have h2 := (Finset.mem_filter.1 hj).2
  omega
theorem blkO_disj (i j : ℕ) (h : i ≠ j) : Disjoint (blkO i) (blkO j) := by
  refine Finset.disjoint_left.2 fun y hi hj => ?_
  have h1 := (Finset.mem_filter.1 hi).2
  have h2 := (Finset.mem_filter.1 hj).2
  omega
theorem blkX_cover (y : S1x40960.Idx) : ∃ j < 320, y ∈ blkX j := by
  have h : (y 1).val < 40960 := (y 1).isLt
  exact ⟨(y 1).val / 128, by omega, Finset.mem_filter.2 ⟨Finset.mem_univ _, by omega, by omega⟩⟩
theorem blkO_cover (y : S40960x128.Idx) : ∃ j < 320, y ∈ blkO j := by
  have h : (y 0).val < 40960 := (y 0).isLt
  exact ⟨(y 0).val / 128, by omega, Finset.mem_filter.2 ⟨Finset.mem_univ _, by omega, by omega⟩⟩

/-- The table held whole is every tile's share of it. -/
theorem shares {ℓ : Loc nD τ sig} (f : Buf (Elt F) ℓ) :
    (bigSep Finset.univ fun a : Fin 2 => bigSep Finset.univ fun b : Fin 16 => (ℓ ↦[Finset.univ]{shareOf a b} f : sProp 𝕄))
      = (ℓ ↦{fullShare} f : sProp 𝕄) := by
  rw [pointsTo_piecesOf Finset.univ f (o := 32) (by decide) fullShare]
  have hinj : Function.Injective (fun p : Fin 2 × Fin 16 => (⟨16 * p.1.val + p.2.val, by omega⟩ : Fin 32)) := by decide
  have himg : (Finset.univ : Finset (Fin 32)) = ((Finset.univ : Finset (Fin 2)) ×ˢ (Finset.univ : Finset (Fin 16))).image
      (fun p : Fin 2 × Fin 16 => (⟨16 * p.1.val + p.2.val, by omega⟩ : Fin 32)) := by decide
  rw [himg, SparseCore.bigSep_image_of_injOn hinj.injOn, SparseCore.bigSep_product]
  rfl

/-- The three together. -/
theorem tile_sum {ℓT ℓX ℓO : Loc nD τ sig} (eX : S1x40960.Idx ↪ Idx ℓX) (hX : ∀ i, ∃ y, eX y = i) (eO : S40960x128.Idx ↪ Idx ℓO) (hO : ∀ i, ∃ y, eO y = i)
    (ST : Finset (Idx ℓT)) (hT : ST = Finset.univ) (fT : Buf (Elt F) ℓT) (fX : Buf (Elt F) ℓX) (f : Buf (Elt F) ℓO) :
    (bigSep Finset.univ fun a : Fin 2 => bigSep Finset.univ fun b : Fin 16 =>
      (iprop(bigSep (Finset.range 10) (fun k => ℓX ↦[(blkX (blk a b k)).map eX]{fullShare} fX)
        ∗ bigSep (Finset.range 10) (fun k => ℓO ↦[(blkO (blk a b k)).map eO]{fullShare} f)
        ∗ ℓT ↦[ST]{shareOf a b} fT) : sProp 𝕄))
      = iprop((ℓX ↦{fullShare} fX) ∗ (ℓO ↦{fullShare} f) ∗ ℓT ↦{fullShare} fT) := by
  subst hT
  simp only [bigSep_sep']
  rw [blocks blkX blkX_disj blkX_cover eX hX, blocks blkO blkO_disj blkO_cover eO hO, shares]

/-! The whole of what the tiles of each call hold, its output at `f`. -/

theorem tins0 (C : Conts F) (d : Dev nD) (f : S40960x128.Idx → Elt F .f32) :
    (bigSep Finset.univ fun a : Fin 2 => bigSep Finset.univ fun b : Fin 16 => tin C 0 d a b f)
      = iprop(((SparseCore.T d).loc main_v12 ↦{fullShare} C.X 0 d) ∗ ((SparseCore.T d).loc main_v13 ↦{fullShare} f) ∗ (SparseCore.T d).loc main_v3 ↦{fullShare} C.T d) :=
  tile_sum (ℓT := (SparseCore.T d).loc main_v3) (ℓX := (SparseCore.T d).loc main_v12) (ℓO := (SparseCore.T d).loc main_v13) (Memref.whole main_v12_scv).view.emb (fun i => ⟨i, rfl⟩) (Memref.whole main_v13_scv).view.emb (fun i => ⟨i, rfl⟩)
    (Memref.whole main_v3_scv).view.set (View.set_whole _) (C.T d) (C.X 0 d) f

theorem tins1 (C : Conts F) (d : Dev nD) (f : S40960x128.Idx → Elt F .f32) :
    (bigSep Finset.univ fun a : Fin 2 => bigSep Finset.univ fun b : Fin 16 => tin C 1 d a b f)
      = iprop(((SparseCore.T d).loc main_v19 ↦{fullShare} C.X 1 d) ∗ ((SparseCore.T d).loc main_v20 ↦{fullShare} f) ∗ (SparseCore.T d).loc main_v3 ↦{fullShare} C.T d) :=
  tile_sum (ℓT := (SparseCore.T d).loc main_v3) (ℓX := (SparseCore.T d).loc main_v19) (ℓO := (SparseCore.T d).loc main_v20) (Memref.whole main_v19_scv).view.emb (fun i => ⟨i, rfl⟩) (Memref.whole main_v20_scv).view.emb (fun i => ⟨i, rfl⟩)
    (Memref.whole main_v3_scv).view.set (View.set_whole _) (C.T d) (C.X 1 d) f

theorem tins2 (C : Conts F) (d : Dev nD) (f : S40960x128.Idx → Elt F .f32) :
    (bigSep Finset.univ fun a : Fin 2 => bigSep Finset.univ fun b : Fin 16 => tin C 2 d a b f)
      = iprop(((SparseCore.T d).loc main_v26 ↦{fullShare} C.X 2 d) ∗ ((SparseCore.T d).loc main_v27 ↦{fullShare} f) ∗ (SparseCore.T d).loc main_v3 ↦{fullShare} C.T d) :=
  tile_sum (ℓT := (SparseCore.T d).loc main_v3) (ℓX := (SparseCore.T d).loc main_v26) (ℓO := (SparseCore.T d).loc main_v27) (Memref.whole main_v26_scv).view.emb (fun i => ⟨i, rfl⟩) (Memref.whole main_v27_scv).view.emb (fun i => ⟨i, rfl⟩)
    (Memref.whole main_v3_scv).view.set (View.set_whole _) (C.T d) (C.X 2 d) f

theorem tins3 (C : Conts F) (d : Dev nD) (f : S40960x128.Idx → Elt F .f32) :
    (bigSep Finset.univ fun a : Fin 2 => bigSep Finset.univ fun b : Fin 16 => tin C 3 d a b f)
      = iprop(((SparseCore.T d).loc main_v33 ↦{fullShare} C.X 3 d) ∗ ((SparseCore.T d).loc main_v34 ↦{fullShare} f) ∗ (SparseCore.T d).loc main_v3 ↦{fullShare} C.T d) :=
  tile_sum (ℓT := (SparseCore.T d).loc main_v3) (ℓX := (SparseCore.T d).loc main_v33) (ℓO := (SparseCore.T d).loc main_v34) (Memref.whole main_v33_scv).view.emb (fun i => ⟨i, rfl⟩) (Memref.whole main_v34_scv).view.emb (fun i => ⟨i, rfl⟩)
    (Memref.whole main_v3_scv).view.set (View.set_whole _) (C.T d) (C.X 3 d) f

theorem tins4 (C : Conts F) (d : Dev nD) (f : S40960x128.Idx → Elt F .f32) :
    (bigSep Finset.univ fun a : Fin 2 => bigSep Finset.univ fun b : Fin 16 => tin C 4 d a b f)
      = iprop(((SparseCore.T d).loc main_v40 ↦{fullShare} C.X 4 d) ∗ ((SparseCore.T d).loc main_v41 ↦{fullShare} f) ∗ (SparseCore.T d).loc main_v3 ↦{fullShare} C.T d) :=
  tile_sum (ℓT := (SparseCore.T d).loc main_v3) (ℓX := (SparseCore.T d).loc main_v40) (ℓO := (SparseCore.T d).loc main_v41) (Memref.whole main_v40_scv).view.emb (fun i => ⟨i, rfl⟩) (Memref.whole main_v41_scv).view.emb (fun i => ⟨i, rfl⟩)
    (Memref.whole main_v3_scv).view.set (View.set_whole _) (C.T d) (C.X 4 d) f

end Cert.KernelIdeal.Proof

end
-- ==== Proof.Vals.lean ====
/-
  The contents of one device's buffers along @main: before and after each gather call and each TensorCore call.
-/
module

public import proofs.«01_k».proof.Proof.HostOps
public import proofs.«01_k».proof.Proof.TcRegion
public import proofs.«01_k».proof.Proof.Splits

@[expose] public section

noncomputable section

namespace Cert.KernelIdeal.Proof

open Cert.KernelIdeal.Gen
open Idealize.ShloMosaic
open Idealize.ShloMosaic.TcCoe
open Idealize.ShloMosaic.Pipeline (Dat Cfg Window BodyObligation)
open Idealize.ShloMosaic.StableHlo

variable {F : FTy → Type} [FloatOps F]

/-- The contents `V` with the buffer of `r` at `v`. -/
def put (V : VV F) (r : Ref sig .tc) (v : (Proc.devRef (τ := τ) .tc r).ty.Contents (Elt F)) : VV F := Function.update V (Proc.devRef .tc r) v

theorem put_self (V : VV F) (r : Ref sig .tc) (v) : put V r v (Proc.devRef .tc r) = v := Function.update_self ..
theorem put_other (V : VV F) (r r' : Ref sig .tc) (v) (h : r' ≠ r) : put V r v (Proc.devRef .tc r') = V (Proc.devRef .tc r') :=
  Function.update_of_ne (fun e => h (Proc.devRef_injective _ e)) ..

/-- Before gather call 0. -/
def A0 (V : VV F) (d : Dev nD) : VV F := after ops0 V
/-- After gather call 0: its output holds the rows its index list names. -/
def B0 (V : VV F) (d : Dev nD) : VV F := put (A0 V d) main_v13 (gath (A0 V d (Proc.devRef .tc main_v3)) (A0 V d (Proc.devRef .tc main_v12)))
/-- Before TensorCore call 0. -/
def C0 (V : VV F) (d : Dev nD) : VV F := after ops1 (B0 V d)
/-- After TensorCore call 0. -/
def D0 (V : VV F) (d : Dev nD) : VV F := put (C0 V d) main_v16 ((dat1 (C0 V d) d).arrAt 5 cfg1.N)

/-- Before gather call 1. -/
def A1 (V : VV F) (d : Dev nD) : VV F := after ops2 (D0 V d)
/-- After gather call 1: its output holds the rows its index list names. -/
def B1 (V : VV F) (d : Dev nD) : VV F := put (A1 V d) main_v20 (gath (A1 V d (Proc.devRef .tc main_v3)) (A1 V d (Proc.devRef .tc main_v19)))
/-- Before TensorCore call 1. -/
def C1 (V : VV F) (d : Dev nD) : VV F := after ops3 (B1 V d)
/-- After TensorCore call 1. -/
def D1 (V : VV F) (d : Dev nD) : VV F := put (C1 V d) main_v23 ((dat3 (C1 V d) d).arrAt 5 cfg3.N)

/-- Before gather call 2. -/
def A2 (V : VV F) (d : Dev nD) : VV F := after ops4 (D1 V d)
/-- After gather call 2: its output holds the rows its index list names. -/
def B2 (V : VV F) (d : Dev nD) : VV F := put (A2 V d) main_v27 (gath (A2 V d (Proc.devRef .tc main_v3)) (A2 V d (Proc.devRef .tc main_v26)))
/-- Before TensorCore call 2. -/
def C2 (V : VV F) (d : Dev nD) : VV F := after ops5 (B2 V d)
/-- After TensorCore call 2. -/
def D2 (V : VV F) (d : Dev nD) : VV F := put (C2 V d) main_v30 ((dat5 (C2 V d) d).arrAt 5 cfg5.N)

/-- Before gather call 3. -/
def A3 (V : VV F) (d : Dev nD) : VV F := after ops6 (D2 V d)
/-- After gather call 3: its output holds the rows its index list names. -/
def B3 (V : VV F) (d : Dev nD) : VV F := put (A3 V d) main_v34 (gath (A3 V d (Proc.devRef .tc main_v3)) (A3 V d (Proc.devRef .tc main_v33)))
/-- Before TensorCore call 3. -/
def C3 (V : VV F) (d : Dev nD) : VV F := after ops7 (B3 V d)
/-- After TensorCore call 3. -/
def D3 (V : VV F) (d : Dev nD) : VV F := put (C3 V d) main_v37 ((dat7 (C3 V d) d).arrAt 5 cfg7.N)

/-- Before gather call 4. -/
def A4 (V : VV F) (d : Dev nD) : VV F := after ops8 (D3 V d)
/-- After gather call 4: its output holds the rows its index list names. -/
def B4 (V : VV F) (d : Dev nD) : VV F := put (A4 V d) main_v41 (gath (A4 V d (Proc.devRef .tc main_v3)) (A4 V d (Proc.devRef .tc main_v40)))
/-- Before TensorCore call 4. -/
def C4 (V : VV F) (d : Dev nD) : VV F := after ops9 (B4 V d)
/-- After TensorCore call 4. -/
def D4 (V : VV F) (d : Dev nD) : VV F := put (C4 V d) main_v46 ((dat9 (C4 V d) d).arrAt 7 cfg9.N)

/-- What the gather calls find in the table, the index lists and the outputs. -/
def conts (V : Dev nD → VV F) : Conts F where
  T d := A0 (V d) d (Proc.devRef .tc main_v3)
  X q d := match q with
    | 0 => A0 (V d) d (Proc.devRef .tc main_v12)
    | 1 => A1 (V d) d (Proc.devRef .tc main_v19)
    | 2 => A2 (V d) d (Proc.devRef .tc main_v26)
    | 3 => A3 (V d) d (Proc.devRef .tc main_v33)
    | 4 => A4 (V d) d (Proc.devRef .tc main_v40)
  O q d := match q with
    | 0 => A0 (V d) d (Proc.devRef .tc main_v13)
    | 1 => A1 (V d) d (Proc.devRef .tc main_v20)
    | 2 => A2 (V d) d (Proc.devRef .tc main_v27)
    | 3 => A3 (V d) d (Proc.devRef .tc main_v34)
    | 4 => A4 (V d) d (Proc.devRef .tc main_v41)

/-- The buffers the operations of a stretch write. -/
def W0 : List (Ref sig .tc) := [main_v0, main_v1, main_cst, main_v2, main_v3, main_v4, main_cst_0, main_v5, main_v6, main_v7, main_v8, main_cst_1, main_v9, main_v10, main_v11, main_v12]
def W1 : List (Ref sig .tc) := [main_v14, main_v15]
def W2 : List (Ref sig .tc) := [main_v17, main_v18, main_v19]
def W3 : List (Ref sig .tc) := [main_v21, main_v22]
def W4 : List (Ref sig .tc) := [main_v24, main_v25, main_v26]
def W5 : List (Ref sig .tc) := [main_v28, main_v29]
def W6 : List (Ref sig .tc) := [main_v31, main_v32, main_v33]
def W7 : List (Ref sig .tc) := [main_v35, main_v36]
def W8 : List (Ref sig .tc) := [main_v38, main_v39, main_v40]
def W9 : List (Ref sig .tc) := [main_v42, main_v43, main_v44, main_v45]

theorem after0 (V : VV F) (r : Ref sig .tc) (h : r ∉ W0) : after ops0 V (Proc.devRef .tc r) = V (Proc.devRef .tc r) :=
  after_of_writes_sub ops0 V (forall_writes_sub_of_map rfl) h
theorem after1 (V : VV F) (r : Ref sig .tc) (h : r ∉ W1) : after ops1 V (Proc.devRef .tc r) = V (Proc.devRef .tc r) :=
  after_of_writes_sub ops1 V (forall_writes_sub_of_map rfl) h
theorem after2 (V : VV F) (r : Ref sig .tc) (h : r ∉ W2) : after ops2 V (Proc.devRef .tc r) = V (Proc.devRef .tc r) :=
  after_of_writes_sub ops2 V (forall_writes_sub_of_map rfl) h
theorem after3 (V : VV F) (r : Ref sig .tc) (h : r ∉ W3) : after ops3 V (Proc.devRef .tc r) = V (Proc.devRef .tc r) :=
  after_of_writes_sub ops3 V (forall_writes_sub_of_map rfl) h
theorem after4 (V : VV F) (r : Ref sig .tc) (h : r ∉ W4) : after ops4 V (Proc.devRef .tc r) = V (Proc.devRef .tc r) :=
  after_of_writes_sub ops4 V (forall_writes_sub_of_map rfl) h
theorem after5 (V : VV F) (r : Ref sig .tc) (h : r ∉ W5) : after ops5 V (Proc.devRef .tc r) = V (Proc.devRef .tc r) :=
  after_of_writes_sub ops5 V (forall_writes_sub_of_map rfl) h
theorem after6 (V : VV F) (r : Ref sig .tc) (h : r ∉ W6) : after ops6 V (Proc.devRef .tc r) = V (Proc.devRef .tc r) :=
  after_of_writes_sub ops6 V (forall_writes_sub_of_map rfl) h
theorem after7 (V : VV F) (r : Ref sig .tc) (h : r ∉ W7) : after ops7 V (Proc.devRef .tc r) = V (Proc.devRef .tc r) :=
  after_of_writes_sub ops7 V (forall_writes_sub_of_map rfl) h
theorem after8 (V : VV F) (r : Ref sig .tc) (h : r ∉ W8) : after ops8 V (Proc.devRef .tc r) = V (Proc.devRef .tc r) :=
  after_of_writes_sub ops8 V (forall_writes_sub_of_map rfl) h
theorem after9 (V : VV F) (r : Ref sig .tc) (h : r ∉ W9) : after ops9 V (Proc.devRef .tc r) = V (Proc.devRef .tc r) :=
  after_of_writes_sub ops9 V (forall_writes_sub_of_map rfl) h

end Cert.KernelIdeal.Proof

end
-- ==== Proof.Rounds.lean ====
/-
  One round of @main: a stretch of host operations, a gather call, a second stretch, a TensorCore call. The rule takes the
  buffers from one valuation to the next.
-/
module

public import proofs.«01_k».proof.Proof.Vals

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 5) (Elt F) ℕ UU ℕ

/-- The wp of a program of the TensorCore of device `d`. -/
abbrev tcWp (d : Dev nD) (p : TcProg F) (Q : PUnit → sProp 𝕄) : sProp 𝕄 :=
  wp frame (wpE ((K (F := F)).defs (D (F := F))) 𝒱 (T d) none) Set.univ p Q

theorem tcWp_bind (d : Dev nD) (p : TcProg F) (k : PUnit → TcProg F) (Q : PUnit → sProp 𝕄) :
    tcWp d p (fun a => tcWp d (k a) Q) ⊢ tcWp d (p >>= k) Q := Entails.of_eq (wp_bind ..).symm

/-- The buffers that @main names, at `V`. -/
abbrev bufs (d : Dev nD) (V : VV F) : sProp 𝕄 := held (T d) (Pipeline.ucRefs τ sig) V

/-- A stretch of host operations. -/
theorem wp_host (d : Dev nD) (ops : List (HloOp τ sig (Elt F))) (hs : ops.Forall fun op => op.bufs ⊆ tcRefs τ sig) (hf : ops.Forall fun op => op.fresh = ∅)
    (V : VV F) (k : TcProg F) (Q : PUnit → sProp 𝕄) :
    iprop(boundary (T d) ∗ bufs d V ∗ ((boundary (T d) ∗ bufs d (after ops V)) -∗ tcWp d k Q)) ⊢ tcWp d (seqK ops k) Q := by
  have h := wp_seq (defs := (K (F := F)).defs (D (F := F))) (𝒱 := 𝒱) (bd := none) (E := Set.univ) d (Pipeline.ucRefs τ sig) (fun _ => k) (K := Q) ops
    (fun op ho => Pipeline.sub_ucRefs op (List.forall_iff_forall_mem.mp hs op ho)) (List.forall_iff_forall_mem.mp hf) V
  rw [seq_bind_seqK] at h
  iintro ⟨Hb, Hh, Hk⟩
  iapply h $$ [Hb Hh]
  · isplitl [Hb]; · iexact Hb
    iexact Hh
  iexact Hk

/-- A gather call, which changes no buffer but those three it is handed. -/
theorem wp_sc (C : Conts F) (κ) (d : Dev nD) (q : Fin 5) (R : Finset (DevRef τ sig)) (hR : R ⊆ Pipeline.ucRefs τ sig) (V W : VV F)
    (hst : (bigSep Finset.univ fun c : Fin ((K (F := F)).nCore q) => (P C).st q d c) = held (T d) R V)
    (hdn : (bigSep Finset.univ fun c : Fin ((K (F := F)).nCore q) => (P C).dn q d c) = held (T d) R W)
    (hW : ∀ b, b ∉ R → W b = V b) (Q : PUnit → sProp 𝕄) :
    iprop((K (F := F)).ctx EH (P C) κ ∗ (K (F := F)).tcSt EH d q.val ∗ bufs d V
        ∗ (((K (F := F)).tcSt EH d (q.val + 1) ∗ bufs d W) -∗ Q ⟨⟩))
      ⊢ tcWp d ((K (F := F)).run d q) Q := by
  have e1 : bufs (F := F) d V = _ := held_sub_split (T d) hR V
  have e2 : bufs (F := F) d W = _ := held_sub_split (T d) hR W
  rw [e1, e2, held_congr (T d) (S := Pipeline.ucRefs τ sig \ R) (V := W) (V' := V) fun b hb => hW b (Finset.mem_sdiff.mp hb).2, ← hst, ← hdn]
  iintro ⟨Hctx, Hst, ⟨HR, Hr⟩, Hk⟩
  iapply ((K (F := F)).wp_run (D (F := F)) 𝒱 (EH := EH) (P := P C) κ d q)
  isplitl [Hctx]; · iexact Hctx
  isplitl [Hst]; · iexact Hst
  isplitl [HR]; · iexact HR
  iintro ⟨Hst, HR⟩
  iapply Hk
  isplitl [Hst]; · iexact Hst
  isplitl [HR] <;> iassumption

/-- A TensorCore call, the handshakes' state kept beside it. -/
theorem wp_tc (C : Conts F) (κ) (d : Dev nD) (p : Fin 5) (V W : VV F)
    (hW : ∀ c w, (pdats V p c).arrAt w (cfgs p).N = W (Proc.devRef .tc (Pipeline.arrRef (cfgs p).spec w)))
    (hW' : ∀ b : Ref sig .tc, b ∉ Finset.univ.image (Pipeline.arrRef (cfgs p).spec) → W (Proc.devRef .tc b) = V (Proc.devRef .tc b))
    (Q : PUnit → sProp 𝕄) :
    iprop((K (F := F)).ctx EH (P C) κ ∗ boundary (T d) ∗ (K (F := F)).tcSt EH d (p.val + 1) ∗ bufs d V
        ∗ Pipeline.cellsGhost (Pipeline.pin (pcfgs (F := F)) adm) EP p d ∗ Pipeline.toksInit (Pipeline.pin (pcfgs (F := F)) adm) EP p d
        ∗ ((boundary (T d) ∗ (K (F := F)).tcSt EH d (p.val + 1) ∗ bufs d W) -∗ Q ⟨⟩))
      ⊢ tcWp d (tcCall p) Q := by
  have e1 : bufs (F := F) d V = _ := (Pipeline.unscopedBufs_held d V).symm
  have e2 : bufs (F := F) d W = _ := (Pipeline.unscopedBufs_held d W).symm
  rw [e1, e2]
  unfold SparseCore.Cfg.tcSt
  iintro ⟨Hctx, Hb, ⟨HO, Hst⟩, Hv, Hc, Ht, Hk⟩
  ihave Hl := ((K (F := F)).ctx_levAts κ) $$ Hctx
  iapply (wp_tcCall d V W p hW hW' Q)
  isplitl [Hb]; · iexact Hb
  isplitl [Hv]; · iexact Hv
  isplitl [HO]; · unfold tcOwes; iexact HO
  isplitl [Hl]; · iexact Hl
  isplitl [Hc]; · iexact Hc
  isplitl [Ht]; · iexact Ht
  iintro ⟨Hb, Hv, HO⟩
  iapply Hk
  isplitl [Hb]; · iexact Hb
  isplitl [HO Hst]
  · isplitl [HO]; · unfold tcOwes; iexact HO
    iexact Hst
  iexact Hv

/-- THE ROUND. -/
theorem wp_round (C : Conts F) (κ) (d : Dev nD) (q : Fin 5) (ops ops' : List (HloOp τ sig (Elt F)))
    (hs : ops.Forall fun op => op.bufs ⊆ tcRefs τ sig) (hf : ops.Forall fun op => op.fresh = ∅)
    (hs' : ops'.Forall fun op => op.bufs ⊆ tcRefs τ sig) (hf' : ops'.Forall fun op => op.fresh = ∅)
    (R : Finset (DevRef τ sig)) (hR : R ⊆ Pipeline.ucRefs τ sig) (V A B C' D' : VV F)
    (hA : A = after ops V)
    (hst : (bigSep Finset.univ fun c : Fin ((K (F := F)).nCore q) => (P C).st q d c) = held (T d) R A)
    (hdn : (bigSep Finset.univ fun c : Fin ((K (F := F)).nCore q) => (P C).dn q d c) = held (T d) R B)
    (hB : ∀ b, b ∉ R → B b = A b)
    (hC : C' = after ops' B)
    (hD : ∀ c w, (pdats C' q c).arrAt w (cfgs q).N = D' (Proc.devRef .tc (Pipeline.arrRef (cfgs q).spec w)))
    (hD' : ∀ b : Ref sig .tc, b ∉ Finset.univ.image (Pipeline.arrRef (cfgs q).spec) → D' (Proc.devRef .tc b) = C' (Proc.devRef .tc b))
    (k : TcProg F) (Q : PUnit → sProp 𝕄) :
    iprop((K (F := F)).ctx EH (P C) κ ∗ boundary (T d) ∗ (K (F := F)).tcSt EH d q.val ∗ bufs d V
        ∗ Pipeline.cellsGhost (Pipeline.pin (pcfgs (F := F)) adm) EP q d ∗ Pipeline.toksInit (Pipeline.pin (pcfgs (F := F)) adm) EP q d
        ∗ ((boundary (T d) ∗ (K (F := F)).tcSt EH d (q.val + 1) ∗ bufs d D') -∗ tcWp d k Q))
      ⊢ tcWp d (seqK ops ((K (F := F)).run d q >>= fun _ => seqK ops' (tcCall q >>= fun _ => k))) Q := by
  subst hA hC
  iintro ⟨#Hctx, Hb, Hst, Hv, Hc, Ht, Hk⟩
  iapply (wp_host d ops hs hf V)
  isplitl [Hb]; · iexact Hb
  isplitl [Hv]; · iexact Hv
  iintro ⟨Hb, Hv⟩
  iapply (tcWp_bind d)
  iapply (wp_sc C κ d q R hR _ B hst hdn hB)
  isplitr; · iexact Hctx
  isplitl [Hst]; · iexact Hst
  isplitl [Hv]; · iexact Hv
  iintro ⟨Hst, Hv⟩
  iapply (wp_host d ops' hs' hf' B)
  isplitl [Hb]; · iexact Hb
  isplitl [Hv]; · iexact Hv
  iintro ⟨Hb, Hv⟩
  iapply (tcWp_bind d)
  iapply (wp_tc C κ d q _ D' hD hD')
  isplitr; · iexact Hctx
  isplitl [Hb]; · iexact Hb
  isplitl [Hst]; · iexact Hst
  isplitl [Hv]; · iexact Hv
  isplitl [Hc]; · iexact Hc
  isplitl [Ht]; · iexact Ht
  iexact Hk

end Cert.KernelIdeal.Proof

end
-- ==== Proof.Main.lean ====
/-
  @main on the TensorCore, its five rounds in turn.
-/
module

public import proofs.«01_k».proof.Proof.Rounds

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 5) (Elt F) ℕ UU ℕ

/-- What all the tiles of a call hold, over the call's own numbers of cores and subcores. -/
theorem tiles_eq (C : Conts F) (q : Fin 5) (d : Dev nD) (f : S40960x128.Idx → Elt F .f32) :
    (bigSep Finset.univ fun c : Fin ((K (F := F)).nCore q) => bigSep Finset.univ fun i : Fin ((K (F := F)).nSub q) => tin C q d (Fin.cast (nCore_eq q) c) (Fin.cast (nSub_eq q) i) f)
      = bigSep Finset.univ fun a : Fin 2 => bigSep Finset.univ fun b : Fin 16 => tin C q d a b f := by
  match q with
  | ⟨0, _⟩ => rfl
  | ⟨1, _⟩ => rfl
  | ⟨2, _⟩ => rfl
  | ⟨3, _⟩ => rfl
  | ⟨4, _⟩ => rfl

/-- Three buffers of @main. -/
def three (x y z : Ref sig .tc) : Finset (DevRef τ sig) := {Proc.devRef .tc x, Proc.devRef .tc y, Proc.devRef .tc z}

theorem held_three (d : Dev nD) (x y z : Ref sig .tc) (hxy : x ≠ y) (hxz : x ≠ z) (hyz : y ≠ z) (V : VV F) :
    (held (T d) (three x y z) V : sProp 𝕄)
      = iprop(((SparseCore.T d).loc x ↦{fullShare} V (Proc.devRef .tc x)) ∗ ((SparseCore.T d).loc y ↦{fullShare} V (Proc.devRef .tc y)) ∗ (SparseCore.T d).loc z ↦{fullShare} V (Proc.devRef .tc z)) := by
  have hinj : ∀ {a b : Ref sig .tc}, a ≠ b → (Proc.devRef .tc a : DevRef τ sig) ≠ Proc.devRef .tc b := fun h e => h (Proc.devRef_injective _ e)
  unfold held three
  rw [SparseCore.bigSep_insert' (by simp [hinj hxy, hinj hxz]), SparseCore.bigSep_insert' (by simp [hinj hyz]), bigSep_singleton]

theorem mem_uc {b : Ref sig .tc} (hb : b.isScoped = false) : (Proc.devRef .tc b : DevRef τ sig) ∈ Pipeline.ucRefs τ sig :=
  Finset.mem_filter.mpr ⟨devRef_mem_tcRefs b, by rw [Proc.isScoped_devRef, hb]; exact Bool.false_ne_true⟩

theorem three_sub (x y z : Ref sig .tc) (hx : x.isScoped = false) (hy : y.isScoped = false) (hz : z.isScoped = false) : three x y z ⊆ Pipeline.ucRefs τ sig := by
  intro b hb
  rcases Finset.mem_insert.mp hb with rfl | hb; · exact mem_uc hx
  rcases Finset.mem_insert.mp hb with rfl | hb; · exact mem_uc hy
  rw [Finset.mem_singleton.mp hb]; exact mem_uc hz

/-- Outside of its output a gather call changes nothing. -/
theorem put_off (V : VV F) (x y z : Ref sig .tc) (v) (b : DevRef τ sig) (h : b ∉ three x y z) : put V y v b = V b :=
  Function.update_of_ne (fun e => h (by rw [e]; simp [three])) ..

/-- The arrays of a pipeline at its end: the inputs as before, the output at what the blocks leave. -/
theorem final_arr (W : VV F) (p : Fin 5) (d : Dev nD) (o : Fin (cfgs p).W) (ho : ∀ w, w ≠ o → ((cfgs p).win w).isOut = false)
    (c : Dev nD) (w : Fin (cfgs p).W) :
    (pdats W p c).arrAt w (cfgs p).N = put W (Pipeline.arrRef (cfgs p).spec o) ((pdats W p d).arrAt o (cfgs p).N) (Proc.devRef .tc (Pipeline.arrRef (cfgs p).spec w)) := by
  obtain rfl : c = d := Subsingleton.elim _ _
  by_cases h : w = o
  · subst h; rw [put_self]
  · rw [put_other _ _ _ _ fun e => h ((launchF p).win.arr_inj e)]
    exact ((pdats W p c).arrAt_in w (ho w h) _).trans (pdats_A W p c w)

theorem final_off (W : VV F) (p : Fin 5) (o : Fin (cfgs p).W) (v) (b : Ref sig .tc)
    (hb : b ∉ Finset.univ.image (Pipeline.arrRef (cfgs p).spec)) : put W (Pipeline.arrRef (cfgs p).spec o) v (Proc.devRef .tc b) = W (Proc.devRef .tc b) :=
  put_other _ _ _ _ fun e => hb (by rw [e]; exact Finset.mem_image_of_mem _ (Finset.mem_univ _))

/-! The padded table is the same before every gather call. -/

theorem table1 (V : VV F) (d : Dev nD) : A1 V d (Proc.devRef .tc main_v3) = A0 V d (Proc.devRef .tc main_v3) := by
  unfold A1 D0 C0 B0
  rw [after2 _ main_v3 (by decide), put_other _ _ _ _ (by decide), after1 _ main_v3 (by decide), put_other _ _ _ _ (by decide)]
theorem table2 (V : VV F) (d : Dev nD) : A2 V d (Proc.devRef .tc main_v3) = A0 V d (Proc.devRef .tc main_v3) := by
  unfold A2 D1 C1 B1
  rw [after4 _ main_v3 (by decide), put_other _ _ _ _ (by decide), after3 _ main_v3 (by decide), put_other _ _ _ _ (by decide), table1]
theorem table3 (V : VV F) (d : Dev nD) : A3 V d (Proc.devRef .tc main_v3) = A0 V d (Proc.devRef .tc main_v3) := by
  unfold A3 D2 C2 B2
  rw [after6 _ main_v3 (by decide), put_other _ _ _ _ (by decide), after5 _ main_v3 (by decide), put_other _ _ _ _ (by decide), table2]
theorem table4 (V : VV F) (d : Dev nD) : A4 V d (Proc.devRef .tc main_v3) = A0 V d (Proc.devRef .tc main_v3) := by
  unfold A4 D3 C3 B3
  rw [after8 _ main_v3 (by decide), put_other _ _ _ _ (by decide), after7 _ main_v3 (by decide), put_other _ _ _ _ (by decide), table3]

/-- What a gather call is handed and hands back, as the three buffers before and after it. -/
theorem held_st (C : Conts F) (q : Fin 5) (d : Dev nD) (x y z : Ref sig .tc) (hxy : x ≠ y) (hxz : x ≠ z) (hyz : y ≠ z) (V : VV F)
    (f : S40960x128.Idx → Elt F .f32)
    (h : (bigSep Finset.univ fun a : Fin 2 => bigSep Finset.univ fun b : Fin 16 => tin C q d a b f)
      = iprop(((SparseCore.T d).loc x ↦{fullShare} V (Proc.devRef .tc x)) ∗ ((SparseCore.T d).loc y ↦{fullShare} V (Proc.devRef .tc y)) ∗ (SparseCore.T d).loc z ↦{fullShare} V (Proc.devRef .tc z))) :
    (bigSep Finset.univ fun c : Fin ((K (F := F)).nCore q) => bigSep Finset.univ fun i : Fin ((K (F := F)).nSub q) => tin C q d (Fin.cast (nCore_eq q) c) (Fin.cast (nSub_eq q) i) f)
      = held (T d) (three x y z) V := by
  rw [tiles_eq, h, held_three d x y z hxy hxz hyz]

theorem st0 (V : Dev nD → VV F) (d : Dev nD) : (bigSep Finset.univ fun c : Fin ((K (F := F)).nCore 0) => (P (conts V)).st 0 d c) = held (T d) (three main_v12 main_v13 main_v3) (A0 (V d) d) :=
  held_st (conts V) 0 d main_v12 main_v13 main_v3 (by decide) (by decide) (by decide) _ _ (by rw [tins0]; rfl)
theorem dn0 (V : Dev nD → VV F) (d : Dev nD) : (bigSep Finset.univ fun c : Fin ((K (F := F)).nCore 0) => (P (conts V)).dn 0 d c) = held (T d) (three main_v12 main_v13 main_v3) (B0 (V d) d) :=
  held_st (conts V) 0 d main_v12 main_v13 main_v3 (by decide) (by decide) (by decide) _ _ (by
    unfold B0
    rw [put_self, put_other _ _ main_v12 _ (by decide), put_other _ _ main_v3 _ (by decide), tins0]; rfl)
theorem st1 (V : Dev nD → VV F) (d : Dev nD) : (bigSep Finset.univ fun c : Fin ((K (F := F)).nCore 1) => (P (conts V)).st 1 d c) = held (T d) (three main_v19 main_v20 main_v3) (A1 (V d) d) :=
  held_st (conts V) 1 d main_v19 main_v20 main_v3 (by decide) (by decide) (by decide) _ _ (by rw [table1, tins1]; rfl)
theorem dn1 (V : Dev nD → VV F) (d : Dev nD) : (bigSep Finset.univ fun c : Fin ((K (F := F)).nCore 1) => (P (conts V)).dn 1 d c) = held (T d) (three main_v19 main_v20 main_v3) (B1 (V d) d) :=
  held_st (conts V) 1 d main_v19 main_v20 main_v3 (by decide) (by decide) (by decide) _ _ (by
    unfold B1
    rw [put_self, put_other _ _ main_v19 _ (by decide), put_other _ _ main_v3 _ (by decide), table1, tins1]; rfl)
theorem st2 (V : Dev nD → VV F) (d : Dev nD) : (bigSep Finset.univ fun c : Fin ((K (F := F)).nCore 2) => (P (conts V)).st 2 d c) = held (T d) (three main_v26 main_v27 main_v3) (A2 (V d) d) :=
  held_st (conts V) 2 d main_v26 main_v27 main_v3 (by decide) (by decide) (by decide) _ _ (by rw [table2, tins2]; rfl)
theorem dn2 (V : Dev nD → VV F) (d : Dev nD) : (bigSep Finset.univ fun c : Fin ((K (F := F)).nCore 2) => (P (conts V)).dn 2 d c) = held (T d) (three main_v26 main_v27 main_v3) (B2 (V d) d) :=
  held_st (conts V) 2 d main_v26 main_v27 main_v3 (by decide) (by decide) (by decide) _ _ (by
    unfold B2
    rw [put_self, put_other _ _ main_v26 _ (by decide), put_other _ _ main_v3 _ (by decide), table2, tins2]; rfl)
theorem st3 (V : Dev nD → VV F) (d : Dev nD) : (bigSep Finset.univ fun c : Fin ((K (F := F)).nCore 3) => (P (conts V)).st 3 d c) = held (T d) (three main_v33 main_v34 main_v3) (A3 (V d) d) :=
  held_st (conts V) 3 d main_v33 main_v34 main_v3 (by decide) (by decide) (by decide) _ _ (by rw [table3, tins3]; rfl)
theorem dn3 (V : Dev nD → VV F) (d : Dev nD) : (bigSep Finset.univ fun c : Fin ((K (F := F)).nCore 3) => (P (conts V)).dn 3 d c) = held (T d) (three main_v33 main_v34 main_v3) (B3 (V d) d) :=
  held_st (conts V) 3 d main_v33 main_v34 main_v3 (by decide) (by decide) (by decide) _ _ (by
    unfold B3
    rw [put_self, put_other _ _ main_v33 _ (by decide), put_other _ _ main_v3 _ (by decide), table3, tins3]; rfl)
theorem st4 (V : Dev nD → VV F) (d : Dev nD) : (bigSep Finset.univ fun c : Fin ((K (F := F)).nCore 4) => (P (conts V)).st 4 d c) = held (T d) (three main_v40 main_v41 main_v3) (A4 (V d) d) :=
  held_st (conts V) 4 d main_v40 main_v41 main_v3 (by decide) (by decide) (by decide) _ _ (by rw [table4, tins4]; rfl)
theorem dn4 (V : Dev nD → VV F) (d : Dev nD) : (bigSep Finset.univ fun c : Fin ((K (F := F)).nCore 4) => (P (conts V)).dn 4 d c) = held (T d) (three main_v40 main_v41 main_v3) (B4 (V d) d) :=
  held_st (conts V) 4 d main_v40 main_v41 main_v3 (by decide) (by decide) (by decide) _ _ (by
    unfold B4
    rw [put_self, put_other _ _ main_v40 _ (by decide), put_other _ _ main_v3 _ (by decide), table4, tins4]; rfl)

/-- The pipelines' ghost state of device `d`. -/
abbrev ghost (F : FTy → Type) [FloatOps F] (d : Dev nD) (p : Fin 5) : sProp (MT nD τ sig (HIx 5) (Elt F) ℕ UU ℕ) :=
  iprop(Pipeline.cellsGhost (Pipeline.pin (pcfgs (F := F)) adm) EP p d ∗ Pipeline.toksInit (Pipeline.pin (pcfgs (F := F)) adm) EP p d)

/-- What the TensorCore holds before call `q`: the boundary, the handshakes' state, the buffers at `V`. -/
abbrev at_ (F : FTy → Type) [FloatOps F] (d : Dev nD) (n : ℕ) (V : VV F) : sProp (MT nD τ sig (HIx 5) (Elt F) ℕ UU ℕ) :=
  iprop(boundary (T d) ∗ (K (F := F)).tcSt EH d n ∗ bufs d V)

/-- THE ROUND at @main's own buffers: the index list `x`, the rows `y`, the pipeline's output `o`. -/
theorem wp_round_main (V₀ : Dev nD → VV F) (κ) (d : Dev nD) (q : Fin 5) (ops ops' : List (HloOp τ sig (Elt F)))
    (hs : ops.Forall fun op => op.bufs ⊆ tcRefs τ sig) (hf : ops.Forall fun op => op.fresh = ∅)
    (hs' : ops'.Forall fun op => op.bufs ⊆ tcRefs τ sig) (hf' : ops'.Forall fun op => op.fresh = ∅)
    (x y : Ref sig .tc) (hx : x.isScoped = false) (hy : y.isScoped = false) (o : Fin (cfgs q).W) (ho : ∀ w, w ≠ o → ((cfgs q).win w).isOut = false)
    (v) (V A B C' D' : VV F)
    (hA : A = after ops V)
    (hst : (bigSep Finset.univ fun c : Fin ((K (F := F)).nCore q) => (P (conts V₀)).st q d c) = held (T d) (three x y main_v3) A)
    (hdn : (bigSep Finset.univ fun c : Fin ((K (F := F)).nCore q) => (P (conts V₀)).dn q d c) = held (T d) (three x y main_v3) B)
    (hB : B = put A y v)
    (hC : C' = after ops' B)
    (hD : D' = put C' (Pipeline.arrRef (cfgs q).spec o) ((pdats C' q d).arrAt o (cfgs q).N))
    (k : TcProg F) (Q : PUnit → sProp 𝕄) :
    iprop((K (F := F)).ctx EH (P (conts V₀)) κ ∗ at_ F d q.val V ∗ ghost F d q ∗ (at_ F d (q.val + 1) D' -∗ tcWp d k Q))
      ⊢ tcWp d (seqK ops ((K (F := F)).run d q >>= fun _ => seqK ops' (tcCall q >>= fun _ => k))) Q := by
  iintro ⟨Hctx, ⟨Hb, Hst, Hv⟩, ⟨Hc, Ht⟩, Hk⟩
  iapply (wp_round (conts V₀) κ d q ops ops' hs hf hs' hf' (three x y main_v3) (three_sub x y main_v3 hx hy rfl) V A B C' D' hA hst hdn
    (fun b hb => by rw [hB]; exact put_off A x y main_v3 v b hb) hC
    (fun c w => by rw [hD]; exact final_arr C' q d o ho c w) (fun b hb => by rw [hD]; exact final_off C' q o _ b hb) k Q)
  isplitl [Hctx]; · iexact Hctx
  isplitl [Hb]; · iexact Hb
  isplitl [Hst]; · iexact Hst
  isplitl [Hv]; · iexact Hv
  isplitl [Hc]; · iexact Hc
  isplitl [Ht]; · iexact Ht
  iexact Hk

theorem round0 (V : Dev nD → VV F) (κ) (d : Dev nD) (k : TcProg F) (Q : PUnit → sProp 𝕄) :
    iprop((K (F := F)).ctx EH (P (conts V)) κ ∗ at_ F d 0 (V d) ∗ ghost F d 0 ∗ (at_ F d 1 (D0 (V d) d) -∗ tcWp d k Q))
      ⊢ tcWp d (seqK ops0 ((K (F := F)).run d 0 >>= fun _ => seqK ops1 (tcCall 0 >>= fun _ => k))) Q :=
  wp_round_main V κ d 0 ops0 ops1 sub0 fresh0 sub1 fresh1 main_v12 main_v13 rfl rfl (5 : Fin 6) (by decide) _ _ _ _ _ _
    rfl (st0 V d) (dn0 V d) rfl rfl rfl k Q
theorem round1 (V : Dev nD → VV F) (κ) (d : Dev nD) (k : TcProg F) (Q : PUnit → sProp 𝕄) :
    iprop((K (F := F)).ctx EH (P (conts V)) κ ∗ at_ F d 1 (D0 (V d) d) ∗ ghost F d 1 ∗ (at_ F d 2 (D1 (V d) d) -∗ tcWp d k Q))
      ⊢ tcWp d (seqK ops2 ((K (F := F)).run d 1 >>= fun _ => seqK ops3 (tcCall 1 >>= fun _ => k))) Q :=
  wp_round_main V κ d 1 ops2 ops3 sub2 fresh2 sub3 fresh3 main_v19 main_v20 rfl rfl (5 : Fin 6) (by decide) _ _ _ _ _ _
    rfl (st1 V d) (dn1 V d) rfl rfl rfl k Q
theorem round2 (V : Dev nD → VV F) (κ) (d : Dev nD) (k : TcProg F) (Q : PUnit → sProp 𝕄) :
    iprop((K (F := F)).ctx EH (P (conts V)) κ ∗ at_ F d 2 (D1 (V d) d) ∗ ghost F d 2 ∗ (at_ F d 3 (D2 (V d) d) -∗ tcWp d k Q))
      ⊢ tcWp d (seqK ops4 ((K (F := F)).run d 2 >>= fun _ => seqK ops5 (tcCall 2 >>= fun _ => k))) Q :=
  wp_round_main V κ d 2 ops4 ops5 sub4 fresh4 sub5 fresh5 main_v26 main_v27 rfl rfl (5 : Fin 6) (by decide) _ _ _ _ _ _
    rfl (st2 V d) (dn2 V d) rfl rfl rfl k Q
theorem round3 (V : Dev nD → VV F) (κ) (d : Dev nD) (k : TcProg F) (Q : PUnit → sProp 𝕄) :
    iprop((K (F := F)).ctx EH (P (conts V)) κ ∗ at_ F d 3 (D2 (V d) d) ∗ ghost F d 3 ∗ (at_ F d 4 (D3 (V d) d) -∗ tcWp d k Q))
      ⊢ tcWp d (seqK ops6 ((K (F := F)).run d 3 >>= fun _ => seqK ops7 (tcCall 3 >>= fun _ => k))) Q :=
  wp_round_main V κ d 3 ops6 ops7 sub6 fresh6 sub7 fresh7 main_v33 main_v34 rfl rfl (5 : Fin 6) (by decide) _ _ _ _ _ _
    rfl (st3 V d) (dn3 V d) rfl rfl rfl k Q
theorem round4 (V : Dev nD → VV F) (κ) (d : Dev nD) (k : TcProg F) (Q : PUnit → sProp 𝕄) :
    iprop((K (F := F)).ctx EH (P (conts V)) κ ∗ at_ F d 4 (D3 (V d) d) ∗ ghost F d 4 ∗ (at_ F d 5 (D4 (V d) d) -∗ tcWp d k Q))
      ⊢ tcWp d (seqK ops8 ((K (F := F)).run d 4 >>= fun _ => seqK ops9 (tcCall 4 >>= fun _ => k))) Q :=
  wp_round_main V κ d 4 ops8 ops9 sub8 fresh8 sub9 fresh9 main_v40 main_v41 rfl rfl (7 : Fin 8) (by decide) _ _ _ _ _ _
    rfl (st4 V d) (dn4 V d) rfl rfl rfl k Q

/-- The buffers at @main's end. -/
abbrev FIN (V : Dev nD → VV F) (d : Dev nD) : sProp 𝕄 := bufs d (D4 (V d) d)

/-- @main on device `d`'s TensorCore. -/
theorem hmain (m : (ℓ : Loc nD τ sig) → Buf (Elt F) ℓ) (ρ) (κ) (d : Dev nD) :
    iprop((K (F := F)).ctx EH (P (conts fun d b => m (d, b))) κ ∗ (K (F := F)).tcSt EH d 0 ∗ (K (F := F)).tcRes m ρ d ∗ bigSep Finset.univ (ghost F d))
      ⊢ tcWp d (main (F := F) d) fun _ => iprop((K (F := F)).tcSt EH d 5 ∗ FIN (fun d b => m (d, b)) d ∗ (K (F := F)).tcEnd d) := by
  generalize hV : (fun (d : Dev nD) (b : DevRef τ sig) => m (d, b) : Dev nD → VV F) = V
  have e : (unscopedBufs d (fun b => m ((SparseCore.T d).loc b)) : sProp 𝕄) = bufs d (V d) := by
    subst hV; exact Pipeline.unscopedBufs_held d fun b => m (d, b)
  have eg : bigSep Finset.univ (ghost F d) = iprop(ghost F d 0 ∗ ghost F d 1 ∗ ghost F d 2 ∗ ghost F d 3 ∗ ghost F d 4) := by
    rw [show (Finset.univ : Finset (Fin 5)) = {0, 1, 2, 3, 4} by decide, SparseCore.bigSep_insert' (by decide), SparseCore.bigSep_insert' (by decide),
      SparseCore.bigSep_insert' (by decide), SparseCore.bigSep_insert' (by decide), bigSep_singleton]
  unfold SparseCore.Cfg.tcRes SparseCore.Cfg.tcEnd
  rw [main_eq, e, eg]
  iintro ⟨#Hctx, Hst, ⟨Hb, Hv, Hts, -⟩, G0, G1, G2, G3, G4⟩
  iapply (round0 V κ d (rest1 d))
  isplitr; · iexact Hctx
  isplitl [Hb Hst Hv]
  · isplitl [Hb]; · iexact Hb
    isplitl [Hst] <;> iassumption
  isplitl [G0]; · iexact G0
  iintro H
  iapply (round1 V κ d (rest2 d))
  isplitr; · iexact Hctx
  isplitl [H]; · iexact H
  isplitl [G1]; · iexact G1
  iintro H
  iapply (round2 V κ d (rest3 d))
  isplitr; · iexact Hctx
  isplitl [H]; · iexact H
  isplitl [G2]; · iexact G2
  iintro H
  iapply (round3 V κ d (rest4 d))
  isplitr; · iexact Hctx
  isplitl [H]; · iexact H
  isplitl [G3]; · iexact G3
  iintro H
  iapply (round4 V κ d (pure ⟨⟩))
  isplitr; · iexact Hctx
  isplitl [H]; · iexact H
  isplitl [G4]; · iexact G4
  iintro ⟨Hb, Hst, Hv⟩
  iapply (Entails.of_eq (wp_pure ..).symm)
  imodintro
  isplitl [Hst]; · iexact Hst
  isplitl [Hv]; · iexact Hv
  isplitl [Hb] <;> iassumption

end Cert.KernelIdeal.Proof

end
-- ==== Proof.Run.lean ====
/-
  The run of the whole program: from any memory whose index lists name rows of the table, it ends with every buffer of
  @main at the last valuation and every counter at zero.
-/
module

public import proofs.«01_k».proof.Proof.Main

@[expose] public section

noncomputable section

namespace Cert.KernelIdeal.Proof

open Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 5) (Elt F) ℕ UU ℕ

/-- The launch element: the handshakes' rounds, the pipelines' rounds, no transfers' counters. -/
def u₀ (F : FTy → Type) [FloatOps F] : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

theorem hu₀ (C : Conts F) : (ownU (u₀ F) : sProp 𝕄)
    ⊢ |={Set.univ}=> iprop(BI.own (EH (initOf (K (F := F)).hsCells (K (F := F)).hsToks)) ∗ (bigSep Finset.univ fun d : Dev nD => bigSep Finset.univ (ghost F d))
        ∗ bigSep Finset.univ fun thr : Thread nD τ => bigSep Finset.univ fun q : Fin 5 => (P C).x q thr) := by
  have hx : (bigSep Finset.univ fun thr : Thread nD τ => bigSep Finset.univ fun q : Fin 5 => (P C).x q thr) = (iprop(emp) : sProp 𝕄) := by
    rw [show (fun thr : Thread nD τ => bigSep Finset.univ fun q : Fin 5 => (P C).x q thr) = fun _ => (iprop(emp) : sProp 𝕄) from
      funext fun _ => bigSep_emp_const _]
    exact bigSep_emp_const _
  have hg : (bigSep Finset.univ fun d : Dev nD => bigSep Finset.univ (ghost F d))
      = iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) := by
    simp only [ghost, bigSep_sep']
  have hf := Pipeline.fund_ghost (nD := nD) (τ := τ) (Pipeline.pin (pcfgs (F := F)) adm) (EP (F := F)) cells_inj
  rw [hx, hg]
  unfold u₀
  iintro Hu
  ihave H := (ownU_pair _ _) $$ Hu
  icases H with ⟨HH, HR⟩
  ihave H := (own_pair_emb _ _ _) $$ HR
  icases H with ⟨HP, -⟩
  imod hf $$ HP with HG
  imodintro
  isplitl [HH]; · iexact HH
  isplitl [HG]; · iexact HG
  iempintro

variable (m : (ℓ : Loc nD τ sig) → Buf (Elt F) ℓ) (ρ : Dev nD → PrngReg)

/-- The launch contents, per device. -/
abbrev launchV : Dev nD → VV F := fun d b => m (d, b)

set_option maxRecDepth 16384 in
theorem hfin (d : Dev nD) (s' : Phys nD τ sig (Elt F)) :
    iprop(FIN (launchV m) d ∗ SI s') ⊢ (⌜∀ b ∈ Pipeline.ucRefs τ sig, s'.mem.mem (d, b) = D4 (launchV m d) d b⌝ : sProp 𝕄) := by
  unfold FIN bufs held
  iintro ⟨H, HSI⟩
  ihave %h := (SI_pointsTo_bufs_agree (qs := fun _ => fullShare) (Pipeline.ucRefs τ sig)) $$ [HSI H]
  · isplitl [HSI]; · iexact HSI
    iexact H
  ipureintro
  exact h

set_option maxRecDepth 16384 in
/-- THE RUN. -/
theorem run_main (hC : (conts (launchV m)).Ok) :
    θ_run (defs (F := F)) (threads (F := F)) ⟨m, fun _ => 0, ρ⟩ fun r =>
      (∀ d : Dev nD, ∀ b ∈ Pipeline.ucRefs τ sig, r.2.mem (d, b) = D4 (launchV m d) d b) ∧ r.2.sem = fun _ => 0 :=
  SparseCore.Cfg.θ_run_sc_quiescent (K := K (F := F)) (D := D (F := F)) (𝒱 := 𝒱) (EH := EH) (P := P (conts (launchV m))) (A := ∅) facts v₀
    (fun q hq => match q with | 0 => nomatch hq | 1 => nomatch hq | 2 => nomatch hq | 3 => nomatch hq | 4 => nomatch hq)
    (fun q _ => tileObl _ hC q)
    (fun q _ => SparseCore.Cfg.VecSplit.of_plain (vecSplit _ q))
    m ρ main (fun d => bigSep Finset.univ (ghost F d)) (FIN (launchV m)) (u₀ F) (sep_elim_left.trans (hu₀ _)) (hmain m ρ) _ (hfin m) _ (fun _ h hz => ⟨h, hz⟩)

end Cert.KernelIdeal.Proof

end
-- ==== Proof.Keep.lean ====
/-
  What @main leaves alone: the arguments and the host's prepared arrays through the five rounds.
-/
module

public import proofs.«01_k».proof.Proof.Run
public import Idealize.ShloMosaic.Lib.ReduceAll
public import Idealize.ShloMosaic.Lib.ValueLayout

@[expose] public section

noncomputable section

namespace Cert.KernelIdeal.Proof

open Cert.KernelIdeal.Gen
open Idealize.ShloMosaic Idealize.ShloMosaic.ValueIdx
open Idealize.ShloMosaic.TcCoe
open Idealize.ShloMosaic.StableHlo

variable {F : FTy → Type} [FloatOps F]

/-- The buffers that the first two stretches' calls and operations write, and so on for each round after the first. -/
def R0 : List (Ref sig .tc) := main_v13 :: main_v16 :: W1
def R1 : List (Ref sig .tc) := main_v20 :: main_v23 :: (W2 ++ W3)
def R2 : List (Ref sig .tc) := main_v27 :: main_v30 :: (W4 ++ W5)
def R3 : List (Ref sig .tc) := main_v34 :: main_v37 :: (W6 ++ W7)
def R4 : List (Ref sig .tc) := main_v41 :: main_v46 :: (W8 ++ W9)

/-- A round writes only its own buffers. -/
theorem keep0 (V : VV F) (d : Dev nD) (r : Ref sig .tc) (h : r ∉ R0) : D0 V d (Proc.devRef .tc r) = A0 V d (Proc.devRef .tc r) := by
  simp only [R0, List.mem_cons, not_or] at h
  exact (put_other _ _ _ _ h.2.1).trans ((after1 _ r h.2.2).trans (put_other _ _ _ _ h.1))
theorem keep1 (V : VV F) (d : Dev nD) (r : Ref sig .tc) (h : r ∉ R1) : D1 V d (Proc.devRef .tc r) = D0 V d (Proc.devRef .tc r) := by
  simp only [R1, List.mem_cons, List.mem_append, not_or] at h
  exact (put_other _ _ _ _ h.2.1).trans ((after3 _ r h.2.2.2).trans ((put_other _ _ _ _ h.1).trans (after2 _ r h.2.2.1)))
theorem keep2 (V : VV F) (d : Dev nD) (r : Ref sig .tc) (h : r ∉ R2) : D2 V d (Proc.devRef .tc r) = D1 V d (Proc.devRef .tc r) := by
  simp only [R2, List.mem_cons, List.mem_append, not_or] at h
  exact (put_other _ _ _ _ h.2.1).trans ((after5 _ r h.2.2.2).trans ((put_other _ _ _ _ h.1).trans (after4 _ r h.2.2.1)))
theorem keep3 (V : VV F) (d : Dev nD) (r : Ref sig .tc) (h : r ∉ R3) : D3 V d (Proc.devRef .tc r) = D2 V d (Proc.devRef .tc r) := by
  simp only [R3, List.mem_cons, List.mem_append, not_or] at h
  exact (put_other _ _ _ _ h.2.1).trans ((after7 _ r h.2.2.2).trans ((put_other _ _ _ _ h.1).trans (after6 _ r h.2.2.1)))
theorem keep4 (V : VV F) (d : Dev nD) (r : Ref sig .tc) (h : r ∉ R4) : D4 V d (Proc.devRef .tc r) = D3 V d (Proc.devRef .tc r) := by
  simp only [R4, List.mem_cons, List.mem_append, not_or] at h
  exact (put_other _ _ _ _ h.2.1).trans ((after9 _ r h.2.2.2).trans ((put_other _ _ _ _ h.1).trans (after8 _ r h.2.2.1)))

/-- The arguments of @main. -/
def args : List (Ref sig .tc) := [main_arg0, main_arg1, main_arg2, main_arg3, main_arg4, main_arg5, main_arg6, main_arg7]

theorem args_off : ∀ r ∈ args, r ∉ W0 ∧ r ∉ R0 ∧ r ∉ R1 ∧ r ∉ R2 ∧ r ∉ R3 ∧ r ∉ R4 := by decide

/-- Every argument keeps its contents to the end. -/
theorem keep_arg (V : VV F) (d : Dev nD) (r : Ref sig .tc) (h : r ∈ args) : D4 V d (Proc.devRef .tc r) = V (Proc.devRef .tc r) :=
  have o := args_off r h
  (keep4 V d r o.2.2.2.2.2).trans ((keep3 V d r o.2.2.2.2.1).trans ((keep2 V d r o.2.2.2.1).trans ((keep1 V d r o.2.2.1).trans
    ((keep0 V d r o.2.1).trans (after0 V r o.1)))))

/-- The prepared index row is the same before every round. -/
theorem row_off : main_v1 ∉ R0 ∧ main_v1 ∉ R1 ∧ main_v1 ∉ R2 ∧ main_v1 ∉ R3 := by decide
theorem row0 (V : VV F) (d : Dev nD) : D0 V d (Proc.devRef .tc main_v1) = A0 V d (Proc.devRef .tc main_v1) := keep0 V d _ row_off.1
theorem row1 (V : VV F) (d : Dev nD) : D1 V d (Proc.devRef .tc main_v1) = A0 V d (Proc.devRef .tc main_v1) :=
  (keep1 V d _ row_off.2.1).trans (row0 V d)
theorem row2 (V : VV F) (d : Dev nD) : D2 V d (Proc.devRef .tc main_v1) = A0 V d (Proc.devRef .tc main_v1) :=
  (keep2 V d _ row_off.2.2.1).trans (row1 V d)
theorem row3 (V : VV F) (d : Dev nD) : D3 V d (Proc.devRef .tc main_v1) = A0 V d (Proc.devRef .tc main_v1) :=
  (keep3 V d _ row_off.2.2.2).trans (row2 V d)

/-- The prepared index row: entry `p` is the token of row `p % 4096` at time `p / 4096`. -/
theorem rowAll (V : VV F) (d : Dev nD) (p : Fin 204800) :
    (A0 V d (Proc.devRef .tc main_v1) : S1x204800.Idx → Elt F .i32) (ix2 0 p)
      = (V (Proc.devRef .tc main_arg0) : S4096x50.Idx → Elt F .i32) (ix2 ⟨p.val % 4096, Nat.mod_lt _ (by omega)⟩ ⟨p.val / 4096, by omega⟩) := by
  have e : (A0 V d (Proc.devRef .tc main_v1) : S1x204800.Idx → Elt F .i32)
      = shapeCast S1x204800 (transpose S50x4096 [1, 0] (V (Proc.devRef .tc main_arg0) : S4096x50.Idx → Elt F .i32) transposes_S4096x50_S50x4096_1_0) shapeCasts_S50x4096_S1x204800 := by
    unfold A0 ops0
    after_results
    rfl
  rw [e]
  have := p.isLt
  refine (shapeCast_apply _ _ _ (ix2 (⟨p.val / 4096, by omega⟩ : Fin 50) (⟨p.val % 4096, Nat.mod_lt _ (by omega)⟩ : Fin 4096)) ?_).trans (transpose_ix2_apply _ _ _ _)
  rw [Shape.rowMajor_val_two, Shape.rowMajor_val_two]
  show p.val / 4096 * 4096 + p.val % 4096 = 0 * 204800 + p.val
  omega

/-- A slice of an index row, cast to a list and back, is the slice. -/
theorem cut_apply (o : Nat) (X : S1x204800.Idx → Elt F .i32) (h : S1x204800.Slices ![0, o] S1x40960) (j : Fin 40960) (ho : o + j.val < 204800) :
    shapeCast S1x40960 (shapeCast S40960 (extractStridedSlice S1x40960 ![0, o] X h) shapeCasts_S1x40960_S40960) shapeCasts_S40960_S1x40960 (ix2 0 j)
      = X (ix2 0 ⟨o + j.val, ho⟩) := by
  refine (shapeCast_apply _ _ _ (ix1 j) ?_).trans ((shapeCast_apply _ _ _ (ix2 0 j) ?_).trans ?_)
  · rw [Shape.rowMajor_val_two, Shape.rowMajor_val_one]
    show j.val = 0 * 40960 + j.val
    omega
  · rw [Shape.rowMajor_val_two, Shape.rowMajor_val_one]
    show 0 * 40960 + j.val = j.val
    omega
  · exact extractStridedSlice_apply _ _ _ _ _ fun a => match a with
      | ⟨0, _⟩ => rfl
      | ⟨1, _⟩ => rfl

/-- The token that entry `j` of gather call `q`'s index list names. -/
def tok (V : VV F) (q : Fin 5) (j : Fin 40960) : Elt F .i32 :=
  (V (Proc.devRef .tc main_arg0) : S4096x50.Idx → Elt F .i32)
    (ix2 ⟨j.val % 4096, Nat.mod_lt _ (by omega)⟩ ⟨10 * q.val + j.val / 4096, by omega⟩)

theorem tok_eq (V : VV F) (d : Dev nD) (q : Fin 5) (j : Fin 40960) (ho : 40960 * q.val + j.val < 204800) :
    (A0 V d (Proc.devRef .tc main_v1) : S1x204800.Idx → Elt F .i32) (ix2 0 ⟨40960 * q.val + j.val, ho⟩) = tok V q j := by
  rw [rowAll]
  refine congrArg _ ?_
  congr 1 <;> apply Fin.ext <;> show _ = _ <;> simp only <;> omega

theorem idx0 (V : VV F) (d : Dev nD) (j : Fin 40960) :
    (A0 V d (Proc.devRef .tc main_v12) : S1x40960.Idx → Elt F .i32) (ix2 0 j) = tok V 0 j := by
  have e : (A0 V d (Proc.devRef .tc main_v12) : S1x40960.Idx → Elt F .i32)
      = shapeCast S1x40960 (shapeCast S40960 (extractStridedSlice S1x40960 ![0, 0] (A0 V d (Proc.devRef .tc main_v1) : S1x204800.Idx → Elt F .i32) slices_S1x204800_S1x40960_0_0) shapeCasts_S1x40960_S40960) shapeCasts_S40960_S1x40960 := by
    unfold A0 ops0
    after_results
    rfl
  rw [e]
  exact (cut_apply 0 _ _ j (by omega)).trans (tok_eq V d 0 j (by have := j.isLt; show 40960 * 0 + _ < _; omega))
theorem idx1 (V : VV F) (d : Dev nD) (j : Fin 40960) :
    (A1 V d (Proc.devRef .tc main_v19) : S1x40960.Idx → Elt F .i32) (ix2 0 j) = tok V 1 j := by
  have e : (A1 V d (Proc.devRef .tc main_v19) : S1x40960.Idx → Elt F .i32)
      = shapeCast S1x40960 (shapeCast S40960 (extractStridedSlice S1x40960 ![0, 40960] (D0 V d (Proc.devRef .tc main_v1) : S1x204800.Idx → Elt F .i32) slices_S1x204800_S1x40960_0_40960) shapeCasts_S1x40960_S40960) shapeCasts_S40960_S1x40960 := by
    unfold A1 ops2
    after_results
    rfl
  rw [e, row0]
  exact (cut_apply 40960 _ _ j (by omega)).trans (tok_eq V d 1 j (by have := j.isLt; show 40960 * 1 + _ < _; omega))
theorem idx2 (V : VV F) (d : Dev nD) (j : Fin 40960) :
    (A2 V d (Proc.devRef .tc main_v26) : S1x40960.Idx → Elt F .i32) (ix2 0 j) = tok V 2 j := by
  have e : (A2 V d (Proc.devRef .tc main_v26) : S1x40960.Idx → Elt F .i32)
      = shapeCast S1x40960 (shapeCast S40960 (extractStridedSlice S1x40960 ![0, 81920] (D1 V d (Proc.devRef .tc main_v1) : S1x204800.Idx → Elt F .i32) slices_S1x204800_S1x40960_0_81920) shapeCasts_S1x40960_S40960) shapeCasts_S40960_S1x40960 := by
    unfold A2 ops4
    after_results
    rfl
  rw [e, row1]
  exact (cut_apply 81920 _ _ j (by omega)).trans (tok_eq V d 2 j (by have := j.isLt; show 40960 * 2 + _ < _; omega))
theorem idx3 (V : VV F) (d : Dev nD) (j : Fin 40960) :
    (A3 V d (Proc.devRef .tc main_v33) : S1x40960.Idx → Elt F .i32) (ix2 0 j) = tok V 3 j := by
  have e : (A3 V d (Proc.devRef .tc main_v33) : S1x40960.Idx → Elt F .i32)
      = shapeCast S1x40960 (shapeCast S40960 (extractStridedSlice S1x40960 ![0, 122880] (D2 V d (Proc.devRef .tc main_v1) : S1x204800.Idx → Elt F .i32) slices_S1x204800_S1x40960_0_122880) shapeCasts_S1x40960_S40960) shapeCasts_S40960_S1x40960 := by
    unfold A3 ops6
    after_results
    rfl
  rw [e, row2]
  exact (cut_apply 122880 _ _ j (by omega)).trans (tok_eq V d 3 j (by have := j.isLt; show 40960 * 3 + _ < _; omega))
theorem idx4 (V : VV F) (d : Dev nD) (j : Fin 40960) :
    (A4 V d (Proc.devRef .tc main_v40) : S1x40960.Idx → Elt F .i32) (ix2 0 j) = tok V 4 j := by
  have e : (A4 V d (Proc.devRef .tc main_v40) : S1x40960.Idx → Elt F .i32)
      = shapeCast S1x40960 (shapeCast S40960 (extractStridedSlice S1x40960 ![0, 163840] (D3 V d (Proc.devRef .tc main_v1) : S1x204800.Idx → Elt F .i32) slices_S1x204800_S1x40960_0_163840) shapeCasts_S1x40960_S40960) shapeCasts_S40960_S1x40960 := by
    unfold A4 ops8
    after_results
    rfl
  rw [e, row3]
  exact (cut_apply 163840 _ _ j (by omega)).trans (tok_eq V d 4 j (by have := j.isLt; show 40960 * 4 + _ < _; omega))

/-- An index into a list written as one row is its second coordinate. -/
theorem ix_row (y : S1x40960.Idx) : y = ix2 0 (y 1) := by
  funext a
  match a with
  | ⟨0, _⟩ => exact Fin.ext (by have := (y ⟨0, by decide⟩).isLt; change (y ⟨0, _⟩).val < 1 at this; show (y ⟨0, _⟩).val = 0; omega)
  | ⟨1, _⟩ => rfl

/-- Entry `j` of gather call `q`'s index list. -/
theorem idx (V : Dev nD → VV F) (q : Fin 5) (d : Dev nD) (j : Fin 40960) : (conts V).X q d (ix2 0 j) = tok (V d) q j :=
  match q with
  | 0 => idx0 (V d) d j
  | 1 => idx1 (V d) d j
  | 2 => idx2 (V d) d j
  | 3 => idx3 (V d) d j
  | 4 => idx4 (V d) d j

/-- Tokens below the number of table rows give index lists that every gather call may use. -/
theorem conts_ok (V : Dev nD → VV F)
    (h : ∀ d y, ((V d (Proc.devRef .tc main_arg0) : S4096x50.Idx → Elt F .i32) y).toNat < 100000) : (conts V).Ok := by
  intro q d y
  have e : (conts V).X q d y = tok (V d) q (y 1) :=
    (congrArg ((conts V).X q d) (ix_row y)).trans (idx V q d (y 1))
  rw [e]
  exact h d _

end Cert.KernelIdeal.Proof

end
-- ==== Proof.TwoPrograms.lean ====
/-
  The machine's program and the ideal program have one text: over the machine's floats their tables of bodies and their
  threads are the same.
-/
module

public import Idealize.ShloMosaic.PureOps.BitExact
public import Mathlib.Tactic.FinCases
public import proofs.«01_k».proof.Proof.Gen.Kernel
public import proofs.«01_k».proof.Proof.Gen.KernelIdeal

@[expose] public section

noncomputable section

namespace Cert.KernelIdeal.Proof

open Idealize.ShloMosaic

set_option maxRecDepth 65536
set_option maxHeartbeats 8000000

/-- The kernels' bodies agree, label by label. -/
theorem bodies_eq : Cert.Kernel.defs₀ (F := Bits) = Cert.KernelIdeal.defs₀ (F := Bits) := by
  funext p l x
  cases p
  · fin_cases l <;> rfl
  · fin_cases l <;> rfl
  · fin_cases l <;> rfl

/-- So the whole tables agree. -/
theorem tables_eq : Cert.Kernel.defs (F := Bits) = Cert.KernelIdeal.defs (F := Bits) :=
  congrArg (fun D => Cert.KernelIdeal.sc.defs (Pipeline.defs Cert.KernelIdeal.pcfgs D)) bodies_eq

/-- The threads agree. -/
theorem threads_eq : Cert.Kernel.threads (F := Bits) = Cert.KernelIdeal.threads (F := Bits) := rfl

end Cert.KernelIdeal.Proof

end
-- ==== Proof.Frames.lean ====
/-
  The frames: every program terminates, leaves its arguments alone and every semaphore counter at zero.
-/
module

public import proofs.«01_k».proof.Defs
public import proofs.«01_k».proof.Proof.Keep
public import proofs.«01_k».proof.Proof.TwoPrograms
public import proofs.«01_k».proof.Proof.Gen.ReferenceIdeal.Run
public import proofs.«01_k».proof.Proof.Gen.Pre_pre

@[expose] public section

noncomputable section

namespace Cert.KernelIdeal.Proof

open Cert.KernelIdeal.Gen
open Idealize.ShloMosaic Idealize.ShloMosaic.ValueIdx
open Idealize.ShloMosaic.TcCoe
open Idealize.ShloMosaic.StableHlo Idealize.SL.Sem

/-- The precondition says of every token that it is the number of a table row. -/
theorem tok_lt {F : FTy → Type} [FloatOps F] (a0 a1 a2 a3 a4 a5 a6 a7)
    (h : Cert.Pre_pre.fn (F := F) a0 a1 a2 a3 a4 a5 a6 a7 = fun _ => 1#1) (y : Cert.Pre_pre.S4096x50.Idx) : (a0 y).toNat < 100000 := by
  have e := congrFun h ix0
  unfold Cert.Pre_pre.fn at e
  have e' := Host.reduce_andi_all (u := Cert.Pre_pre.S_) _ _ _ _ _ e y
  have e2 : IntOp.andi (BitVec.ofBool (BitVec.sle 0#32 (a0 y))) (BitVec.ofBool (BitVec.slt (a0 y) 100000#32)) = 1#1 := e'
  have e3 : (BitVec.sle 0#32 (a0 y)) = true ∧ (BitVec.slt (a0 y) 100000#32) = true := by
    revert e2
    cases BitVec.sle 0#32 (a0 y) <;> cases BitVec.slt (a0 y) 100000#32 <;> decide
  rw [BitVec.sle_eq_decide, BitVec.slt_eq_decide, decide_eq_true_eq, decide_eq_true_eq] at e3
  have t := (a0 y).isLt
  have := BitVec.toInt_eq_toNat_cond (a0 y)
  have z : (0#32).toInt = 0 := rfl
  have z' : (100000#32).toInt = 100000 := rfl
  rw [z, z'] at e3
  split at this <;> omega

/-- The run of the ideal program: its result, its arguments and its counters. -/
theorem run_ideal (m : (ℓ : Loc nD τ sig) → Buf (Elt Ideal) ℓ) (g : Dev nD → PrngReg) (h : Pre_KernelIdeal m) :
    θ_run (defs (F := Ideal)) (threads (F := Ideal)) ⟨m, fun _ => 0, g⟩ fun r =>
      (∀ d : Dev nD, ∀ b ∈ Pipeline.ucRefs τ sig, r.2.mem (d, b) = D4 (launchV m d) d b) ∧ r.2.sem = fun _ => 0 :=
  run_main m g (conts_ok _ fun d y => tok_lt _ _ _ _ _ _ _ _ (h d) y)

/-- The run of the machine's program. -/
theorem run_bits (m : (ℓ : Loc nD τ sig) → Buf (Elt Bits) ℓ) (g : Dev nD → PrngReg) (h : Pre_Kernel m) :
    θ_run (defs (F := Bits)) (threads (F := Bits)) ⟨m, fun _ => 0, g⟩ fun r =>
      (∀ d : Dev nD, ∀ b ∈ Pipeline.ucRefs τ sig, r.2.mem (d, b) = D4 (launchV m d) d b) ∧ r.2.sem = fun _ => 0 :=
  run_main m g (conts_ok _ fun d y => tok_lt _ _ _ _ _ _ _ _ (h d) y)

/-- An argument at the end of a run. -/
theorem arg_end {F : FTy → Type} [FloatOps F] (m m' : (ℓ : Loc nD τ sig) → Buf (Elt F) ℓ)
    (h : ∀ d : Dev nD, ∀ b ∈ Pipeline.ucRefs τ sig, m' (d, b) = D4 (launchV m d) d b) (c : Dev nD) (r : Ref sig .tc)
    (hr : r ∈ args) (hb : r.isScoped = false) : m' ((c.tc : Thread nD τ).loc r) = m ((c.tc : Thread nD τ).loc r) :=
  (h c _ (mem_uc hb)).trans (keep_arg (launchV m c) c r hr)

theorem args_end {F : FTy → Type} [FloatOps F] (m m' : (ℓ : Loc nD τ sig) → Buf (Elt F) ℓ)
    (h : ∀ d : Dev nD, ∀ b ∈ Pipeline.ucRefs τ sig, m' (d, b) = D4 (launchV m d) d b) (c : Dev nD) :
    m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7) :=
  ⟨arg_end m m' h c _ (by decide) rfl, arg_end m m' h c _ (by decide) rfl, arg_end m m' h c _ (by decide) rfl,
   arg_end m m' h c _ (by decide) rfl, arg_end m m' h c _ (by decide) rfl, arg_end m m' h c _ (by decide) rfl,
   arg_end m m' h c _ (by decide) rfl, arg_end m m' h c _ (by decide) rfl⟩

/-- The frame of the ideal program. -/
theorem frame_ideal : Cert.quiescent_KernelIdeal := fun m g h =>
  (θ_run Cert.KernelIdeal.defs _ _).mono (fun r e => ⟨fun c => args_end m r.2.mem e.1 c, e.2⟩) (run_ideal m g h)

set_option maxHeartbeats 8000000 in
set_option maxRecDepth 65536 in
/-- What a run of the ideal program's text over the machine's floats ends with, a run of the machine's program ends with. -/
theorem to_kernel (s : MemSt nD τ sig (Elt Bits)) (Q : PUnit × MemSt nD τ sig (Elt Bits) → Prop)
    (h : θ_run (Cert.KernelIdeal.defs (F := Bits)) (Cert.KernelIdeal.threads (F := Bits)) s Q) :
    θ_run (Cert.Kernel.defs (F := Bits)) (Cert.Kernel.threads (F := Bits)) s Q :=
  (congrArg (fun D => θ_run D (Cert.KernelIdeal.threads (F := Bits)) s Q) tables_eq).mpr h

/-- The frame of the machine's program. -/
theorem frame_kernel : Cert.quiescent_Kernel := fun m g h =>
  to_kernel _ _ ((θ_run Cert.KernelIdeal.defs _ _).mono (fun r e => ⟨fun c => args_end (F := Bits) m r.2.mem e.1 c, e.2⟩) (run_bits m g h))

/-- The frame of the reference, which has no semaphore. -/
theorem frame_reference : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run m g)

end Cert.KernelIdeal.Proof

end
-- ==== Proof.Chunk.lean ====
/-
  What the TensorCore bodies compute over the extended reals, entry by entry: ten steps of the recurrence on each row of a
  block, and the output layer.
-/
module

public import proofs.«01_k».proof.Proof.TcBody
public import Idealize.ShloMosaic.Lib.MatmulPlain
public import Idealize.ShloMosaic.Lib.ValueLayout

@[expose] public section

noncomputable section

namespace Cert.KernelIdeal.Proof

open Cert.KernelIdeal.Gen
open Idealize.ShloMosaic Idealize.ShloMosaic.ValueIdx
open scoped BigOperators

theorem dims_in : dot_S5120x128_S128x256_S5120x256_1_0_0_1_n_n = DotDims.plain 5120 128 256 := rfl
theorem dims_rec : dot_S512x256_S256x256_S512x256_1_0_0_1_n_n = DotDims.plain 512 256 256 := rfl
theorem dims_out : dot_S512x256_S256x1000_S512x1000_1_0_0_1_n_n = DotDims.plain 512 256 1000 := rfl

/-- A splat of the zero word is zero. -/
theorem splat_zero (s : Shape) (i : s.Idx) : (constant (F := Ideal) s .f32 0x00000000#32 i : EReal) = 0 := Ideal.ofBits_zero_f32

/-- The input's share of step `t`'s argument. -/
def inPart (xe : Vec Ideal S10x512x128 .f32) (wih : Vec Ideal S128x256 .f32) (b : Vec Ideal S1x256 .f32)
    (t : Fin 10) (i : Fin 512) (j : Fin 256) : EReal :=
  (∑ e : Fin 128, (xe (ix3 t i e) : EReal) * wih (ix2 e j)) + b (ix2 0 j)

theorem pay3_apply (xe : Vec Ideal S10x512x128 .f32) (wih : Vec Ideal S128x256 .f32) (b : Vec Ideal S1x256 .f32)
    (t : Fin 10) (i : Fin 512) (j : Fin 256) : (k1_pay3 (F := Ideal) b xe wih (ix3 t i j) : EReal) = inPart xe wih b t i j := by
  have ht := t.isLt
  have hi := i.isLt
  unfold k1_pay3 inPart
  simp only [shapeCast_self]
  refine congrArg₂ (· + ·) ?_ ?_
  · refine (shapeCast_apply _ _ _ (ix2 (⟨512 * t.val + i.val, by omega⟩ : Fin 5120) j) ?_).trans ?_
    · rw [Shape.rowMajor_val_two, Shape.rowMajor_val_three]
      show (512 * t.val + i.val) * 256 + j.val = (t.val * 512 + i.val) * 256 + j.val
      omega
    · rw [dims_in]
      refine (Ideal.matmul_plain_apply none _ _ _ _ _).trans ?_
      refine (congrArg (· + _) (splat_zero S5120x256 _)).trans ((zero_add _).trans ?_)
      refine Finset.sum_congr rfl fun e _ => congrArg (· * _) ?_
      refine shapeCast_apply _ _ _ (ix3 t i e) ?_
      rw [Shape.rowMajor_val_two, Shape.rowMajor_val_three]
      show (t.val * 512 + i.val) * 128 + e.val = (512 * t.val + i.val) * 128 + e.val
      omega
  · refine (broadcastTo_apply _ _ _ (ix3 0 0 j) fun a => match a with | ⟨0, _⟩ => rfl | ⟨1, _⟩ => rfl | ⟨2, _⟩ => rfl).trans ?_
    refine shapeCast_apply _ _ _ (ix2 0 j) ?_
    rw [Shape.rowMajor_val_two, Shape.rowMajor_val_three]
    show 0 * 256 + j.val = (0 * 1 + 0) * 256 + j.val
    omega

/-- One step as the body writes it: slice `o` of the input parts, plus the state through the recurrent weights. -/
def vstep (P : FVec Ideal S10x512x256 .f32) (w : FVec Ideal S256x256 .f32) (o : Fin 3 → ℕ) (ho : S10x512x256.Slices o S1x512x256)
    (h : FVec Ideal S512x256 .f32) : FVec Ideal S512x256 .f32 :=
  tanh (addf (shapeCast S512x256 (extractStridedSlice S1x512x256 o P ho) shapeCasts_S1x512x256_S512x256)
    (matmul dot_S512x256_S256x256_S512x256_1_0_0_1_n_n none h w (constant S512x256 .f32 0x00000000#32)))

theorem vstep_apply (P : FVec Ideal S10x512x256 .f32) (w : FVec Ideal S256x256 .f32) (t : Fin 10)
    (ho : S10x512x256.Slices ![t.val, 0, 0] S1x512x256) (h : FVec Ideal S512x256 .f32) (i : Fin 512) (j : Fin 256) :
    (vstep P w ![t.val, 0, 0] ho h (ix2 i j) : EReal)
      = Ideal.tanh ((P (ix3 t i j) : EReal) + ∑ k : Fin 256, (h (ix2 i k) : EReal) * w (ix2 k j)) := by
  refine congrArg Ideal.tanh (congrArg₂ (· + ·) ?_ ?_)
  · refine (shapeCast_1ab_ab_apply _ _ _ _).trans ?_
    refine extractStridedSlice_apply _ _ _ _ _ fun a => match a with
      | ⟨0, _⟩ => rfl
      | ⟨1, _⟩ => (Nat.zero_add _).symm
      | ⟨2, _⟩ => (Nat.zero_add _).symm
  · rw [dims_rec]
    refine (Ideal.matmul_plain_apply none _ _ _ _ _).trans ?_
    exact (congrArg (· + _) (splat_zero S512x256 _)).trans (zero_add _)

set_option maxRecDepth 65536 in
/-- A chunk is its ten steps. -/
theorem chunkVal_steps (xe : Vec Ideal S10x512x128 .f32) (h : Vec Ideal S512x256 .f32) (wih : Vec Ideal S128x256 .f32)
    (whh : Vec Ideal S256x256 .f32) (b : Vec Ideal S1x256 .f32) :
    chunkVal (F := Ideal) xe h wih whh b =
      have P := k1_pay3 (F := Ideal) b xe wih
      have w := shapeCast S256x256 whh shapeCasts_S256x256_S256x256
      vstep P w ![9, 0, 0] slices_S10x512x256_o9_0_0_S1x512x256 (vstep P w ![8, 0, 0] slices_S10x512x256_o8_0_0_S1x512x256
        (vstep P w ![7, 0, 0] slices_S10x512x256_o7_0_0_S1x512x256 (vstep P w ![6, 0, 0] slices_S10x512x256_o6_0_0_S1x512x256
        (vstep P w ![5, 0, 0] slices_S10x512x256_o5_0_0_S1x512x256 (vstep P w ![4, 0, 0] slices_S10x512x256_o4_0_0_S1x512x256
        (vstep P w ![3, 0, 0] slices_S10x512x256_o3_0_0_S1x512x256 (vstep P w ![2, 0, 0] slices_S10x512x256_o2_0_0_S1x512x256
        (vstep P w ![1, 0, 0] slices_S10x512x256_o1_0_0_S1x512x256 (vstep P w ![0, 0, 0] slices_S10x512x256_o0_0_0_S1x512x256
          (shapeCast S512x256 h shapeCasts_S512x256_S512x256)))))))))) := rfl

/-- Ten steps of a recurrence `G` on a block's rows are what a chunk computes. -/
theorem chunk_rows (xe : Vec Ideal S10x512x128 .f32) (h : Vec Ideal S512x256 .f32) (wih : Vec Ideal S128x256 .f32)
    (whh : Vec Ideal S256x256 .f32) (b : Vec Ideal S1x256 .f32) (G : ℕ → Fin 512 → Fin 256 → EReal)
    (h0 : ∀ i j, (h (ix2 i j) : EReal) = G 0 i j)
    (hG : ∀ (t : Fin 10) i j, G (t.val + 1) i j = Ideal.tanh (inPart xe wih b t i j + ∑ k : Fin 256, G t.val i k * whh (ix2 k j)))
    (i : Fin 512) (j : Fin 256) : (chunkVal (F := Ideal) xe h wih whh b (ix2 i j) : EReal) = G 10 i j := by
  have st : ∀ (t : Fin 10) (ho) (g : FVec Ideal S512x256 .f32), (∀ i j, (g (ix2 i j) : EReal) = G t.val i j) →
      ∀ i j, (vstep (k1_pay3 (F := Ideal) b xe wih) (shapeCast S256x256 whh shapeCasts_S256x256_S256x256) ![t.val, 0, 0] ho g (ix2 i j) : EReal)
        = G (t.val + 1) i j := by
    intro t ho g hg i j
    rw [vstep_apply, hG, pay3_apply, shapeCast_self]
    refine congrArg (fun s => Ideal.tanh (_ + s)) (Finset.sum_congr rfl fun k _ => ?_)
    rw [hg]
  have z : ∀ i j, (shapeCast S512x256 h shapeCasts_S512x256_S512x256 (ix2 i j) : EReal) = G 0 i j := by
    rw [shapeCast_self]
    exact h0
  rw [chunkVal_steps]
  exact st 9 _ _ (st 8 _ _ (st 7 _ _ (st 6 _ _ (st 5 _ _ (st 4 _ _ (st 3 _ _ (st 2 _ _ (st 1 _ _ (st 0 _ _ z))))))))) i j

set_option maxRecDepth 65536 in
/-- The last body is a chunk and the output layer behind it. -/
theorem headVal_eq (xe : Vec Ideal S10x512x128 .f32) (h : Vec Ideal S512x256 .f32) (wih : Vec Ideal S128x256 .f32)
    (whh : Vec Ideal S256x256 .f32) (b : Vec Ideal S1x256 .f32) (wo : Vec Ideal S256x1000 .f32) (bo : Vec Ideal S1x1000 .f32) :
    headVal (F := Ideal) xe h wih whh b wo bo =
      addf (matmul (φ₂ := .f32) dot_S512x256_S256x1000_S512x1000_1_0_0_1_n_n none (chunkVal (F := Ideal) xe h wih whh b)
          (shapeCast S256x1000 wo shapeCasts_S256x1000_S256x1000) (constant S512x1000 .f32 0x00000000#32))
        (broadcastTo S512x1000 (shapeCast S1x1000 bo shapeCasts_S1x1000_S1x1000) broadcasts_S1x1000_S512x1000) := rfl

theorem head_rows (xe : Vec Ideal S10x512x128 .f32) (h : Vec Ideal S512x256 .f32) (wih : Vec Ideal S128x256 .f32)
    (whh : Vec Ideal S256x256 .f32) (b : Vec Ideal S1x256 .f32) (wo : Vec Ideal S256x1000 .f32) (bo : Vec Ideal S1x1000 .f32)
    (G : ℕ → Fin 512 → Fin 256 → EReal) (h0 : ∀ i j, (h (ix2 i j) : EReal) = G 0 i j)
    (hG : ∀ (t : Fin 10) i j, G (t.val + 1) i j = Ideal.tanh (inPart xe wih b t i j + ∑ k : Fin 256, G t.val i k * whh (ix2 k j)))
    (i : Fin 512) (o : Fin 1000) : (headVal (F := Ideal) xe h wih whh b wo bo (ix2 i o) : EReal)
      = (∑ k : Fin 256, G 10 i k * wo (ix2 k o)) + bo (ix2 0 o) := by
  rw [headVal_eq]
  simp only [shapeCast_self]
  refine congrArg₂ (· + ·) ?_ ?_
  · rw [dims_out]
    refine (Ideal.matmul_plain_apply none _ _ _ _ _).trans ?_
    refine (congrArg (· + _) (splat_zero S512x1000 _)).trans ((zero_add _).trans ?_)
    refine Finset.sum_congr rfl fun k _ => congrArg (· * _) ?_
    exact chunk_rows xe h wih whh b G h0 hG i k
  · exact broadcastTo_apply _ _ _ (ix2 0 o) fun a => match a with | ⟨0, _⟩ => rfl | ⟨1, _⟩ => rfl

end Cert.KernelIdeal.Proof

end
-- ==== Proof.Spec.lean ====
/-
  The network over the extended reals, written once: the embedded tokens, the hidden state after each step, and the
  output layer. Both programs are read against it.
-/
module

public import Idealize.ShloMosaic.Lib.ValueIdx
public import Idealize.ShloMosaic.PureOps.Ideal

@[expose] public section

noncomputable section

namespace Cert.Net

open Idealize.ShloMosaic Idealize.ShloMosaic.ValueIdx
open scoped BigOperators

/-- The embedding of row `r`'s token at time `t`. -/
def emb (X : (⟨2, ![4096, 50]⟩ : Shape).Idx → BitVec 32) (E : (⟨2, ![100000, 64]⟩ : Shape).Idx → EReal)
    (t : ℕ) (r : Fin 4096) (e : Fin 64) : EReal :=
  E (ix2 ⟨min (X (ix2 r ⟨min t 49, by omega⟩)).toNat 99999, by omega⟩ e)

/-- The hidden state after `t` steps. -/
def hid (X : (⟨2, ![4096, 50]⟩ : Shape).Idx → BitVec 32) (E : (⟨2, ![100000, 64]⟩ : Shape).Idx → EReal)
    (A : (⟨2, ![256, 64]⟩ : Shape).Idx → EReal) (R : (⟨2, ![256, 256]⟩ : Shape).Idx → EReal)
    (b c : (⟨1, ![256]⟩ : Shape).Idx → EReal) : ℕ → Fin 4096 → Fin 256 → EReal
  | 0 => fun _ _ => 0
  | t + 1 => fun r j => Ideal.tanh (((∑ e : Fin 64, emb X E t r e * A (ix2 j e)) + (b (ix1 j) + c (ix1 j)))
      + ∑ k : Fin 256, hid X E A R b c t r k * R (ix2 j k))

/-- The output layer on the last hidden state. -/
def out (X : (⟨2, ![4096, 50]⟩ : Shape).Idx → BitVec 32) (E : (⟨2, ![100000, 64]⟩ : Shape).Idx → EReal)
    (A : (⟨2, ![256, 64]⟩ : Shape).Idx → EReal) (R : (⟨2, ![256, 256]⟩ : Shape).Idx → EReal)
    (b c : (⟨1, ![256]⟩ : Shape).Idx → EReal) (W : (⟨2, ![1000, 256]⟩ : Shape).Idx → EReal)
    (u : (⟨1, ![1000]⟩ : Shape).Idx → EReal) (r : Fin 4096) (o : Fin 1000) : EReal :=
  (∑ k : Fin 256, hid X E A R b c 50 r k * W (ix2 o k)) + u (ix1 o)

end Cert.Net

end
-- ==== Proof.Rows.lean ====
/-
  One TensorCore call against the network: where its input arrays hold the embedded tokens of ten time steps, the hidden
  state before them and the weights, each block of its result holds the hidden state after them.
-/
module

public import proofs.«01_k».proof.Proof.Chunk
public import proofs.«01_k».proof.Proof.Spec

@[expose] public section

noncomputable section

namespace Cert.KernelIdeal.Proof

open Cert.KernelIdeal.Gen
open Idealize.ShloMosaic Idealize.ShloMosaic.ValueIdx
open scoped BigOperators

/-- The row of the batch that row `i` of block `t` is. -/
def row (t : Fin 8) (i : Fin 512) : Fin 4096 := ⟨512 * t.val + i.val, by omega⟩

variable (x : S4096x50.Idx → BitVec 32) (E : S100000x64.Idx → EReal) (A : S256x64.Idx → EReal) (R : S256x256.Idx → EReal)
  (b c : S256.Idx → EReal)

/-- The input arrays of call `q` hold what the network has before step `10 q`: the embedded tokens with 64 zero columns
    beside them, the hidden state, the weights transposed (those of the input with 64 zero rows below them), and the sum of
    the biases. -/
structure Inputs (q : ℕ) (X : S10x4096x128.Idx → EReal) (H : S4096x256.Idx → EReal) (Wi : S128x256.Idx → EReal)
    (Wh : S256x256.Idx → EReal) (B : S1x256.Idx → EReal) : Prop where
  xe : ∀ (t : Fin 10) r (e : Fin 128), X (ix3 t r e) = if h : e.val < 64 then Net.emb x E (10 * q + t.val) r ⟨e.val, h⟩ else 0
  h : ∀ r j, H (ix2 r j) = Net.hid x E A R b c (10 * q) r j
  wi : ∀ (e : Fin 128) j, Wi (ix2 e j) = if h : e.val < 64 then A (ix2 j ⟨e.val, h⟩) else 0
  wh : ∀ k j, Wh (ix2 k j) = R (ix2 j k)
  b : ∀ j, B (ix2 0 j) = b (ix1 j) + c (ix1 j)

/-- A sum over 128 columns of which the last 64 are zero. -/
theorem sum_half (f : Fin 128 → EReal) (g : Fin 64 → EReal) (h₁ : ∀ e : Fin 64, f (Fin.castAdd 64 e) = g e)
    (h₂ : ∀ e : Fin 64, f (Fin.natAdd 64 e) = 0) : ∑ e : Fin 128, f e = ∑ e : Fin 64, g e := by
  refine (Fin.sum_univ_add (a := 64) (b := 64) f).trans ?_
  rw [Finset.sum_congr rfl fun e _ => h₁ e, Finset.sum_congr rfl fun e _ => h₂ e, Finset.sum_const_zero, add_zero]

variable {x E A R b c}

section Block
variable {q : ℕ} {X : S10x4096x128.Idx → EReal} {H : S4096x256.Idx → EReal} {Wi : S128x256.Idx → EReal}
  {Wh : S256x256.Idx → EReal} {B : S1x256.Idx → EReal} (I : Inputs x E A R b c q X H Wi Wh B)
  (t : Fin 8) {xe : Vec Ideal S10x512x128 .f32} {h : Vec Ideal S512x256 .f32} {wih : Vec Ideal S128x256 .f32}
  {whh : Vec Ideal S256x256 .f32} {bb : Vec Ideal S1x256 .f32}
  (e0 : ∀ a i e, (xe (ix3 a i e) : EReal) = X (ix3 a (row t i) e)) (e1 : ∀ i j, (h (ix2 i j) : EReal) = H (ix2 (row t i) j))
  (e2 : ∀ i j, (wih (ix2 i j) : EReal) = Wi (ix2 i j)) (e3 : ∀ i j, (whh (ix2 i j) : EReal) = Wh (ix2 i j))
  (e4 : ∀ j, (bb (ix2 0 j) : EReal) = B (ix2 0 j))
include I e0 e1 e2 e3 e4

/-- One step on a block is the network's step on its rows. -/
theorem step_block (s : Fin 10) (i : Fin 512) (j : Fin 256) :
    Net.hid x E A R b c (10 * q + (s.val + 1)) (row t i) j
      = Ideal.tanh (inPart xe wih bb s i j + ∑ k : Fin 256, Net.hid x E A R b c (10 * q + s.val) (row t i) k * whh (ix2 k j)) := by
  refine congrArg Ideal.tanh (congrArg₂ (· + ·) (congrArg₂ (· + ·) ?_ ?_) ?_)
  · refine (sum_half _ _ (fun e => ?_) fun e => ?_).symm
    · rw [e0, e2, I.xe, I.wi]
      rw [dif_pos (show (Fin.castAdd 64 e).val < 64 from e.isLt), dif_pos (show (Fin.castAdd 64 e).val < 64 from e.isLt)]
      rfl
    · rw [e0, e2, I.xe, I.wi]
      have hn : ¬ (Fin.natAdd 64 e).val < 64 := by simp [Fin.natAdd]
      rw [dif_neg hn, dif_neg hn, mul_zero]
  · exact ((e4 j).trans (I.b j)).symm
  · exact Finset.sum_congr rfl fun k _ => congrArg (_ * ·) ((e3 k j).trans (I.wh k j)).symm

/-- A block of the hidden state after the call's ten steps. -/
theorem chunk_block (i : Fin 512) (j : Fin 256) :
    (chunkVal (F := Ideal) xe h wih whh bb (ix2 i j) : EReal) = Net.hid x E A R b c (10 * (q + 1)) (row t i) j :=
  chunk_rows xe h wih whh bb (fun s i j => Net.hid x E A R b c (10 * q + s) (row t i) j)
    (fun i j => (e1 i j).trans (I.h _ j)) (fun s i j => step_block I t e0 e1 e2 e3 e4 s i j) i j

/-- A block of the output layer on the hidden state after the last call's ten steps. -/
theorem head_block (hq : q = 4) (W : S1000x256.Idx → EReal) (u : S1000.Idx → EReal) {wo : Vec Ideal S256x1000 .f32}
    {bo : Vec Ideal S1x1000 .f32} (e5 : ∀ k o, (wo (ix2 k o) : EReal) = W (ix2 o k)) (e6 : ∀ o, (bo (ix2 0 o) : EReal) = u (ix1 o))
    (i : Fin 512) (o : Fin 1000) :
    (headVal (F := Ideal) xe h wih whh bb wo bo (ix2 i o) : EReal) = Net.out x E A R b c W u (row t i) o := by
  subst hq
  refine (head_rows xe h wih whh bb wo bo (fun s i j => Net.hid x E A R b c (10 * 4 + s) (row t i) j)
    (fun i j => (e1 i j).trans (I.h _ j)) (fun s i j => step_block I t e0 e1 e2 e3 e4 s i j) i o).trans ?_
  exact congrArg₂ (· + ·) (Finset.sum_congr rfl fun k _ => congrArg (_ * ·) (e5 k o)) (e6 o)

end Block

end Cert.KernelIdeal.Proof

end
-- ==== Proof.Pipes.lean ====
/-
  The TensorCore calls over whole arrays: what each call's blocks read, and that from the network's inputs before ten
  steps a call's result array is the hidden state after them (of the last call, the output layer on it).
-/
module

public import proofs.«01_k».proof.Proof.Rows
public import proofs.«01_k».proof.Proof.TcDat
import Idealize.ShloMosaic.Lib.Pipeline.ValueKit

@[expose] public section

noncomputable section

namespace Cert.KernelIdeal.Proof

open Cert.KernelIdeal.Gen
open Idealize.ShloMosaic hiding ix1 ix2 ix3
open Idealize.ShloMosaic.ValueIdx
open Idealize.ShloMosaic.TcCoe
open Idealize.ShloMosaic.Pipeline (Dat Cfg Window BodyObligation)

variable {x : S4096x50.Idx → BitVec 32} {E : S100000x64.Idx → EReal} {A : S256x64.Idx → EReal} {R : S256x256.Idx → EReal}
  {b c : S256.Idx → EReal}

/-! The call of pipeline 0. -/

/-- Where each window's block lies at each point. -/
theorem place1 : ∀ t : Fin cfg1.N, win1_0.index t = ![0, t.val, 0] ∧ win1_1.index t = ![t.val, 0] ∧ win1_2.index t = ![0, 0] ∧ win1_3.index t = ![0, 0] ∧ win1_4.index t = ![0, 0] ∧ win1_5.index t = ![t.val, 0] := by
  decide +kernel

theorem xe1 (W : VV Ideal) (t : Fin 8) (a : Fin 10) (i : Fin 512) (e : Fin 128) :
    (blk1 W 0 t : S10x512x128.Idx → EReal) (ix3 a i e) = (W (Proc.devRef .tc main_v14) : S10x4096x128.Idx → EReal) (ix3 a (row t i) e) := by
  refine congrArg (W (Proc.devRef .tc main_v14)) (?_ : ((cfg1.win 0).blk t).view.emb (ix3 a i e) = _)
  blk_ext [row, place1 t]
  exact congrArg (· + i.val) (Nat.mul_comm t.val 512)
theorem hh1 (W : VV Ideal) (t : Fin 8) (i : Fin 512) (j : Fin 256) :
    (blk1 W 1 t : S512x256.Idx → EReal) (ix2 i j) = (W (Proc.devRef .tc main_v9) : S4096x256.Idx → EReal) (ix2 (row t i) j) := by
  refine congrArg (W (Proc.devRef .tc main_v9)) (?_ : ((cfg1.win 1).blk t).view.emb (ix2 i j) = _)
  blk_ext [row, place1 t]
  exact congrArg (· + i.val) (Nat.mul_comm t.val 512)
theorem wi1 (W : VV Ideal) (t : Fin 8) (i : Fin 128) (j : Fin 256) :
    (blk1 W 2 t : S128x256.Idx → EReal) (ix2 i j) = (W (Proc.devRef .tc main_v6) : S128x256.Idx → EReal) (ix2 i j) := by
  refine congrArg (W (Proc.devRef .tc main_v6)) (?_ : ((cfg1.win 2).blk t).view.emb (ix2 i j) = _)
  blk_ext [row, place1 t]
theorem wh1 (W : VV Ideal) (t : Fin 8) (i : Fin 256) (j : Fin 256) :
    (blk1 W 3 t : S256x256.Idx → EReal) (ix2 i j) = (W (Proc.devRef .tc main_v15) : S256x256.Idx → EReal) (ix2 i j) := by
  refine congrArg (W (Proc.devRef .tc main_v15)) (?_ : ((cfg1.win 3).blk t).view.emb (ix2 i j) = _)
  blk_ext [row, place1 t]
theorem bb1 (W : VV Ideal) (t : Fin 8) (i : Fin 1) (j : Fin 256) :
    (blk1 W 4 t : S1x256.Idx → EReal) (ix2 i j) = (W (Proc.devRef .tc main_v8) : S1x256.Idx → EReal) (ix2 i j) := by
  refine congrArg (W (Proc.devRef .tc main_v8)) (?_ : ((cfg1.win 4).blk t).view.emb (ix2 i j) = _)
  blk_ext [row, place1 t]

/-- The result array, from its blocks. -/
theorem array1 (W : VV Ideal) (d : Dev nD) (G : S4096x256.Idx → EReal)
    (h : ∀ (t : Fin 8) (i : Fin 512) (j : Fin 256), (out1 W t (ix2 i j) : EReal) = G (ix2 (row t i) j)) :
    (dat1 W d).arrAt 5 cfg1.N = G := by
  refine (dat1 W d).arrAt_eq_of_covers 5 _ (by decide +kernel) fun t hf y => ?_
  blk_simp
  obtain ⟨i, j, rfl⟩ : ∃ (i : Fin 512) (j : Fin 256), y = ix2 i j := ⟨y 0, y 1, by funext a; fin_cases a <;> rfl⟩
  refine (h t i j).trans (congrArg G (?_ : _ = ((cfg1.win 5).blk t).view.emb (ix2 i j)))
  blk_ext [row, place1 t]
  exact congrArg (· + i.val) (Nat.mul_comm 512 t.val)

/-- The result array is the hidden state after the ten steps. -/
theorem result1 (W : VV Ideal) (d : Dev nD) {q : ℕ} (I : Inputs x E A R b c q (W (Proc.devRef .tc main_v14)) (W (Proc.devRef .tc main_v9)) (W (Proc.devRef .tc main_v6)) (W (Proc.devRef .tc main_v15)) (W (Proc.devRef .tc main_v8))) :
    (dat1 W d).arrAt 5 cfg1.N = fun y : S4096x256.Idx => Net.hid x E A R b c (10 * (q + 1)) (y 0) (y 1) :=
  array1 W d _ fun t i j => chunk_block I t (xe1 W t) (hh1 W t) (wi1 W t) (wh1 W t) (bb1 W t 0) i j

/-! The call of pipeline 1. -/

/-- Where each window's block lies at each point. -/
theorem place3 : ∀ t : Fin cfg3.N, win3_0.index t = ![0, t.val, 0] ∧ win3_1.index t = ![t.val, 0] ∧ win3_2.index t = ![0, 0] ∧ win3_3.index t = ![0, 0] ∧ win3_4.index t = ![0, 0] ∧ win3_5.index t = ![t.val, 0] := by
  decide +kernel

theorem xe3 (W : VV Ideal) (t : Fin 8) (a : Fin 10) (i : Fin 512) (e : Fin 128) :
    (blk3 W 0 t : S10x512x128.Idx → EReal) (ix3 a i e) = (W (Proc.devRef .tc main_v21) : S10x4096x128.Idx → EReal) (ix3 a (row t i) e) := by
  refine congrArg (W (Proc.devRef .tc main_v21)) (?_ : ((cfg3.win 0).blk t).view.emb (ix3 a i e) = _)
  blk_ext [row, place3 t]
  exact congrArg (· + i.val) (Nat.mul_comm t.val 512)
theorem hh3 (W : VV Ideal) (t : Fin 8) (i : Fin 512) (j : Fin 256) :
    (blk3 W 1 t : S512x256.Idx → EReal) (ix2 i j) = (W (Proc.devRef .tc main_v16) : S4096x256.Idx → EReal) (ix2 (row t i) j) := by
  refine congrArg (W (Proc.devRef .tc main_v16)) (?_ : ((cfg3.win 1).blk t).view.emb (ix2 i j) = _)
  blk_ext [row, place3 t]
  exact congrArg (· + i.val) (Nat.mul_comm t.val 512)
theorem wi3 (W : VV Ideal) (t : Fin 8) (i : Fin 128) (j : Fin 256) :
    (blk3 W 2 t : S128x256.Idx → EReal) (ix2 i j) = (W (Proc.devRef .tc main_v6) : S128x256.Idx → EReal) (ix2 i j) := by
  refine congrArg (W (Proc.devRef .tc main_v6)) (?_ : ((cfg3.win 2).blk t).view.emb (ix2 i j) = _)
  blk_ext [row, place3 t]
theorem wh3 (W : VV Ideal) (t : Fin 8) (i : Fin 256) (j : Fin 256) :
    (blk3 W 3 t : S256x256.Idx → EReal) (ix2 i j) = (W (Proc.devRef .tc main_v22) : S256x256.Idx → EReal) (ix2 i j) := by
  refine congrArg (W (Proc.devRef .tc main_v22)) (?_ : ((cfg3.win 3).blk t).view.emb (ix2 i j) = _)
  blk_ext [row, place3 t]
theorem bb3 (W : VV Ideal) (t : Fin 8) (i : Fin 1) (j : Fin 256) :
    (blk3 W 4 t : S1x256.Idx → EReal) (ix2 i j) = (W (Proc.devRef .tc main_v8) : S1x256.Idx → EReal) (ix2 i j) := by
  refine congrArg (W (Proc.devRef .tc main_v8)) (?_ : ((cfg3.win 4).blk t).view.emb (ix2 i j) = _)
  blk_ext [row, place3 t]

/-- The result array, from its blocks. -/
theorem array3 (W : VV Ideal) (d : Dev nD) (G : S4096x256.Idx → EReal)
    (h : ∀ (t : Fin 8) (i : Fin 512) (j : Fin 256), (out3 W t (ix2 i j) : EReal) = G (ix2 (row t i) j)) :
    (dat3 W d).arrAt 5 cfg3.N = G := by
  refine (dat3 W d).arrAt_eq_of_covers 5 _ (by decide +kernel) fun t hf y => ?_
  blk_simp
  obtain ⟨i, j, rfl⟩ : ∃ (i : Fin 512) (j : Fin 256), y = ix2 i j := ⟨y 0, y 1, by funext a; fin_cases a <;> rfl⟩
  refine (h t i j).trans (congrArg G (?_ : _ = ((cfg3.win 5).blk t).view.emb (ix2 i j)))
  blk_ext [row, place3 t]
  exact congrArg (· + i.val) (Nat.mul_comm 512 t.val)

/-- The result array is the hidden state after the ten steps. -/
theorem result3 (W : VV Ideal) (d : Dev nD) {q : ℕ} (I : Inputs x E A R b c q (W (Proc.devRef .tc main_v21)) (W (Proc.devRef .tc main_v16)) (W (Proc.devRef .tc main_v6)) (W (Proc.devRef .tc main_v22)) (W (Proc.devRef .tc main_v8))) :
    (dat3 W d).arrAt 5 cfg3.N = fun y : S4096x256.Idx => Net.hid x E A R b c (10 * (q + 1)) (y 0) (y 1) :=
  array3 W d _ fun t i j => chunk_block I t (xe3 W t) (hh3 W t) (wi3 W t) (wh3 W t) (bb3 W t 0) i j

/-! The call of pipeline 2. -/

/-- Where each window's block lies at each point. -/
theorem place5 : ∀ t : Fin cfg5.N, win5_0.index t = ![0, t.val, 0] ∧ win5_1.index t = ![t.val, 0] ∧ win5_2.index t = ![0, 0] ∧ win5_3.index t = ![0, 0] ∧ win5_4.index t = ![0, 0] ∧ win5_5.index t = ![t.val, 0] := by
  decide +kernel

theorem xe5 (W : VV Ideal) (t : Fin 8) (a : Fin 10) (i : Fin 512) (e : Fin 128) :
    (blk5 W 0 t : S10x512x128.Idx → EReal) (ix3 a i e) = (W (Proc.devRef .tc main_v28) : S10x4096x128.Idx → EReal) (ix3 a (row t i) e) := by
  refine congrArg (W (Proc.devRef .tc main_v28)) (?_ : ((cfg5.win 0).blk t).view.emb (ix3 a i e) = _)
  blk_ext [row, place5 t]
  exact congrArg (· + i.val) (Nat.mul_comm t.val 512)
theorem hh5 (W : VV Ideal) (t : Fin 8) (i : Fin 512) (j : Fin 256) :
    (blk5 W 1 t : S512x256.Idx → EReal) (ix2 i j) = (W (Proc.devRef .tc main_v23) : S4096x256.Idx → EReal) (ix2 (row t i) j) := by
  refine congrArg (W (Proc.devRef .tc main_v23)) (?_ : ((cfg5.win 1).blk t).view.emb (ix2 i j) = _)
  blk_ext [row, place5 t]
  exact congrArg (· + i.val) (Nat.mul_comm t.val 512)
theorem wi5 (W : VV Ideal) (t : Fin 8) (i : Fin 128) (j : Fin 256) :
    (blk5 W 2 t : S128x256.Idx → EReal) (ix2 i j) = (W (Proc.devRef .tc main_v6) : S128x256.Idx → EReal) (ix2 i j) := by
  refine congrArg (W (Proc.devRef .tc main_v6)) (?_ : ((cfg5.win 2).blk t).view.emb (ix2 i j) = _)
  blk_ext [row, place5 t]
theorem wh5 (W : VV Ideal) (t : Fin 8) (i : Fin 256) (j : Fin 256) :
    (blk5 W 3 t : S256x256.Idx → EReal) (ix2 i j) = (W (Proc.devRef .tc main_v29) : S256x256.Idx → EReal) (ix2 i j) := by
  refine congrArg (W (Proc.devRef .tc main_v29)) (?_ : ((cfg5.win 3).blk t).view.emb (ix2 i j) = _)
  blk_ext [row, place5 t]
theorem bb5 (W : VV Ideal) (t : Fin 8) (i : Fin 1) (j : Fin 256) :
    (blk5 W 4 t : S1x256.Idx → EReal) (ix2 i j) = (W (Proc.devRef .tc main_v8) : S1x256.Idx → EReal) (ix2 i j) := by
  refine congrArg (W (Proc.devRef .tc main_v8)) (?_ : ((cfg5.win 4).blk t).view.emb (ix2 i j) = _)
  blk_ext [row, place5 t]

/-- The result array, from its blocks. -/
theorem array5 (W : VV Ideal) (d : Dev nD) (G : S4096x256.Idx → EReal)
    (h : ∀ (t : Fin 8) (i : Fin 512) (j : Fin 256), (out5 W t (ix2 i j) : EReal) = G (ix2 (row t i) j)) :
    (dat5 W d).arrAt 5 cfg5.N = G := by
  refine (dat5 W d).arrAt_eq_of_covers 5 _ (by decide +kernel) fun t hf y => ?_
  blk_simp
  obtain ⟨i, j, rfl⟩ : ∃ (i : Fin 512) (j : Fin 256), y = ix2 i j := ⟨y 0, y 1, by funext a; fin_cases a <;> rfl⟩
  refine (h t i j).trans (congrArg G (?_ : _ = ((cfg5.win 5).blk t).view.emb (ix2 i j)))
  blk_ext [row, place5 t]
  exact congrArg (· + i.val) (Nat.mul_comm 512 t.val)

/-- The result array is the hidden state after the ten steps. -/
theorem result5 (W : VV Ideal) (d : Dev nD) {q : ℕ} (I : Inputs x E A R b c q (W (Proc.devRef .tc main_v28)) (W (Proc.devRef .tc main_v23)) (W (Proc.devRef .tc main_v6)) (W (Proc.devRef .tc main_v29)) (W (Proc.devRef .tc main_v8))) :
    (dat5 W d).arrAt 5 cfg5.N = fun y : S4096x256.Idx => Net.hid x E A R b c (10 * (q + 1)) (y 0) (y 1) :=
  array5 W d _ fun t i j => chunk_block I t (xe5 W t) (hh5 W t) (wi5 W t) (wh5 W t) (bb5 W t 0) i j

/-! The call of pipeline 3. -/

/-- Where each window's block lies at each point. -/
theorem place7 : ∀ t : Fin cfg7.N, win7_0.index t = ![0, t.val, 0] ∧ win7_1.index t = ![t.val, 0] ∧ win7_2.index t = ![0, 0] ∧ win7_3.index t = ![0, 0] ∧ win7_4.index t = ![0, 0] ∧ win7_5.index t = ![t.val, 0] := by
  decide +kernel

theorem xe7 (W : VV Ideal) (t : Fin 8) (a : Fin 10) (i : Fin 512) (e : Fin 128) :
    (blk7 W 0 t : S10x512x128.Idx → EReal) (ix3 a i e) = (W (Proc.devRef .tc main_v35) : S10x4096x128.Idx → EReal) (ix3 a (row t i) e) := by
  refine congrArg (W (Proc.devRef .tc main_v35)) (?_ : ((cfg7.win 0).blk t).view.emb (ix3 a i e) = _)
  blk_ext [row, place7 t]
  exact congrArg (· + i.val) (Nat.mul_comm t.val 512)
theorem hh7 (W : VV Ideal) (t : Fin 8) (i : Fin 512) (j : Fin 256) :
    (blk7 W 1 t : S512x256.Idx → EReal) (ix2 i j) = (W (Proc.devRef .tc main_v30) : S4096x256.Idx → EReal) (ix2 (row t i) j) := by
  refine congrArg (W (Proc.devRef .tc main_v30)) (?_ : ((cfg7.win 1).blk t).view.emb (ix2 i j) = _)
  blk_ext [row, place7 t]
  exact congrArg (· + i.val) (Nat.mul_comm t.val 512)
theorem wi7 (W : VV Ideal) (t : Fin 8) (i : Fin 128) (j : Fin 256) :
    (blk7 W 2 t : S128x256.Idx → EReal) (ix2 i j) = (W (Proc.devRef .tc main_v6) : S128x256.Idx → EReal) (ix2 i j) := by
  refine congrArg (W (Proc.devRef .tc main_v6)) (?_ : ((cfg7.win 2).blk t).view.emb (ix2 i j) = _)
  blk_ext [row, place7 t]
theorem wh7 (W : VV Ideal) (t : Fin 8) (i : Fin 256) (j : Fin 256) :
    (blk7 W 3 t : S256x256.Idx → EReal) (ix2 i j) = (W (Proc.devRef .tc main_v36) : S256x256.Idx → EReal) (ix2 i j) := by
  refine congrArg (W (Proc.devRef .tc main_v36)) (?_ : ((cfg7.win 3).blk t).view.emb (ix2 i j) = _)
  blk_ext [row, place7 t]
theorem bb7 (W : VV Ideal) (t : Fin 8) (i : Fin 1) (j : Fin 256) :
    (blk7 W 4 t : S1x256.Idx → EReal) (ix2 i j) = (W (Proc.devRef .tc main_v8) : S1x256.Idx → EReal) (ix2 i j) := by
  refine congrArg (W (Proc.devRef .tc main_v8)) (?_ : ((cfg7.win 4).blk t).view.emb (ix2 i j) = _)
  blk_ext [row, place7 t]

/-- The result array, from its blocks. -/
theorem array7 (W : VV Ideal) (d : Dev nD) (G : S4096x256.Idx → EReal)
    (h : ∀ (t : Fin 8) (i : Fin 512) (j : Fin 256), (out7 W t (ix2 i j) : EReal) = G (ix2 (row t i) j)) :
    (dat7 W d).arrAt 5 cfg7.N = G := by
  refine (dat7 W d).arrAt_eq_of_covers 5 _ (by decide +kernel) fun t hf y => ?_
  blk_simp
  obtain ⟨i, j, rfl⟩ : ∃ (i : Fin 512) (j : Fin 256), y = ix2 i j := ⟨y 0, y 1, by funext a; fin_cases a <;> rfl⟩
  refine (h t i j).trans (congrArg G (?_ : _ = ((cfg7.win 5).blk t).view.emb (ix2 i j)))
  blk_ext [row, place7 t]
  exact congrArg (· + i.val) (Nat.mul_comm 512 t.val)

/-- The result array is the hidden state after the ten steps. -/
theorem result7 (W : VV Ideal) (d : Dev nD) {q : ℕ} (I : Inputs x E A R b c q (W (Proc.devRef .tc main_v35)) (W (Proc.devRef .tc main_v30)) (W (Proc.devRef .tc main_v6)) (W (Proc.devRef .tc main_v36)) (W (Proc.devRef .tc main_v8))) :
    (dat7 W d).arrAt 5 cfg7.N = fun y : S4096x256.Idx => Net.hid x E A R b c (10 * (q + 1)) (y 0) (y 1) :=
  array7 W d _ fun t i j => chunk_block I t (xe7 W t) (hh7 W t) (wi7 W t) (wh7 W t) (bb7 W t 0) i j

/-! The call of pipeline 4. -/

/-- Where each window's block lies at each point. -/
theorem place9 : ∀ t : Fin cfg9.N, win9_0.index t = ![0, t.val, 0] ∧ win9_1.index t = ![t.val, 0] ∧ win9_2.index t = ![0, 0] ∧ win9_3.index t = ![0, 0] ∧ win9_4.index t = ![0, 0] ∧ win9_5.index t = ![0, 0] ∧ win9_6.index t = ![0, 0] ∧ win9_7.index t = ![t.val, 0] := by
  decide +kernel

theorem xe9 (W : VV Ideal) (t : Fin 8) (a : Fin 10) (i : Fin 512) (e : Fin 128) :
    (blk9 W 0 t : S10x512x128.Idx → EReal) (ix3 a i e) = (W (Proc.devRef .tc main_v42) : S10x4096x128.Idx → EReal) (ix3 a (row t i) e) := by
  refine congrArg (W (Proc.devRef .tc main_v42)) (?_ : ((cfg9.win 0).blk t).view.emb (ix3 a i e) = _)
  blk_ext [row, place9 t]
  exact congrArg (· + i.val) (Nat.mul_comm t.val 512)
theorem hh9 (W : VV Ideal) (t : Fin 8) (i : Fin 512) (j : Fin 256) :
    (blk9 W 1 t : S512x256.Idx → EReal) (ix2 i j) = (W (Proc.devRef .tc main_v37) : S4096x256.Idx → EReal) (ix2 (row t i) j) := by
  refine congrArg (W (Proc.devRef .tc main_v37)) (?_ : ((cfg9.win 1).blk t).view.emb (ix2 i j) = _)
  blk_ext [row, place9 t]
  exact congrArg (· + i.val) (Nat.mul_comm t.val 512)
theorem wi9 (W : VV Ideal) (t : Fin 8) (i : Fin 128) (j : Fin 256) :
    (blk9 W 2 t : S128x256.Idx → EReal) (ix2 i j) = (W (Proc.devRef .tc main_v6) : S128x256.Idx → EReal) (ix2 i j) := by
  refine congrArg (W (Proc.devRef .tc main_v6)) (?_ : ((cfg9.win 2).blk t).view.emb (ix2 i j) = _)
  blk_ext [row, place9 t]
theorem wh9 (W : VV Ideal) (t : Fin 8) (i : Fin 256) (j : Fin 256) :
    (blk9 W 3 t : S256x256.Idx → EReal) (ix2 i j) = (W (Proc.devRef .tc main_v43) : S256x256.Idx → EReal) (ix2 i j) := by
  refine congrArg (W (Proc.devRef .tc main_v43)) (?_ : ((cfg9.win 3).blk t).view.emb (ix2 i j) = _)
  blk_ext [row, place9 t]
theorem bb9 (W : VV Ideal) (t : Fin 8) (i : Fin 1) (j : Fin 256) :
    (blk9 W 4 t : S1x256.Idx → EReal) (ix2 i j) = (W (Proc.devRef .tc main_v8) : S1x256.Idx → EReal) (ix2 i j) := by
  refine congrArg (W (Proc.devRef .tc main_v8)) (?_ : ((cfg9.win 4).blk t).view.emb (ix2 i j) = _)
  blk_ext [row, place9 t]
theorem wo9 (W : VV Ideal) (t : Fin 8) (i : Fin 256) (j : Fin 1000) :
    (blk9 W 5 t : S256x1000.Idx → EReal) (ix2 i j) = (W (Proc.devRef .tc main_v44) : S256x1000.Idx → EReal) (ix2 i j) := by
  refine congrArg (W (Proc.devRef .tc main_v44)) (?_ : ((cfg9.win 5).blk t).view.emb (ix2 i j) = _)
  blk_ext [row, place9 t]
theorem bo9 (W : VV Ideal) (t : Fin 8) (i : Fin 1) (j : Fin 1000) :
    (blk9 W 6 t : S1x1000.Idx → EReal) (ix2 i j) = (W (Proc.devRef .tc main_v45) : S1x1000.Idx → EReal) (ix2 i j) := by
  refine congrArg (W (Proc.devRef .tc main_v45)) (?_ : ((cfg9.win 6).blk t).view.emb (ix2 i j) = _)
  blk_ext [row, place9 t]

/-- The result array, from its blocks. -/
theorem array9 (W : VV Ideal) (d : Dev nD) (G : S4096x1000.Idx → EReal)
    (h : ∀ (t : Fin 8) (i : Fin 512) (j : Fin 1000), (out9 W t (ix2 i j) : EReal) = G (ix2 (row t i) j)) :
    (dat9 W d).arrAt 7 cfg9.N = G := by
  refine (dat9 W d).arrAt_eq_of_covers 7 _ (by decide +kernel) fun t hf y => ?_
  blk_simp
  obtain ⟨i, j, rfl⟩ : ∃ (i : Fin 512) (j : Fin 1000), y = ix2 i j := ⟨y 0, y 1, by funext a; fin_cases a <;> rfl⟩
  refine (h t i j).trans (congrArg G (?_ : _ = ((cfg9.win 7).blk t).view.emb (ix2 i j)))
  blk_ext [row, place9 t]
  exact congrArg (· + i.val) (Nat.mul_comm 512 t.val)

/-- The result array is the output layer on the hidden state after the ten steps. -/
theorem result9 (W : VV Ideal) (d : Dev nD) (I : Inputs x E A R b c 4 (W (Proc.devRef .tc main_v42)) (W (Proc.devRef .tc main_v37)) (W (Proc.devRef .tc main_v6)) (W (Proc.devRef .tc main_v43)) (W (Proc.devRef .tc main_v8)))
    (wo : S1000x256.Idx → EReal) (u : S1000.Idx → EReal)
    (ew : ∀ k o, (W (Proc.devRef .tc main_v44) : S256x1000.Idx → EReal) (ix2 k o) = wo (ix2 o k))
    (eu : ∀ o, (W (Proc.devRef .tc main_v45) : S1x1000.Idx → EReal) (ix2 0 o) = u (ix1 o)) :
    (dat9 W d).arrAt 7 cfg9.N = fun y : S4096x1000.Idx => Net.out x E A R b c wo u (y 0) (y 1) :=
  array9 W d _ fun t i j => head_block I t (xe9 W t) (hh9 W t) (wi9 W t) (wh9 W t) (bb9 W t 0) rfl wo u
    (fun k o => (wo9 W t k o).trans (ew k o)) (fun o => (bo9 W t 0 o).trans (eu o)) i j

end Cert.KernelIdeal.Proof

end
-- ==== Proof.HostVals.lean ====
/-
  What the TensorCore calls find in their input arrays: the host's preparations and the gathered rows, read against the
  network, and from call to call the hidden state.
-/
module

public import proofs.«01_k».proof.Proof.Keep
public import proofs.«01_k».proof.Proof.Pipes
public import Idealize.ShloMosaic.Lib.Pipeline.Value
public import Idealize.ShloMosaic.Lib.IdealHost

@[expose] public section

noncomputable section

namespace Cert.KernelIdeal.Proof

open Cert.KernelIdeal.Gen
open Idealize.ShloMosaic Idealize.ShloMosaic.ValueIdx
open Idealize.ShloMosaic.TcCoe
open Idealize.ShloMosaic.StableHlo

variable (V : VV Ideal) (d : Dev nD)

/-! The arguments, by the names the network gives them. -/

abbrev argX : S4096x50.Idx → BitVec 32 := V (Proc.devRef .tc main_arg0)
abbrev argE : S100000x64.Idx → EReal := V (Proc.devRef .tc main_arg1)
abbrev argA : S256x64.Idx → EReal := V (Proc.devRef .tc main_arg2)
abbrev argR : S256x256.Idx → EReal := V (Proc.devRef .tc main_arg3)
abbrev argB : S256.Idx → EReal := V (Proc.devRef .tc main_arg4)
abbrev argC : S256.Idx → EReal := V (Proc.devRef .tc main_arg5)
abbrev argW : S1000x256.Idx → EReal := V (Proc.devRef .tc main_arg6)
abbrev argU : S1000.Idx → EReal := V (Proc.devRef .tc main_arg7)

/-- A splat of zero, broadcast, is zero everywhere. -/
theorem zeros_apply {T : Shape} (h : (⟨0, ![]⟩ : Shape).BroadcastsInDim T ![]) (j : T.Idx) :
    (broadcastInDim T ![] h (constant (F := Ideal) S_ .f32 0x00000000#32) j : EReal) = 0 :=
  (broadcastInDim_scalar_apply h _ j).trans (splat_zero S_ _)

/-- The padded table: the embedding's columns, then 64 zero columns. -/
theorem table_apply (n : Fin 100000) (e : Fin 128) :
    (A0 V d (Proc.devRef .tc main_v3) : S100000x128.Idx → EReal) (ix2 n e) = if h : e.val < 64 then argE V (ix2 n ⟨e.val, h⟩) else 0 := by
  have g : (A0 V d (Proc.devRef .tc main_v3) : S100000x128.Idx → EReal)
      = concatenate S100000x128 1 [⟨S100000x64, argE V⟩, ⟨S100000x64, broadcastInDim S100000x64 ![] bcast_S_S100000x64 (constant (F := Ideal) S_ .f32 0x00000000#32)⟩] concatenates_S100000x64_S100000x64_S100000x128_d1 := by
    unfold A0 ops0
    after_results
  rw [g]
  by_cases h : e.val < 64
  · rw [dif_pos h]
    exact concatenate_pair_apply_left (1 : Fin 2) (argE V) _ _ (ix2 n e) rfl (ix2 n ⟨e.val, h⟩) fun a => match a with
      | ⟨0, _⟩ => rfl
      | ⟨1, _⟩ => rfl
  · rw [dif_neg h]
    have he := e.isLt
    refine (concatenate_pair_apply_right (s₂ := S100000x64) (1 : Fin 2) (argE V) _ _ (ix2 n e) rfl rfl (ix2 n (⟨e.val - 64, by omega⟩ : Fin 64)) (fun a ha => ?_) ?_).trans (zeros_apply _ _)
    · match a, ha with
      | ⟨0, _⟩, _ => rfl
      | ⟨1, _⟩, ha => exact absurd rfl ha
    · show e.val - 64 + 64 = e.val
      omega

/-- The padded input weights: the transposed weights, then 64 zero rows. -/
theorem wih_apply (e : Fin 128) (j : Fin 256) :
    (A0 V d (Proc.devRef .tc main_v6) : S128x256.Idx → EReal) (ix2 e j) = if h : e.val < 64 then argA V (ix2 j ⟨e.val, h⟩) else 0 := by
  have g : (A0 V d (Proc.devRef .tc main_v6) : S128x256.Idx → EReal)
      = concatenate S128x256 0 [⟨S64x256, transpose S64x256 [1, 0] (argA V) transposes_S256x64_S64x256_1_0⟩, ⟨S64x256, broadcastInDim S64x256 ![] bcast_S_S64x256 (constant (F := Ideal) S_ .f32 0x00000000#32)⟩] concatenates_S64x256_S64x256_S128x256_d0 := by
    unfold A0 ops0
    after_results
  rw [g]
  by_cases h : e.val < 64
  · rw [dif_pos h]
    refine (concatenate_pair_apply_left (s₁ := S64x256) (0 : Fin 2) _ _ _ (ix2 e j) rfl (ix2 (⟨e.val, h⟩ : Fin 64) j) fun a => match a with
      | ⟨0, _⟩ => rfl
      | ⟨1, _⟩ => rfl).trans (transpose_ix2_apply _ _ _ _)
  · rw [dif_neg h]
    have he := e.isLt
    refine (concatenate_pair_apply_right (s₁ := S64x256) (s₂ := S64x256) (0 : Fin 2) _ _ _ (ix2 e j) rfl rfl (ix2 (⟨e.val - 64, by omega⟩ : Fin 64) j) (fun a ha => ?_) ?_).trans (zeros_apply _ _)
    · match a, ha with
      | ⟨0, _⟩, ha => exact absurd rfl ha
      | ⟨1, _⟩, _ => rfl
    · show e.val - 64 + 64 = e.val
      omega

/-- The bias row: the sum of the two biases. -/
theorem bias_apply (j : Fin 256) :
    (A0 V d (Proc.devRef .tc main_v8) : S1x256.Idx → EReal) (ix2 0 j) = argB V (ix1 j) + argC V (ix1 j) := by
  have g : (A0 V d (Proc.devRef .tc main_v8) : S1x256.Idx → EReal)
      = shapeCast S1x256 (addf (F := Ideal) (s := S256) (φ := .f32) (argB V) (argC V)) shapeCasts_S256_S1x256 := by
    unfold A0 ops0
    after_results
    rfl
  rw [g]
  refine (shapeCast_apply _ _ _ (ix1 j) ?_).trans rfl
  rw [Shape.rowMajor_val_two, Shape.rowMajor_val_one]
  show j.val = 0 * 256 + j.val
  omega

/-- The first hidden state is zero. -/
theorem start_apply (r : Fin 4096) (j : Fin 256) : A0 V d (Proc.devRef .tc main_v9) (ix2 r j) = (0 : EReal) := by
  have g : (A0 V d (Proc.devRef .tc main_v9) : S4096x256.Idx → EReal)
      = broadcastInDim S4096x256 ![] bcast_S_S4096x256 (constant (F := Ideal) S_ .f32 0x00000000#32) := by
    unfold A0 ops0
    after_results
  rw [g]
  exact zeros_apply _ _

/-- The gathered rows, folded into ten time steps, are the embedded tokens with zeros beside them. -/
theorem rows_apply (T : S100000x128.Idx → EReal) (X : S1x40960.Idx → BitVec 32) (q : Fin 5)
    (hT : T = (A0 V d (Proc.devRef .tc main_v3) : S100000x128.Idx → EReal)) (hX : ∀ j, X (ix2 0 j) = tok V q j)
    (t : Fin 10) (r : Fin 4096) (e : Fin 128) :
    (shapeCast S10x4096x128 (gath (F := Ideal) T X) shapeCasts_S40960x128_S10x4096x128 (ix3 t r e) : EReal)
      = if h : e.val < 64 then Net.emb (argX V) (argE V) (10 * q.val + t.val) r ⟨e.val, h⟩ else 0 := by
  have ht := t.isLt
  have hr := r.isLt
  refine (shapeCast_apply _ _ _ (ix2 (⟨4096 * t.val + r.val, by omega⟩ : Fin 40960) e) ?_).trans ?_
  · rw [Shape.rowMajor_val_two, Shape.rowMajor_val_three]
    show (4096 * t.val + r.val) * 128 + e.val = (t.val * 4096 + r.val) * 128 + e.val
    omega
  · show T (ix2 ⟨min (X (ix2 0 ⟨4096 * t.val + r.val, by omega⟩)).toNat 99999, by omega⟩ e) = _
    have hw : (⟨min (X (ix2 0 ⟨4096 * t.val + r.val, by omega⟩)).toNat 99999, by omega⟩ : Fin 100000)
        = ⟨min (argX V (ix2 r ⟨min (10 * q.val + t.val) 49, by omega⟩)).toNat 99999, by omega⟩ := by
      refine Fin.ext (congrArg (fun w : BitVec 32 => min w.toNat 99999) ((hX _).trans (congrArg (argX V) ?_)))
      have hq := q.isLt
      refine congrArg₂ ix2 (Fin.ext ?_) (Fin.ext ?_)
      · show (4096 * t.val + r.val) % 4096 = r.val
        omega
      · show 10 * q.val + (4096 * t.val + r.val) / 4096 = min (10 * q.val + t.val) 49
        omega
    rw [hw, hT]
    exact table_apply V d _ e

/-! Buffers that a round's first half leaves alone. -/

/-- The arrays that every call reads and no round writes. -/
def fixed : List (Ref sig .tc) := [main_v6, main_v8, main_arg3, main_arg6, main_arg7]

theorem fixed_off : ∀ r ∈ fixed, r ∉ R0 ∧ r ∉ R1 ∧ r ∉ R2 ∧ r ∉ R3 ∧ r ∉ W1 ∧ r ∉ W2 ∧ r ∉ W3 ∧ r ∉ W4 ∧ r ∉ W5 ∧ r ∉ W6 ∧ r ∉ W7 ∧ r ∉ W8 ∧ r ∉ W9 ∧ r ≠ main_v13 ∧ r ≠ main_v20 ∧ r ≠ main_v27 ∧ r ≠ main_v34 ∧ r ≠ main_v41 := by decide

theorem fixedB0 (r : Ref sig .tc) (h : r ∈ fixed) : B0 V d (Proc.devRef .tc r) = A0 V d (Proc.devRef .tc r) :=
  have o := fixed_off r h
  put_other _ _ _ _ (o.2.2.2.2.2.2.2.2.2.2.2.2.2.1)
theorem fixedD0 (r : Ref sig .tc) (h : r ∈ fixed) : D0 V d (Proc.devRef .tc r) = A0 V d (Proc.devRef .tc r) :=
  keep0 V d r (fixed_off r h).1
theorem fixedC0 (r : Ref sig .tc) (h : r ∈ fixed) : C0 V d (Proc.devRef .tc r) = A0 V d (Proc.devRef .tc r) :=
  have o := fixed_off r h
  (after1 _ r (o.2.2.2.2.1)).trans (fixedB0 V d r h)
theorem fixedB1 (r : Ref sig .tc) (h : r ∈ fixed) : B1 V d (Proc.devRef .tc r) = A0 V d (Proc.devRef .tc r) :=
  have o := fixed_off r h
  (put_other _ _ _ _ (o.2.2.2.2.2.2.2.2.2.2.2.2.2.2.1)).trans ((after2 _ r (o.2.2.2.2.2.1)).trans (fixedD0 V d r h))
theorem fixedD1 (r : Ref sig .tc) (h : r ∈ fixed) : D1 V d (Proc.devRef .tc r) = A0 V d (Proc.devRef .tc r) :=
  have o := fixed_off r h
  (keep1 V d r (o.2.1)).trans (fixedD0 V d r h)
theorem fixedC1 (r : Ref sig .tc) (h : r ∈ fixed) : C1 V d (Proc.devRef .tc r) = A0 V d (Proc.devRef .tc r) :=
  have o := fixed_off r h
  (after3 _ r (o.2.2.2.2.2.2.1)).trans (fixedB1 V d r h)
theorem fixedB2 (r : Ref sig .tc) (h : r ∈ fixed) : B2 V d (Proc.devRef .tc r) = A0 V d (Proc.devRef .tc r) :=
  have o := fixed_off r h
  (put_other _ _ _ _ (o.2.2.2.2.2.2.2.2.2.2.2.2.2.2.2.1)).trans ((after4 _ r (o.2.2.2.2.2.2.2.1)).trans (fixedD1 V d r h))
theorem fixedD2 (r : Ref sig .tc) (h : r ∈ fixed) : D2 V d (Proc.devRef .tc r) = A0 V d (Proc.devRef .tc r) :=
  have o := fixed_off r h
  (keep2 V d r (o.2.2.1)).trans (fixedD1 V d r h)
theorem fixedC2 (r : Ref sig .tc) (h : r ∈ fixed) : C2 V d (Proc.devRef .tc r) = A0 V d (Proc.devRef .tc r) :=
  have o := fixed_off r h
  (after5 _ r (o.2.2.2.2.2.2.2.2.1)).trans (fixedB2 V d r h)
theorem fixedB3 (r : Ref sig .tc) (h : r ∈ fixed) : B3 V d (Proc.devRef .tc r) = A0 V d (Proc.devRef .tc r) :=
  have o := fixed_off r h
  (put_other _ _ _ _ (o.2.2.2.2.2.2.2.2.2.2.2.2.2.2.2.2.1)).trans ((after6 _ r (o.2.2.2.2.2.2.2.2.2.1)).trans (fixedD2 V d r h))
theorem fixedD3 (r : Ref sig .tc) (h : r ∈ fixed) : D3 V d (Proc.devRef .tc r) = A0 V d (Proc.devRef .tc r) :=
  have o := fixed_off r h
  (keep3 V d r (o.2.2.2.1)).trans (fixedD2 V d r h)
theorem fixedC3 (r : Ref sig .tc) (h : r ∈ fixed) : C3 V d (Proc.devRef .tc r) = A0 V d (Proc.devRef .tc r) :=
  have o := fixed_off r h
  (after7 _ r (o.2.2.2.2.2.2.2.2.2.2.1)).trans (fixedB3 V d r h)
theorem fixedB4 (r : Ref sig .tc) (h : r ∈ fixed) : B4 V d (Proc.devRef .tc r) = A0 V d (Proc.devRef .tc r) :=
  have o := fixed_off r h
  (put_other _ _ _ _ (o.2.2.2.2.2.2.2.2.2.2.2.2.2.2.2.2.2)).trans ((after8 _ r (o.2.2.2.2.2.2.2.2.2.2.2.1)).trans (fixedD3 V d r h))
theorem fixedC4 (r : Ref sig .tc) (h : r ∈ fixed) : C4 V d (Proc.devRef .tc r) = A0 V d (Proc.devRef .tc r) :=
  have o := fixed_off r h
  (after9 _ r (o.2.2.2.2.2.2.2.2.2.2.2.2.1)).trans (fixedB4 V d r h)

/-- The recurrent weights, transposed from an array that holds the argument. -/
theorem whh_apply (Y : S256x256.Idx → EReal) (h : Y = argR V) (k j : Fin 256) :
    transpose S256x256 [1, 0] Y transposes_S256x256_S256x256_1_0 (ix2 k j) = argR V (ix2 j k) :=
  (transpose_ix2_apply _ _ _ _).trans (congrFun h _)

/-- An argument before the first call. -/
theorem arg_first (r : Ref sig .tc) (h : r ∈ args) : A0 V d (Proc.devRef .tc r) = V (Proc.devRef .tc r) := after0 V r (args_off r h).1

/-! The inputs of each TensorCore call, and its result. -/

theorem xe_at0 (t : Fin 10) (r : Fin 4096) (e : Fin 128) : (C0 V d (Proc.devRef .tc main_v14) : S10x4096x128.Idx → EReal) (ix3 t r e)
    = if h : e.val < 64 then Net.emb (argX V) (argE V) (10 * 0 + t.val) r ⟨e.val, h⟩ else 0 := by
  have g : (C0 V d (Proc.devRef .tc main_v14) : S10x4096x128.Idx → EReal)
      = shapeCast S10x4096x128 (B0 V d (Proc.devRef .tc main_v13) : S40960x128.Idx → EReal) shapeCasts_S40960x128_S10x4096x128 := by
    unfold C0 ops1
    after_results
    rfl
  rw [g]
  have p : B0 V d (Proc.devRef .tc main_v13) = gath (A0 V d (Proc.devRef .tc main_v3)) (A0 V d (Proc.devRef .tc main_v12)) := put_self ..
  rw [p]
  exact rows_apply V d _ _ 0 rfl (idx0 V d) t r e

theorem h_at0 (r : Fin 4096) (j : Fin 256) : (C0 V d (Proc.devRef .tc main_v9) : S4096x256.Idx → EReal) (ix2 r j)
    = Net.hid (argX V) (argE V) (argA V) (argR V) (argB V) (argC V) (10 * 0) r j := by
  have e : C0 V d (Proc.devRef .tc main_v9) = A0 V d (Proc.devRef .tc main_v9) :=
    (after1 _ main_v9 (by decide)).trans (put_other _ _ _ _ (by decide))
  exact (congrFun e _).trans (start_apply V d r j)

theorem wh_at0 (k j : Fin 256) : (C0 V d (Proc.devRef .tc main_v15) : S256x256.Idx → EReal) (ix2 k j) = argR V (ix2 j k) := by
  have g : (C0 V d (Proc.devRef .tc main_v15) : S256x256.Idx → EReal)
      = transpose S256x256 [1, 0] (B0 V d (Proc.devRef .tc main_arg3) : S256x256.Idx → EReal) transposes_S256x256_S256x256_1_0 := by
    unfold C0 ops1
    after_results
  rw [g]
  exact whh_apply V _ ((fixedB0 V d main_arg3 (by decide)).trans (arg_first V d main_arg3 (by decide))) k j

/-- Call 0 finds what the network has before step 0. -/
theorem inputs0 : Inputs (argX V) (argE V) (argA V) (argR V) (argB V) (argC V) 0
    (C0 V d (Proc.devRef .tc main_v14)) (C0 V d (Proc.devRef .tc main_v9)) (C0 V d (Proc.devRef .tc main_v6))
    (C0 V d (Proc.devRef .tc main_v15)) (C0 V d (Proc.devRef .tc main_v8)) where
  xe := xe_at0 V d
  h := h_at0 V d
  wi e j := (congrFun (fixedC0 V d main_v6 (by decide)) _).trans (wih_apply V d e j)
  wh := wh_at0 V d
  b j := (congrFun (fixedC0 V d main_v8 (by decide)) _).trans (bias_apply V d j)

/-- After call 0 the hidden state is the network's after step 10. -/
theorem state0 : D0 V d (Proc.devRef .tc main_v16) = fun y : S4096x256.Idx =>
    Net.hid (argX V) (argE V) (argA V) (argR V) (argB V) (argC V) (10 * (0 + 1)) (y 0) (y 1) :=
  (put_self ..).trans (result1 (C0 V d) d (inputs0 V d))

theorem xe_at1 (t : Fin 10) (r : Fin 4096) (e : Fin 128) : (C1 V d (Proc.devRef .tc main_v21) : S10x4096x128.Idx → EReal) (ix3 t r e)
    = if h : e.val < 64 then Net.emb (argX V) (argE V) (10 * 1 + t.val) r ⟨e.val, h⟩ else 0 := by
  have g : (C1 V d (Proc.devRef .tc main_v21) : S10x4096x128.Idx → EReal)
      = shapeCast S10x4096x128 (B1 V d (Proc.devRef .tc main_v20) : S40960x128.Idx → EReal) shapeCasts_S40960x128_S10x4096x128 := by
    unfold C1 ops3
    after_results
    rfl
  rw [g]
  have p : B1 V d (Proc.devRef .tc main_v20) = gath (A1 V d (Proc.devRef .tc main_v3)) (A1 V d (Proc.devRef .tc main_v19)) := put_self ..
  rw [p]
  exact rows_apply V d _ _ 1 (table1 V d) (idx1 V d) t r e

theorem h_at1 (r : Fin 4096) (j : Fin 256) : (C1 V d (Proc.devRef .tc main_v16) : S4096x256.Idx → EReal) (ix2 r j)
    = Net.hid (argX V) (argE V) (argA V) (argR V) (argB V) (argC V) (10 * 1) r j := by
  have e : C1 V d (Proc.devRef .tc main_v16) = D0 V d (Proc.devRef .tc main_v16) :=
    (after3 _ main_v16 (by decide)).trans ((put_other _ _ _ _ (by decide)).trans (after2 _ main_v16 (by decide)))
  exact (congrFun (e.trans (state0 V d)) _).trans rfl

theorem wh_at1 (k j : Fin 256) : (C1 V d (Proc.devRef .tc main_v22) : S256x256.Idx → EReal) (ix2 k j) = argR V (ix2 j k) := by
  have g : (C1 V d (Proc.devRef .tc main_v22) : S256x256.Idx → EReal)
      = transpose S256x256 [1, 0] (B1 V d (Proc.devRef .tc main_arg3) : S256x256.Idx → EReal) transposes_S256x256_S256x256_1_0 := by
    unfold C1 ops3
    after_results
  rw [g]
  exact whh_apply V _ ((fixedB1 V d main_arg3 (by decide)).trans (arg_first V d main_arg3 (by decide))) k j

/-- Call 1 finds what the network has before step 10. -/
theorem inputs1 : Inputs (argX V) (argE V) (argA V) (argR V) (argB V) (argC V) 1
    (C1 V d (Proc.devRef .tc main_v21)) (C1 V d (Proc.devRef .tc main_v16)) (C1 V d (Proc.devRef .tc main_v6))
    (C1 V d (Proc.devRef .tc main_v22)) (C1 V d (Proc.devRef .tc main_v8)) where
  xe := xe_at1 V d
  h := h_at1 V d
  wi e j := (congrFun (fixedC1 V d main_v6 (by decide)) _).trans (wih_apply V d e j)
  wh := wh_at1 V d
  b j := (congrFun (fixedC1 V d main_v8 (by decide)) _).trans (bias_apply V d j)

/-- After call 1 the hidden state is the network's after step 20. -/
theorem state1 : D1 V d (Proc.devRef .tc main_v23) = fun y : S4096x256.Idx =>
    Net.hid (argX V) (argE V) (argA V) (argR V) (argB V) (argC V) (10 * (1 + 1)) (y 0) (y 1) :=
  (put_self ..).trans (result3 (C1 V d) d (inputs1 V d))

theorem xe_at2 (t : Fin 10) (r : Fin 4096) (e : Fin 128) : (C2 V d (Proc.devRef .tc main_v28) : S10x4096x128.Idx → EReal) (ix3 t r e)
    = if h : e.val < 64 then Net.emb (argX V) (argE V) (10 * 2 + t.val) r ⟨e.val, h⟩ else 0 := by
  have g : (C2 V d (Proc.devRef .tc main_v28) : S10x4096x128.Idx → EReal)
      = shapeCast S10x4096x128 (B2 V d (Proc.devRef .tc main_v27) : S40960x128.Idx → EReal) shapeCasts_S40960x128_S10x4096x128 := by
    unfold C2 ops5
    after_results
    rfl
  rw [g]
  have p : B2 V d (Proc.devRef .tc main_v27) = gath (A2 V d (Proc.devRef .tc main_v3)) (A2 V d (Proc.devRef .tc main_v26)) := put_self ..
  rw [p]
  exact rows_apply V d _ _ 2 (table2 V d) (idx2 V d) t r e

theorem h_at2 (r : Fin 4096) (j : Fin 256) : (C2 V d (Proc.devRef .tc main_v23) : S4096x256.Idx → EReal) (ix2 r j)
    = Net.hid (argX V) (argE V) (argA V) (argR V) (argB V) (argC V) (10 * 2) r j := by
  have e : C2 V d (Proc.devRef .tc main_v23) = D1 V d (Proc.devRef .tc main_v23) :=
    (after5 _ main_v23 (by decide)).trans ((put_other _ _ _ _ (by decide)).trans (after4 _ main_v23 (by decide)))
  exact (congrFun (e.trans (state1 V d)) _).trans rfl

theorem wh_at2 (k j : Fin 256) : (C2 V d (Proc.devRef .tc main_v29) : S256x256.Idx → EReal) (ix2 k j) = argR V (ix2 j k) := by
  have g : (C2 V d (Proc.devRef .tc main_v29) : S256x256.Idx → EReal)
      = transpose S256x256 [1, 0] (B2 V d (Proc.devRef .tc main_arg3) : S256x256.Idx → EReal) transposes_S256x256_S256x256_1_0 := by
    unfold C2 ops5
    after_results
  rw [g]
  exact whh_apply V _ ((fixedB2 V d main_arg3 (by decide)).trans (arg_first V d main_arg3 (by decide))) k j

/-- Call 2 finds what the network has before step 20. -/
theorem inputs2 : Inputs (argX V) (argE V) (argA V) (argR V) (argB V) (argC V) 2
    (C2 V d (Proc.devRef .tc main_v28)) (C2 V d (Proc.devRef .tc main_v23)) (C2 V d (Proc.devRef .tc main_v6))
    (C2 V d (Proc.devRef .tc main_v29)) (C2 V d (Proc.devRef .tc main_v8)) where
  xe := xe_at2 V d
  h := h_at2 V d
  wi e j := (congrFun (fixedC2 V d main_v6 (by decide)) _).trans (wih_apply V d e j)
  wh := wh_at2 V d
  b j := (congrFun (fixedC2 V d main_v8 (by decide)) _).trans (bias_apply V d j)

/-- After call 2 the hidden state is the network's after step 30. -/
theorem state2 : D2 V d (Proc.devRef .tc main_v30) = fun y : S4096x256.Idx =>
    Net.hid (argX V) (argE V) (argA V) (argR V) (argB V) (argC V) (10 * (2 + 1)) (y 0) (y 1) :=
  (put_self ..).trans (result5 (C2 V d) d (inputs2 V d))

theorem xe_at3 (t : Fin 10) (r : Fin 4096) (e : Fin 128) : (C3 V d (Proc.devRef .tc main_v35) : S10x4096x128.Idx → EReal) (ix3 t r e)
    = if h : e.val < 64 then Net.emb (argX V) (argE V) (10 * 3 + t.val) r ⟨e.val, h⟩ else 0 := by
  have g : (C3 V d (Proc.devRef .tc main_v35) : S10x4096x128.Idx → EReal)
      = shapeCast S10x4096x128 (B3 V d (Proc.devRef .tc main_v34) : S40960x128.Idx → EReal) shapeCasts_S40960x128_S10x4096x128 := by
    unfold C3 ops7
    after_results
    rfl
  rw [g]
  have p : B3 V d (Proc.devRef .tc main_v34) = gath (A3 V d (Proc.devRef .tc main_v3)) (A3 V d (Proc.devRef .tc main_v33)) := put_self ..
  rw [p]
  exact rows_apply V d _ _ 3 (table3 V d) (idx3 V d) t r e

theorem h_at3 (r : Fin 4096) (j : Fin 256) : (C3 V d (Proc.devRef .tc main_v30) : S4096x256.Idx → EReal) (ix2 r j)
    = Net.hid (argX V) (argE V) (argA V) (argR V) (argB V) (argC V) (10 * 3) r j := by
  have e : C3 V d (Proc.devRef .tc main_v30) = D2 V d (Proc.devRef .tc main_v30) :=
    (after7 _ main_v30 (by decide)).trans ((put_other _ _ _ _ (by decide)).trans (after6 _ main_v30 (by decide)))
  exact (congrFun (e.trans (state2 V d)) _).trans rfl

theorem wh_at3 (k j : Fin 256) : (C3 V d (Proc.devRef .tc main_v36) : S256x256.Idx → EReal) (ix2 k j) = argR V (ix2 j k) := by
  have g : (C3 V d (Proc.devRef .tc main_v36) : S256x256.Idx → EReal)
      = transpose S256x256 [1, 0] (B3 V d (Proc.devRef .tc main_arg3) : S256x256.Idx → EReal) transposes_S256x256_S256x256_1_0 := by
    unfold C3 ops7
    after_results
  rw [g]
  exact whh_apply V _ ((fixedB3 V d main_arg3 (by decide)).trans (arg_first V d main_arg3 (by decide))) k j

/-- Call 3 finds what the network has before step 30. -/
theorem inputs3 : Inputs (argX V) (argE V) (argA V) (argR V) (argB V) (argC V) 3
    (C3 V d (Proc.devRef .tc main_v35)) (C3 V d (Proc.devRef .tc main_v30)) (C3 V d (Proc.devRef .tc main_v6))
    (C3 V d (Proc.devRef .tc main_v36)) (C3 V d (Proc.devRef .tc main_v8)) where
  xe := xe_at3 V d
  h := h_at3 V d
  wi e j := (congrFun (fixedC3 V d main_v6 (by decide)) _).trans (wih_apply V d e j)
  wh := wh_at3 V d
  b j := (congrFun (fixedC3 V d main_v8 (by decide)) _).trans (bias_apply V d j)

/-- After call 3 the hidden state is the network's after step 40. -/
theorem state3 : D3 V d (Proc.devRef .tc main_v37) = fun y : S4096x256.Idx =>
    Net.hid (argX V) (argE V) (argA V) (argR V) (argB V) (argC V) (10 * (3 + 1)) (y 0) (y 1) :=
  (put_self ..).trans (result7 (C3 V d) d (inputs3 V d))

theorem xe_at4 (t : Fin 10) (r : Fin 4096) (e : Fin 128) : (C4 V d (Proc.devRef .tc main_v42) : S10x4096x128.Idx → EReal) (ix3 t r e)
    = if h : e.val < 64 then Net.emb (argX V) (argE V) (10 * 4 + t.val) r ⟨e.val, h⟩ else 0 := by
  have g : (C4 V d (Proc.devRef .tc main_v42) : S10x4096x128.Idx → EReal)
      = shapeCast S10x4096x128 (B4 V d (Proc.devRef .tc main_v41) : S40960x128.Idx → EReal) shapeCasts_S40960x128_S10x4096x128 := by
    unfold C4 ops9
    after_results
    rfl
  rw [g]
  have p : B4 V d (Proc.devRef .tc main_v41) = gath (A4 V d (Proc.devRef .tc main_v3)) (A4 V d (Proc.devRef .tc main_v40)) := put_self ..
  rw [p]
  exact rows_apply V d _ _ 4 (table4 V d) (idx4 V d) t r e

theorem h_at4 (r : Fin 4096) (j : Fin 256) : (C4 V d (Proc.devRef .tc main_v37) : S4096x256.Idx → EReal) (ix2 r j)
    = Net.hid (argX V) (argE V) (argA V) (argR V) (argB V) (argC V) (10 * 4) r j := by
  have e : C4 V d (Proc.devRef .tc main_v37) = D3 V d (Proc.devRef .tc main_v37) :=
    (after9 _ main_v37 (by decide)).trans ((put_other _ _ _ _ (by decide)).trans (after8 _ main_v37 (by decide)))
  exact (congrFun (e.trans (state3 V d)) _).trans rfl

theorem wh_at4 (k j : Fin 256) : (C4 V d (Proc.devRef .tc main_v43) : S256x256.Idx → EReal) (ix2 k j) = argR V (ix2 j k) := by
  have g : (C4 V d (Proc.devRef .tc main_v43) : S256x256.Idx → EReal)
      = transpose S256x256 [1, 0] (B4 V d (Proc.devRef .tc main_arg3) : S256x256.Idx → EReal) transposes_S256x256_S256x256_1_0 := by
    unfold C4 ops9
    after_results
  rw [g]
  exact whh_apply V _ ((fixedB4 V d main_arg3 (by decide)).trans (arg_first V d main_arg3 (by decide))) k j

/-- Call 4 finds what the network has before step 40. -/
theorem inputs4 : Inputs (argX V) (argE V) (argA V) (argR V) (argB V) (argC V) 4
    (C4 V d (Proc.devRef .tc main_v42)) (C4 V d (Proc.devRef .tc main_v37)) (C4 V d (Proc.devRef .tc main_v6))
    (C4 V d (Proc.devRef .tc main_v43)) (C4 V d (Proc.devRef .tc main_v8)) where
  xe := xe_at4 V d
  h := h_at4 V d
  wi e j := (congrFun (fixedC4 V d main_v6 (by decide)) _).trans (wih_apply V d e j)
  wh := wh_at4 V d
  b j := (congrFun (fixedC4 V d main_v8 (by decide)) _).trans (bias_apply V d j)

theorem wo_at (k : Fin 256) (o : Fin 1000) : (C4 V d (Proc.devRef .tc main_v44) : S256x1000.Idx → EReal) (ix2 k o) = argW V (ix2 o k) := by
  have g : (C4 V d (Proc.devRef .tc main_v44) : S256x1000.Idx → EReal)
      = transpose S256x1000 [1, 0] (B4 V d (Proc.devRef .tc main_arg6) : S1000x256.Idx → EReal) transposes_S1000x256_S256x1000_1_0 := by
    unfold C4 ops9
    after_results
  rw [g]
  exact (transpose_ix2_apply _ _ _ _).trans
    (congrFun ((fixedB4 V d main_arg6 (by decide)).trans (arg_first V d main_arg6 (by decide))) _)

theorem bo_at (o : Fin 1000) : (C4 V d (Proc.devRef .tc main_v45) : S1x1000.Idx → EReal) (ix2 0 o) = argU V (ix1 o) := by
  have g : (C4 V d (Proc.devRef .tc main_v45) : S1x1000.Idx → EReal)
      = shapeCast S1x1000 (B4 V d (Proc.devRef .tc main_arg7) : S1000.Idx → EReal) shapeCasts_S1000_S1x1000 := by
    unfold C4 ops9
    after_results
    rfl
  rw [g]
  refine (shapeCast_apply _ _ _ (ix1 o) ?_).trans
    (congrFun ((fixedB4 V d main_arg7 (by decide)).trans (arg_first V d main_arg7 (by decide))) _)
  rw [Shape.rowMajor_val_two, Shape.rowMajor_val_one]
  show o.val = 0 * 1000 + o.val
  omega

/-- THE KERNEL'S RESULT is the network's output. -/
theorem kernel_value : D4 V d (Proc.devRef .tc main_v46) = fun y : S4096x1000.Idx =>
    Net.out (argX V) (argE V) (argA V) (argR V) (argB V) (argC V) (argW V) (argU V) (y 0) (y 1) :=
  (put_self ..).trans (result9 (C4 V d) d (inputs4 V d) (argW V) (argU V) (wo_at V d) (bo_at V d))

end Cert.KernelIdeal.Proof

end
-- ==== Proof.RefTake.lean ====
/-
  The reference's lookup: with every token the number of a table row, `take` is that row.
-/
module

public import proofs.«01_k».proof.Proof.Gen.ReferenceIdeal.Run
public import proofs.«01_k».proof.Proof.Spec
public import Idealize.ShloMosaic.Lib.Pipeline.Value
public import Idealize.ShloMosaic.Lib.IdealHost
public import Idealize.ShloMosaic.Lib.ReduceAll

@[expose] public section

noncomputable section

namespace Cert.ReferenceIdeal.Proof

open Cert.ReferenceIdeal Cert.ReferenceIdeal.Gen
open Idealize.ShloMosaic Idealize.ShloMosaic.ValueIdx
open Idealize.ShloMosaic.TcCoe
open Idealize.ShloMosaic.StableHlo

/-- A gathered row, read at an element: the row the start index names, clamped into the table. -/
theorem gather_apply {α : Type} (x : S100000x64.Idx → α) (i : IVec S4096x50x1 32) (r : Fin 4096) (t : Fin 50) (e : Fin 64) :
    Host.gather gather_S100000x64_S4096x50x1_S4096x50x64_2_0_n_n_0_2_164 x i (ix3 r t e)
      = x (ix2 ⟨min (i (ix3 r t (0 : Fin 1))).toInt.toNat 99999, by omega⟩ e) := by
  unfold Host.gather
  refine congrArg x (funext fun a => Fin.ext ?_)
  show (gather_S100000x64_S4096x50x1_S4096x50x64_2_0_n_n_0_2_164).start (ix3 r t e) i a
    + (gather_S100000x64_S4096x50x1_S4096x50x64_2_0_n_n_0_2_164).batchCoord (ix3 r t e) a
    + (gather_S100000x64_S4096x50x1_S4096x50x64_2_0_n_n_0_2_164).offCoord (ix3 r t e) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl : (0 : Fin 2) ∈ ([0] : List (Fin 2)))).trans ?_
    refine congrArg (fun q : S4096x50x1.Idx => min (i q).toInt.toNat 99999) (funext fun b => Fin.ext ?_)
    match b with
    | ⟨0, _⟩ => rfl
    | ⟨1, _⟩ => rfl
    | ⟨2, _⟩ => rfl
  | ⟨1, _⟩ =>
    unfold GatherDims.start
    refine (congrArg (· + _) (dif_neg (by decide : ¬ (1 : Fin 2) ∈ ([0] : List (Fin 2))))).trans ((Nat.zero_add _).trans ?_)
    rfl

/-- The indices after the wrap of negative ones, with a last axis of length one. -/
def wrapped (X : S4096x50.Idx → BitVec 32) : S4096x50x1.Idx → BitVec 32 :=
  broadcastInDim S4096x50x1 ![0, 1] bcast_S4096x50_S4096x50x1_0_1
    (select (cmpi .slt X (broadcastInDim S4096x50 ![] bcast_S_S4096x50 (constantI S_ 32 0#32)))
      (addi X (broadcastInDim S4096x50 ![] bcast_S_S4096x50 (constantI S_ 32 100000#32))) X)

/-- The mask of the indices in range, one word per row. -/
def inRange (X : S4096x50.Idx → BitVec 32) : S4096x50.Idx → BitVec 1 :=
  Host.reduce IntOp.andi
    (andi (cmpi .sge (wrapped X) (broadcastInDim S4096x50x1 ![] bcast_S_S4096x50x1 (constantI S_ 32 0#32)))
      (cmpi .sle (wrapped X) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

set_option maxRecDepth 100000 in
/-- The lookup as the program writes it. -/
theorem take_eq (V : Valuation τ sig (Elt Ideal)) :
    after hostOps0 V (Proc.devRef .tc main_v0)
      = select (broadcastInDim S4096x50x64 ![0, 1] bcast_S4096x50_S4096x50x64_0_1 (inRange (V (Proc.devRef .tc main_arg0))))
          (Host.gather gather_S100000x64_S4096x50x1_S4096x50x64_2_0_n_n_0_2_164 (V (Proc.devRef .tc main_arg1)) (wrapped (V (Proc.devRef .tc main_arg0))))
          (broadcastInDim S4096x50x64 ![] bcast_S_S4096x50x64 (constant (F := Ideal) S_ .f32 0x7FC00000#32)) := by
  unfold inRange wrapped
  after_results
  simp -implicitDefEqProofs only [StableHlo.TRef.ofBuf_toBuf, StableHlo.TRef.toBuf, StableHlo.TRef.ofBuf, cast_eq]

/-- Where the mask is one, a selection is its first array. -/
theorem select_one {α : Type} {s : Shape} (m : IVec s 1) (a b : s.Idx → α) (j : s.Idx) (h : m j = 1#1) : select m a b j = a j :=
  if_pos h

/-- A small word is not negative. -/
theorem toInt_small (w : BitVec 32) (h : w.toNat < 100000) : w.toInt = (w.toNat : Int) := by
  rw [BitVec.toInt_eq_toNat_cond]
  split <;> omega

variable (X : S4096x50.Idx → BitVec 32) (hX : ∀ y, (X y).toNat < 100000)

include hX in
/-- No index is wrapped. -/
theorem wrapped_apply (r : Fin 4096) (t : Fin 50) (z : Fin 1) : wrapped X (ix3 r t z) = X (ix2 r t) := by
  unfold wrapped
  refine (broadcastInDim_apply _ bcast_S4096x50_S4096x50x1_0_1 _ _ (ix2 r t) fun a => ?_).trans ?_
  · match a with
    | ⟨0, _⟩ => rfl
    | ⟨1, _⟩ => rfl
  · show (if IntOp.cmpi .slt (X (ix2 r t)) 0#32 = 1#1 then _ else X (ix2 r t)) = X (ix2 r t)
    rw [if_neg]
    show ¬ BitVec.ofBool (BitVec.slt (X (ix2 r t)) 0#32) = 1#1
    have e : BitVec.slt (X (ix2 r t)) 0#32 = false := by
      rw [BitVec.slt_eq_decide, toInt_small _ (hX _)]
      have z : (0#32).toInt = 0 := rfl
      rw [z]
      exact decide_eq_false (by omega)
    rw [e]
    decide

include hX in
/-- Every index is in range. -/
theorem inRange_apply (j : S4096x50.Idx) : inRange X j = 1#1 := by
  unfold inRange
  refine Host.reduce_andi_one _ _ _ _ _ rfl fun i => ?_
  obtain ⟨r, t, z, rfl⟩ : ∃ (r : Fin 4096) (t : Fin 50) (z : Fin 1), i = ix3 r t z := ⟨i 0, i 1, i 2, (eq_ix3 i)⟩
  show IntOp.andi (BitVec.ofBool (BitVec.sle 0#32 (wrapped X (ix3 r t z)))) (BitVec.ofBool (BitVec.sle (wrapped X (ix3 r t z)) 99999#32)) = 1#1
  rw [wrapped_apply X hX]
  have h := hX (ix2 r t)
  have e1 : BitVec.sle 0#32 (X (ix2 r t)) = true := by
    rw [BitVec.sle_eq_decide, toInt_small _ h]
    have z : (0#32).toInt = 0 := rfl
    rw [z]
    exact decide_eq_true (by omega)
  have e2 : BitVec.sle (X (ix2 r t)) 99999#32 = true := by
    rw [BitVec.sle_eq_decide, toInt_small _ h]
    have z : (99999#32).toInt = 99999 := rfl
    rw [z]
    exact decide_eq_true (by omega)
  rw [e1, e2]
  decide

include hX in
/-- The lookup is the row that the token names. -/
theorem take_apply (V : Valuation τ sig (Elt Ideal)) (hV : V (Proc.devRef .tc main_arg0) = X) (r : Fin 4096) (t : Fin 50) (e : Fin 64) :
    (after hostOps0 V (Proc.devRef .tc main_v0) : S4096x50x64.Idx → EReal) (ix3 r t e)
      = (V (Proc.devRef .tc main_arg1) : S100000x64.Idx → EReal) (ix2 ⟨min (X (ix2 r t)).toNat 99999, by omega⟩ e) := by
  rw [take_eq, hV]
  have hm : broadcastInDim S4096x50x64 ![0, 1] bcast_S4096x50_S4096x50x64_0_1 (inRange X) (ix3 r t e) = 1#1 := inRange_apply X hX _
  refine (select_one _ _ _ _ hm).trans ((gather_apply _ _ r t e).trans ?_)
  refine congrArg (fun q : Fin 100000 => (V (Proc.devRef .tc main_arg1) : S100000x64.Idx → EReal) (ix2 q e)) (Fin.ext (congrArg (min · 99999) ?_))
  rw [wrapped_apply X hX, toInt_small _ (hX _), Int.toNat_natCast]

end Cert.ReferenceIdeal.Proof

end
-- ==== Proof.RefSteps.lean ====
/-
  The reference's loop: after `k` trips the carried state is the network's hidden state after `k` steps, and the result
  is the network's output.
-/
module

public import proofs.«01_k».proof.Proof.RefTake
public import Idealize.ShloMosaic.Lib.DynamicIndex
public import Idealize.ShloMosaic.Lib.KernelVsHost
public import Idealize.ShloMosaic.Lib.StackMember
public import Idealize.ShloMosaic.Lib.ValueLayout

@[expose] public section

noncomputable section

namespace Cert.ReferenceIdeal.Proof

open Cert.ReferenceIdeal Cert.ReferenceIdeal.Gen Cert.ReferenceIdeal.Value
open Idealize.ShloMosaic Idealize.ShloMosaic.ValueIdx
open Idealize.ShloMosaic.TcCoe
open Idealize.ShloMosaic.StableHlo
open scoped BigOperators

/-- One time step's rows, cut out of the embedded tokens. -/
theorem slice_apply (xs : S50x4096x64.Idx → EReal) (n : S_.Idx → BitVec 32) (k : Fin 50) (hn : n = fun _ => BitVec.ofNat 32 k.val)
    (r : Fin 4096) (e : Fin 64) :
    shapeCast S4096x64 (Host.dynamicSlice S1x4096x64 xs
      (fun a => (((![n, constantI S_ 32 0#32, constantI S_ 32 0#32] : Fin 3 → (⟨S_, .i32⟩ : BufTy).Contents (Elt Ideal))) a (Shape.Idx.first h_S_)).toInt)
      sliceFits_S50x4096x64_S1x4096x64) shapeCasts_S1x4096x64_S4096x64 (ix2 r e) = xs (ix3 k r e) := by
  have hk := k.isLt
  refine (shapeCast_1ab_ab_apply _ _ r e).trans ?_
  rw [Host.dynamicSlice_eq_extractStridedSlice (s := S50x4096x64) S1x4096x64 xs _ ![k.val, 0, 0] _
    ⟨rfl, fun a => match a with
      | ⟨0, _⟩ => (by show k.val + 1 ≤ 50; omega)
      | ⟨1, _⟩ => (by show 0 + 4096 ≤ 4096; omega)
      | ⟨2, _⟩ => (by show 0 + 64 ≤ 64; omega)⟩
    (fun a => match a with
      | ⟨0, _⟩ => (by
          show (n (Shape.Idx.first h_S_)).toInt = (k.val : Int)
          rw [hn]
          exact toInt_ofNat_of_lt (by omega))
      | ⟨1, _⟩ => rfl
      | ⟨2, _⟩ => rfl)]
  exact extractStridedSlice_apply _ _ _ _ _ fun a => match a with
    | ⟨0, _⟩ => rfl
    | ⟨1, _⟩ => (Nat.zero_add _).symm
    | ⟨2, _⟩ => (Nat.zero_add _).symm

/-- A bias row, broadcast over the batch. -/
theorem bias_apply {n : ℕ} (h₁ : (⟨1, ![n]⟩ : Shape).BroadcastsInDim ⟨2, ![1, n]⟩ ![1])
    (h₂ : (⟨2, ![1, n]⟩ : Shape).BroadcastsInDim ⟨2, ![4096, n]⟩ ![0, 1]) (hn : n ≠ 1) (b : (⟨1, ![n]⟩ : Shape).Idx → EReal)
    (r : Fin 4096) (j : Fin n) :
    broadcastInDim ⟨2, ![4096, n]⟩ ![0, 1] h₂ (broadcastInDim ⟨2, ![1, n]⟩ ![1] h₁ b) (ix2 r j) = b (ix1 j) := by
  refine (broadcastInDim_oneRow_apply h₂ _ r j).trans (broadcastInDim_apply _ h₁ b _ (ix1 j) fun a => ?_)
  match a with
  | ⟨0, _⟩ => exact (if_neg hn).symm

/-- A product with a transposed weight matrix. -/
theorem product_apply {k n : ℕ} (h : (⟨2, ![n, k]⟩ : Shape).Transposes [1, 0] ⟨2, ![k, n]⟩)
    (x : FVec Ideal ⟨2, ![4096, k]⟩ .f32) (w : FVec Ideal ⟨2, ![n, k]⟩ .f32) (r : Fin 4096) (j : Fin n) :
    Host.dotGeneral (DotDims.plain 4096 k n) none x (transpose ⟨2, ![k, n]⟩ [1, 0] w h) (ix2 r j)
      = ∑ c : Fin k, x (ix2 r c) * w (ix2 j c) := by
  refine (StackMember.dotGeneral_plain_apply none x _ r j).trans (Finset.sum_congr rfl fun c _ => ?_)
  rw [transpose_ix2_apply]

/-- A sum of products with equal left factors. -/
theorem sum_left {n : ℕ} (f g w : Fin n → EReal) (h : ∀ i, f i = g i) : ∑ i, f i * w i = ∑ i, g i * w i :=
  Finset.sum_congr rfl fun i _ => congrArg (· * w i) (h i)

section
variable (X : S4096x50.Idx → BitVec 32) (E : S100000x64.Idx → EReal) (A : S256x64.Idx → EReal) (R : S256x256.Idx → EReal)
  (b c : S256.Idx → EReal)

/-- The loop's buffers before trip `k`. -/
structure Before (V : Valuation τ sig (Elt Ideal)) (k : ℕ) : Prop where
  xs : ∀ (t : Fin 50) (r : Fin 4096) (e : Fin 64), (V (Proc.devRef .tc main_v3_0) : S50x4096x64.Idx → EReal) (ix3 t r e) = Net.emb X E t.val r e
  wi : (V (Proc.devRef .tc main_v3_1) : S256x64.Idx → EReal) = A
  bi : (V (Proc.devRef .tc main_v3_2) : S256.Idx → EReal) = b
  wh : (V (Proc.devRef .tc main_v3_3) : S256x256.Idx → EReal) = R
  bh : (V (Proc.devRef .tc main_v3_4) : S256.Idx → EReal) = c
  ctr : (V (Proc.devRef .tc main_v3_5) : S_.Idx → BitVec 32) = fun _ => BitVec.ofNat 32 k
  st : ∀ (r : Fin 4096) (j : Fin 256), (V (Proc.devRef .tc main_v3_6) : S4096x256.Idx → EReal) (ix2 r j) = Net.hid X E A R b c k r j

variable {X E A R b c}

/-- One trip is one step of the network. -/
theorem step_state (V : Valuation τ sig (Elt Ideal)) (k : ℕ) (hk : k < 50) (h : Before X E A R b c V k) (r : Fin 4096) (j : Fin 256) :
    (step_main_v3_6 V : S4096x256.Idx → EReal) (ix2 r j) = Net.hid X E A R b c (k + 1) r j := by
  unfold step_main_v3_6
  show Ideal.tanh (((Host.dotGeneral (F := Ideal) (φ₁ := .f32) (φ₂ := .f32) (DotDims.plain 4096 64 256) none _ (transpose _ [1, 0] _ _) (ix2 r j) : EReal)
      + (broadcastInDim ⟨2, ![4096, 256]⟩ ![0, 1] _ (broadcastInDim (s := S256) ⟨2, ![1, 256]⟩ ![1] _ _) (ix2 r j) : EReal)
      + (Host.dotGeneral (F := Ideal) (φ₁ := .f32) (φ₂ := .f32) (DotDims.plain 4096 256 256) none _ (transpose _ [1, 0] _ _) (ix2 r j) : EReal))
      + (broadcastInDim ⟨2, ![4096, 256]⟩ ![0, 1] _ (broadcastInDim (s := S256) ⟨2, ![1, 256]⟩ ![1] _ _) (ix2 r j) : EReal)) = _
  rw [bias_apply _ _ (by decide), bias_apply _ _ (by decide), product_apply, product_apply, h.wi, h.bi, h.wh, h.bh]
  refine congrArg Ideal.tanh ?_
  refine (congrArg₂ (fun p q : EReal => ((p + b (ix1 j)) + q) + c (ix1 j))
    (sum_left _ (fun e => Net.emb X E k r e) _ fun e => (slice_apply _ _ ⟨k, hk⟩ h.ctr r e).trans (h.xs ⟨k, hk⟩ r e))
    (sum_left _ (fun q => Net.hid X E A R b c k r q) _ fun q => h.st r q)).trans ?_
  show _ + b (ix1 j) + _ + c (ix1 j) = (_ + (b (ix1 j) + c (ix1 j))) + _
  rw [add_right_comm, add_assoc _ (b (ix1 j)) (c (ix1 j))]

/-- What holds before trip `k` holds, one step on, before trip `k + 1`. -/
theorem Before.step {V : Valuation τ sig (Elt Ideal)} {k : ℕ} (hk : k < 50) (h : Before X E A R b c V k) : Before X E A R b c (STEP V) (k + 1) where
  xs t r e := (congrFun (STEP_main_v3_0 V) (ix3 t r e)).trans (h.xs t r e)
  wi := (STEP_main_v3_1 V).trans h.wi
  bi := (STEP_main_v3_2 V).trans h.bi
  wh := (STEP_main_v3_3 V).trans h.wh
  bh := (STEP_main_v3_4 V).trans h.bh
  ctr := by
    rw [STEP_main_v3_5]
    unfold step_main_v3_5
    rw [h.ctr]
    funext i
    show BitVec.ofNat 32 k + 1#32 = BitVec.ofNat 32 (k + 1)
    rw [BitVec.ofNat_add]
  st r j := (congrFun (STEP_main_v3_6 V) (ix2 r j)).trans (step_state V k hk h r j)

/-- After `k` of the fifty trips. -/
theorem Before.steps {V : Valuation τ sig (Elt Ideal)} (h : Before X E A R b c V 0) : ∀ k, k ≤ 50 → Before X E A R b c (STEP^[k] V) k
  | 0, _ => h
  | k + 1, hk => by
    rw [Function.iterate_succ_apply']
    exact (Before.steps h k (by omega)).step (by omega)

/-- The output layer, after the last trip. -/
theorem out_apply (V : Valuation τ sig (Elt Ideal)) (h : Before X E A R b c V 50) (r : Fin 4096) (o : Fin 1000) :
    (out_main_v8 V : S4096x1000.Idx → EReal) (ix2 r o)
      = Net.out X E A R b c (V (Proc.devRef .tc main_arg6)) (V (Proc.devRef .tc main_arg7)) r o := by
  unfold out_main_v8
  show ((Host.dotGeneral (F := Ideal) (φ₁ := .f32) (φ₂ := .f32) (DotDims.plain 4096 256 1000) none _ (transpose _ [1, 0] _ _) (ix2 r o) : EReal)
      + (broadcastInDim ⟨2, ![4096, 1000]⟩ ![0, 1] _ (broadcastInDim (s := S1000) ⟨2, ![1, 1000]⟩ ![1] _ _) (ix2 r o) : EReal)) = _
  rw [bias_apply _ _ (by decide), product_apply]
  exact congrArg (fun p : EReal => p + _) (sum_left _ (fun q => Net.hid X E A R b c 50 r q) _ fun q => h.st r q)

end

end Cert.ReferenceIdeal.Proof

end
-- ==== Proof.RefValue.lean ====
/-
  The reference's result is the network's output on its arguments.
-/
module

public import proofs.«01_k».proof.Proof.RefSteps

@[expose] public section

noncomputable section

namespace Cert.ReferenceIdeal.Proof

open Cert.ReferenceIdeal Cert.ReferenceIdeal.Gen Cert.ReferenceIdeal.Value
open Idealize.ShloMosaic Idealize.ShloMosaic.ValueIdx
open Idealize.ShloMosaic.TcCoe
open Idealize.ShloMosaic.StableHlo

/-- A splat of zero, broadcast, is zero everywhere. -/
theorem zeros_apply {T : Shape} (h : (⟨0, ![]⟩ : Shape).BroadcastsInDim T ![]) (j : T.Idx) :
    (broadcastInDim T ![] h (constant (F := Ideal) S_ .f32 0x00000000#32) j : EReal) = 0 :=
  (broadcastInDim_scalar_apply h _ j).trans Ideal.ofBits_zero_f32

section
variable (W : Valuation τ sig (Elt Ideal))

theorem pre_xs : after hostOps0_1 W (Proc.devRef .tc main_v3_0)
    = transpose S50x4096x64 [1, 0, 2] (W (Proc.devRef .tc main_v0)) transposes_S4096x50x64_S50x4096x64_1_0_2 := by
  after_results
  rfl
theorem pre_wi : after hostOps0_1 W (Proc.devRef .tc main_v3_1) = W (Proc.devRef .tc main_arg2) := by
  after_results
  rfl
theorem pre_bi : after hostOps0_1 W (Proc.devRef .tc main_v3_2) = W (Proc.devRef .tc main_arg4) := by
  after_results
  rfl
theorem pre_wh : after hostOps0_1 W (Proc.devRef .tc main_v3_3) = W (Proc.devRef .tc main_arg3) := by
  after_results
  rfl
theorem pre_bh : after hostOps0_1 W (Proc.devRef .tc main_v3_4) = W (Proc.devRef .tc main_arg5) := by
  after_results
  rfl
theorem pre_ctr : after hostOps0_1 W (Proc.devRef .tc main_v3_5) = constantI S_ 32 0#32 := by
  after_results
  rfl
theorem pre_st : after hostOps0_1 W (Proc.devRef .tc main_v3_6)
    = broadcastInDim S4096x256 ![] bcast_S_S4096x256 (constant (F := Ideal) S_ .f32 0x00000000#32) := by
  after_results
  rfl

end

variable (m : (ℓ : Loc nD τ sig) → Buf (Elt Ideal) ℓ) (c : Dev nD)

/-- An argument's contents at the launch. -/
abbrev arg (b : Ref sig .tc) : (Proc.devRef .tc b : DevRef τ sig).ty.Contents (Elt Ideal) := launchContents m c (Proc.devRef .tc b)

/-- The loop's buffers at its entry. -/
theorem entry (hX : ∀ y : S4096x50.Idx, ((arg m c main_arg0 : S4096x50.Idx → BitVec 32) y).toNat < 100000) :
    Before (arg m c main_arg0) (arg m c main_arg1) (arg m c main_arg2) (arg m c main_arg3) (arg m c main_arg4) (arg m c main_arg5)
      (entryContents preI m c) 0 where
  xs t r e := by
    refine (congrFun (pre_xs (after hostOps0 (launchContents m c))) (ix3 t r e)).trans ?_
    refine (transpose_apply _ _ _ _ (ix3 r t e) fun a => match a with
      | ⟨0, _⟩ => rfl
      | ⟨1, _⟩ => rfl
      | ⟨2, _⟩ => rfl).trans ?_
    refine (take_apply _ hX (launchContents m c) rfl r t e).trans ?_
    have ht := t.isLt
    have et : t = (⟨min t.val 49, by omega⟩ : Fin 50) := Fin.ext (by show t.val = min t.val 49; omega)
    exact congrArg (fun q : Fin 100000 => (arg m c main_arg1 : S100000x64.Idx → EReal) (ix2 q e))
      (Fin.ext (congrArg (fun s : Fin 50 => min ((arg m c main_arg0 : S4096x50.Idx → BitVec 32) (ix2 r s)).toNat 99999) et))
  wi := (pre_wi _).trans (keep_main_arg2_hostOps0 _)
  bi := (pre_bi _).trans (keep_main_arg4_hostOps0 _)
  wh := (pre_wh _).trans (keep_main_arg3_hostOps0 _)
  bh := (pre_bh _).trans (keep_main_arg5_hostOps0 _)
  ctr := pre_ctr _
  st r j := (congrFun (pre_st (after hostOps0 (launchContents m c))) (ix2 r j)).trans (zeros_apply _ _)

/-- The reference's result. -/
theorem reference_value (hX : ∀ y : S4096x50.Idx, ((arg m c main_arg0 : S4096x50.Idx → BitVec 32) y).toNat < 100000) :
    out_main_v8 (STEP^[50] (entryContents preI m c)) = fun y : S4096x1000.Idx =>
      Net.out (arg m c main_arg0) (arg m c main_arg1) (arg m c main_arg2) (arg m c main_arg3) (arg m c main_arg4) (arg m c main_arg5)
        (arg m c main_arg6) (arg m c main_arg7) (y 0) (y 1) := by
  funext y
  obtain ⟨r, o, rfl⟩ : ∃ (r : Fin 4096) (o : Fin 1000), y = ix2 r o := ⟨y 0, y 1, eq_ix2 y⟩
  refine (out_apply _ ((entry m c hX).steps 50 (le_refl _)) r o).trans ?_
  rw [iter_main_arg6 m c 50, iter_main_arg7 m c 50]

end Cert.ReferenceIdeal.Proof

end
-- ==== Proof.Equation.lean ====
/-
  The kernel and the reference compute the same function over the extended reals: both results are the network's output.
-/
module

public import proofs.«01_k».proof.Proof.Frames
public import proofs.«01_k».proof.Proof.HostVals
public import proofs.«01_k».proof.Proof.RefValue

@[expose] public section

noncomputable section

namespace Cert.KernelIdeal.Proof

open Cert.KernelIdeal.Gen
open Idealize.ShloMosaic Idealize.ShloMosaic.ValueIdx
open Idealize.ShloMosaic.TcCoe
open Idealize.ShloMosaic.StableHlo Idealize.SL.Sem

/-- The frame of the reference under the precondition. -/
theorem frame_reference_pre : Cert.quiescent_ReferenceIdeal_pre_pre := fun m g _ => frame_reference m g trivial

/-- The two results agree, the arguments being equal and every token the number of a table row. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hX : ∀ y, (argX (launchV m c) y).toNat < 100000)
    (e0 : Cert.ReferenceIdeal.Proof.arg m' c Cert.ReferenceIdeal.main_arg0 = argX (launchV m c))
    (e1 : Cert.ReferenceIdeal.Proof.arg m' c Cert.ReferenceIdeal.main_arg1 = argE (launchV m c))
    (e2 : Cert.ReferenceIdeal.Proof.arg m' c Cert.ReferenceIdeal.main_arg2 = argA (launchV m c))
    (e3 : Cert.ReferenceIdeal.Proof.arg m' c Cert.ReferenceIdeal.main_arg3 = argR (launchV m c))
    (e4 : Cert.ReferenceIdeal.Proof.arg m' c Cert.ReferenceIdeal.main_arg4 = argB (launchV m c))
    (e5 : Cert.ReferenceIdeal.Proof.arg m' c Cert.ReferenceIdeal.main_arg5 = argC (launchV m c))
    (e6 : Cert.ReferenceIdeal.Proof.arg m' c Cert.ReferenceIdeal.main_arg6 = argW (launchV m c))
    (e7 : Cert.ReferenceIdeal.Proof.arg m' c Cert.ReferenceIdeal.main_arg7 = argU (launchV m c)) :
    (Cert.ReferenceIdeal.Value.out_main_v8 (Cert.ReferenceIdeal.Value.STEP^[50]
      (entryContents Cert.ReferenceIdeal.Value.preI m' c)) : S4096x1000.Idx → EReal) = D4 (launchV m c) c (Proc.devRef .tc main_v46) := by
  refine (Cert.ReferenceIdeal.Proof.reference_value m' c (fun y => by rw [e0]; exact hX y)).trans ?_
  rw [e0, e1, e2, e3, e4, e5, e6, e7]
  exact (kernel_value (launchV m c) c).symm

/-- The kernel computes what the reference computes. -/
theorem equation : Cert.algebraic_KernelIdeal_ReferenceIdeal := fun m g m' g' h hargs => by
  refine ⟨fun c => D4 (launchV m c) c (Proc.devRef .tc main_v46), ?_, ?_⟩
  · exact (θ_run Cert.KernelIdeal.defs _ _).mono
      (fun r e c => ⟨e.1 c _ (mem_uc rfl), args_end m r.2.mem e.1 c⟩) (run_ideal m g h)
  · refine (θ_run Cert.ReferenceIdeal.defs _ _).mono (fun r e c => ⟨(e c).1.trans ?_, (e c).2⟩) (Cert.ReferenceIdeal.Value.run m' g')
    obtain ⟨e0, e1, e2, e3, e4, e5, e6, e7⟩ := hargs c
    exact results_eq m m' c (fun y => tok_lt _ _ _ _ _ _ _ _ (h c) y) e0 e1 e2 e3 e4 e5 e6 e7

end Cert.KernelIdeal.Proof

end
-- ==== Proof.lean ====
/-
  The certificate: the claims about the kernel, its ideal program and the reference, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_pre.Gen.facts,
    Cert.KernelIdeal.Proof.frame_kernel,
    Cert.KernelIdeal.Proof.frame_ideal,
    Cert.KernelIdeal.Proof.frame_reference,
    Cert.KernelIdeal.Proof.frame_reference_pre,
    trivial,
    Cert.KernelIdeal.Proof.equation⟩

end Cert.Proof

end
